-- ==== Defs.lean ====
def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v430) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_bounded : Cert.Pre_bounded.Facts),
    quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ algebraic_KernelIdeal_ReferenceIdeal_pre_bounded (hKernelIdeal := hKernelIdeal) (hReferenceIdeal := hReferenceIdeal) (hPre_bounded := hPre_bounded)
-- ==== Pre_bounded.lean ====
abbrev S16x1x64x64 : Shape := ⟨4, ![16, 1, 64, 64]⟩
abbrev S6x1x64x64 : Shape := ⟨4, ![6, 1, 64, 64]⟩
abbrev S1x1x64x64 : Shape := ⟨4, ![1, 1, 64, 64]⟩
abbrev S_ : Shape := ⟨0, ![]⟩

class Facts : Prop where
  bcast_S_S16x1x64x64 : S_.BroadcastsInDim S16x1x64x64 (![] : Fin 0 → Fin S16x1x64x64.rank)
  reducesTo_S16x1x64x64_S_d0_1_2_3 : S16x1x64x64.ReducesTo [0, 1, 2, 3] S_
  h_S_ : 0 < S_.numel
  bcast_S_S6x1x64x64 : S_.BroadcastsInDim S6x1x64x64 (![] : Fin 0 → Fin S6x1x64x64.rank)
  reducesTo_S6x1x64x64_S_d0_1_2_3 : S6x1x64x64.ReducesTo [0, 1, 2, 3] S_
  bcast_S_S1x1x64x64 : S_.BroadcastsInDim S1x1x64x64 (![] : Fin 0 → Fin S1x1x64x64.rank)
  reducesTo_S1x1x64x64_S_d0_1_2_3 : S1x1x64x64.ReducesTo [0, 1, 2, 3] S_

variable [Facts]

def fn {F : FTy → Type} [FloatOps F] (main_arg0 : FVec F S16x1x64x64 .f32) (main_arg1 : FVec F S6x1x64x64 .f32) (main_arg2 : FVec F S1x1x64x64 .f32) : IVec S_ 1 :=
  let main_v0 : FVec F S16x1x64x64 .f32 := Host.absf main_arg0
  let main_cst : FVec F S_ .f32 := constant S_ .f32 0x45800000#32
  let main_v1 : FVec F S16x1x64x64 .f32 := broadcastInDim S16x1x64x64 ![] bcast_S_S16x1x64x64 main_cst
  let main_v2 : IVec S16x1x64x64 1 := cmpf .ole main_v0 main_v1
  let main_c : IVec S_ 1 := constantI S_ 1 1#1
  let main_v3 : IVec S_ 1 := (fun x v => Host.reduce IntOp.andi x v reducesTo_S16x1x64x64_S_d0_1_2_3 h_S_) main_v2 main_c
  let main_v4 : FVec F S6x1x64x64 .f32 := Host.absf main_arg1
  let main_cst_0 : FVec F S_ .f32 := constant S_ .f32 0x45800000#32
  let main_v5 : FVec F S6x1x64x64 .f32 := broadcastInDim S6x1x64x64 ![] bcast_S_S6x1x64x64 main_cst_0
  let main_v6 : IVec S6x1x64x64 1 := cmpf .ole main_v4 main_v5
  let main_c_1 : IVec S_ 1 := constantI S_ 1 1#1
  let main_v7 : IVec S_ 1 := (fun x v => Host.reduce IntOp.andi x v reducesTo_S6x1x64x64_S_d0_1_2_3 h_S_) main_v6 main_c_1
  let main_v8 : IVec S_ 1 := andi main_v3 main_v7
  let main_v9 : FVec F S1x1x64x64 .f32 := Host.absf main_arg2
  let main_cst_2 : FVec F S_ .f32 := constant S_ .f32 0x45800000#32
  let main_v10 : FVec F S1x1x64x64 .f32 := broadcastInDim S1x1x64x64 ![] bcast_S_S1x1x64x64 main_cst_2
  let main_v11 : IVec S1x1x64x64 1 := cmpf .ole main_v9 main_v10
  let main_c_3 : IVec S_ 1 := constantI S_ 1 1#1
  let main_v12 : IVec S_ 1 := (fun x v => Host.reduce IntOp.andi x v reducesTo_S1x1x64x64_S_d0_1_2_3 h_S_) main_v11 main_c_3
  let main_v13 : IVec S_ 1 := andi main_v8 main_v12
  main_v13
-- ==== KernelIdeal.lean ====
abbrev S16x1x64x64 : Shape := ⟨4, ![16, 1, 64, 64]⟩
abbrev S6x1x64x64 : Shape := ⟨4, ![6, 1, 64, 64]⟩
abbrev S1x1x64x64 : Shape := ⟨4, ![1, 1, 64, 64]⟩
abbrev S64x64 : Shape := ⟨2, ![64, 64]⟩
abbrev S16x64x64 : Shape := ⟨3, ![16, 64, 64]⟩
abbrev S6x64x64 : Shape := ⟨3, ![6, 64, 64]⟩
abbrev S96x4 : Shape := ⟨2, ![96, 4]⟩
abbrev S22x64x64 : Shape := ⟨3, ![22, 64, 64]⟩
abbrev S1408x64 : Shape := ⟨2, ![1408, 64]⟩
abbrev S64x22x64 : Shape := ⟨3, ![64, 22, 64]⟩
abbrev S64x1408 : Shape := ⟨2, ![64, 1408]⟩
abbrev S128x1408 : Shape := ⟨2, ![128, 1408]⟩
abbrev S64x128 : Shape := ⟨2, ![64, 128]⟩
abbrev S64x1024 : Shape := ⟨2, ![64, 1024]⟩
abbrev S64x384 : Shape := ⟨2, ![64, 384]⟩
abbrev S64x16x1x64 : Shape := ⟨4, ![64, 16, 1, 64]⟩
abbrev S64x16x6x64 : Shape := ⟨4, ![64, 16, 6, 64]⟩
abbrev S64x6144 : Shape := ⟨2, ![64, 6144]⟩
abbrev S64x1x6x64 : Shape := ⟨4, ![64, 1, 6, 64]⟩
abbrev S128x6144 : Shape := ⟨2, ![128, 6144]⟩
abbrev S64x96x64 : Shape := ⟨3, ![64, 96, 64]⟩
abbrev S96x64x64 : Shape := ⟨3, ![96, 64, 64]⟩
abbrev S6144x64 : Shape := ⟨2, ![6144, 64]⟩
abbrev S6144x128 : Shape := ⟨2, ![6144, 128]⟩
abbrev S128x64 : Shape := ⟨2, ![128, 64]⟩
abbrev S1x64x64 : Shape := ⟨3, ![1, 64, 64]⟩
abbrev S96 : Shape := ⟨1, ![96]⟩
abbrev S96x1x1 : Shape := ⟨3, ![96, 1, 1]⟩
abbrev S96x1 : Shape := ⟨2, ![96, 1]⟩
abbrev S16x25x64x64 : Shape := ⟨4, ![16, 25, 64, 64]⟩
abbrev S1x1 : Shape := ⟨2, ![1, 1]⟩
abbrev S16x25 : Shape := ⟨2, ![16, 25]⟩
abbrev S16 : Shape := ⟨1, ![16]⟩
abbrev S16x1 : Shape := ⟨2, ![16, 1]⟩

abbrev nBuf : Space → Nat
  | .hbm => 11
  | .vmem => 10
  | .smem => 1
  | _ => 0

abbrev bufTy : (tb : Table) → Fin (tcTables nBuf tb) → BufTy
  | .hbm, ⟨0, _⟩ => ⟨S16x1x64x64, .f32⟩
  | .hbm, ⟨1, _⟩ => ⟨S6x1x64x64, .f32⟩
  | .hbm, ⟨2, _⟩ => ⟨S1x1x64x64, .f32⟩
  | .hbm, ⟨3, _⟩ => ⟨S64x64, .f32⟩
  | .hbm, ⟨4, _⟩ => ⟨S64x64, .f32⟩
  | .hbm, ⟨5, _⟩ => ⟨S16x64x64, .f32⟩
  | .hbm, ⟨6, _⟩ => ⟨S6x64x64, .f32⟩
  | .hbm, ⟨7, _⟩ => ⟨S64x64, .f32⟩
  | .hbm, ⟨8, _⟩ => ⟨S96x4, .i32⟩
  | .hbm, ⟨9, _⟩ => ⟨S16x64x64, .f32⟩
  | .hbm, ⟨10, _⟩ => ⟨S16x1x64x64, .f32⟩
  | .local _ .vmem, ⟨0, _⟩ => ⟨S16x64x64, .f32⟩
  | .local _ .vmem, ⟨1, _⟩ => ⟨S6x64x64, .f32⟩
  | .local _ .vmem, ⟨2, _⟩ => ⟨S64x64, .f32⟩
  | .local _ .vmem, ⟨3, _⟩ => ⟨S64x64, .f32⟩
  | .local _ .vmem, ⟨4, _⟩ => ⟨S96x4, .i32⟩
  | .local _ .vmem, ⟨5, _⟩ => ⟨S16x64x64, .f32⟩
  | .local _ .vmem, ⟨6, _⟩ => ⟨S6x64x64, .f32⟩
  | .local _ .vmem, ⟨7, _⟩ => ⟨S64x64, .f32⟩
  | .local _ .vmem, ⟨8, _⟩ => ⟨S16x64x64, .f32⟩
  | .local _ .vmem, ⟨9, _⟩ => ⟨S16x25x64x64, .f32⟩
  | .local _ .smem, ⟨0, _⟩ => ⟨S96x4, .i32⟩
  | _, _ => ⟨S16x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_scratch0 : Ref sig .tc := ⟨.vmem, 9, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9

abbrev nD : Nat := 1
abbrev τ : Topo := Topo.v7x

variable {F : FTy → Type} [FloatOps F]

abbrev grid0 : Pipeline.Grid := .none

abbrev stage0_0 : Fin 1 → Memref sig .tc .vmem S16x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x4 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

def k1_off1 (v12732 : BitVec 32) : Fin 4 → Nat :=
  let c0_7237 : Index := 0#32
  let v12733 : Index := Scalar.indexCast v12732
  let c0_7238 : Index := 0#32
  let c0_7239 : Index := 0#32
  ![0, v12733.toNat, 0, 0]

def k1_chk1 (v12732 : BitVec 32) : Prop :=
  (∀ a, (k1_off1 v12732) a + S1x1x64x64.size a ≤ S16x25x64x64.size a)
theorem k1_off1_inb : ∀ (v12732 : BitVec 32) (k1_hw1 : k1_chk1 v12732), ∀ a, (k1_off1 v12732) a + S1x1x64x64.size a ≤ S16x25x64x64.size a := fun v12732 k1_hw1 => k1_hw1

def k1_off2 (v12738 : BitVec 32) : Fin 4 → Nat :=
  let c1_7240 : Index := 1#32
  let v12739 : Index := Scalar.indexCast v12738
  let c0_7241 : Index := 0#32
  let c0_7242 : Index := 0#32
  ![1, v12739.toNat, 0, 0]

def k1_chk2 (v12738 : BitVec 32) : Prop :=
  (∀ a, (k1_off2 v12738) a + S1x1x64x64.size a ≤ S16x25x64x64.size a)
theorem k1_off2_inb : ∀ (v12738 : BitVec 32) (k1_hw2 : k1_chk2 v12738), ∀ a, (k1_off2 v12738) a + S1x1x64x64.size a ≤ S16x25x64x64.size a := fun v12738 k1_hw2 => k1_hw2

def k1_off3 (v12744 : BitVec 32) : Fin 4 → Nat :=
  let c2_7243 : Index := 2#32
  let v12745 : Index := Scalar.indexCast v12744
  let c0_7244 : Index := 0#32
  let c0_7245 : Index := 0#32
  ![2, v12745.toNat, 0, 0]

def k1_chk3 (v12744 : BitVec 32) : Prop :=
  (∀ a, (k1_off3 v12744) a + S1x1x64x64.size a ≤ S16x25x64x64.size a)
theorem k1_off3_inb : ∀ (v12744 : BitVec 32) (k1_hw3 : k1_chk3 v12744), ∀ a, (k1_off3 v12744) a + S1x1x64x64.size a ≤ S16x25x64x64.size a := fun v12744 k1_hw3 => k1_hw3

def k1_off4 (v12750 : BitVec 32) : Fin 4 → Nat :=
  let c3_7246 : Index := 3#32
  let v12751 : Index := Scalar.indexCast v12750
  let c0_7247 : Index := 0#32
  let c0_7248 : Index := 0#32
  ![3, v12751.toNat, 0, 0]

def k1_chk4 (v12750 : BitVec 32) : Prop :=
  (∀ a, (k1_off4 v12750) a + S1x1x64x64.size a ≤ S16x25x64x64.size a)
theorem k1_off4_inb : ∀ (v12750 : BitVec 32) (k1_hw4 : k1_chk4 v12750), ∀ a, (k1_off4 v12750) a + S1x1x64x64.size a ≤ S16x25x64x64.size a := fun v12750 k1_hw4 => k1_hw4

def k1_off5 (v12756 : BitVec 32) : Fin 4 → Nat :=
  let c4_7249 : Index := 4#32
  let v12757 : Index := Scalar.indexCast v12756
  let c0_7250 : Index := 0#32
  let c0_7251 : Index := 0#32
  ![4, v12757.toNat, 0, 0]

def k1_chk5 (v12756 : BitVec 32) : Prop :=
  (∀ a, (k1_off5 v12756) a + S1x1x64x64.size a ≤ S16x25x64x64.size a)
theorem k1_off5_inb : ∀ (v12756 : BitVec 32) (k1_hw5 : k1_chk5 v12756), ∀ a, (k1_off5 v12756) a + S1x1x64x64.size a ≤ S16x25x64x64.size a := fun v12756 k1_hw5 => k1_hw5

def k1_off6 (v12762 : BitVec 32) : Fin 4 → Nat :=
  let c5_7252 : Index := 5#32
  let v12763 : Index := Scalar.indexCast v12762
  let c0_7253 : Index := 0#32
  let c0_7254 : Index := 0#32
  ![5, v12763.toNat, 0, 0]

def k1_chk6 (v12762 : BitVec 32) : Prop :=
  (∀ a, (k1_off6 v12762) a + S1x1x64x64.size a ≤ S16x25x64x64.size a)
theorem k1_off6_inb : ∀ (v12762 : BitVec 32) (k1_hw6 : k1_chk6 v12762), ∀ a, (k1_off6 v12762) a + S1x1x64x64.size a ≤ S16x25x64x64.size a := fun v12762 k1_hw6 => k1_hw6

def k1_off7 (v12768 : BitVec 32) : Fin 4 → Nat :=
  let c6_7255 : Index := 6#32
  let v12769 : Index := Scalar.indexCast v12768
  let c0_7256 : Index := 0#32
  let c0_7257 : Index := 0#32
  ![6, v12769.toNat, 0, 0]

def k1_chk7 (v12768 : BitVec 32) : Prop :=
  (∀ a, (k1_off7 v12768) a + S1x1x64x64.size a ≤ S16x25x64x64.size a)
theorem k1_off7_inb : ∀ (v12768 : BitVec 32) (k1_hw7 : k1_chk7 v12768), ∀ a, (k1_off7 v12768) a + S1x1x64x64.size a ≤ S16x25x64x64.size a := fun v12768 k1_hw7 => k1_hw7

def k1_off8 (v12774 : BitVec 32) : Fin 4 → Nat :=
  let c7_7258 : Index := 7#32
  let v12775 : Index := Scalar.indexCast v12774
  let c0_7259 : Index := 0#32
  let c0_7260 : Index := 0#32
  ![7, v12775.toNat, 0, 0]

def k1_chk8 (v12774 : BitVec 32) : Prop :=
  (∀ a, (k1_off8 v12774) a + S1x1x64x64.size a ≤ S16x25x64x64.size a)
theorem k1_off8_inb : ∀ (v12774 : BitVec 32) (k1_hw8 : k1_chk8 v12774), ∀ a, (k1_off8 v12774) a + S1x1x64x64.size a ≤ S16x25x64x64.size a := fun v12774 k1_hw8 => k1_hw8

def k1_off9 (v12780 : BitVec 32) : Fin 4 → Nat :=
  let c8_7261 : Index := 8#32
  let v12781 : Index := Scalar.indexCast v12780
  let c0_7262 : Index := 0#32
  let c0_7263 : Index := 0#32
  ![8, v12781.toNat, 0, 0]

def k1_chk9 (v12780 : BitVec 32) : Prop :=
  (∀ a, (k1_off9 v12780) a + S1x1x64x64.size a ≤ S16x25x64x64.size a)
theorem k1_off9_inb : ∀ (v12780 : BitVec 32) (k1_hw9 : k1_chk9 v12780), ∀ a, (k1_off9 v12780) a + S1x1x64x64.size a ≤ S16x25x64x64.size a := fun v12780 k1_hw9 => k1_hw9

def k1_off10 (v12786 : BitVec 32) : Fin 4 → Nat :=
  let c9_7264 : Index := 9#32
  let v12787 : Index := Scalar.indexCast v12786
  let c0_7265 : Index := 0#32
  let c0_7266 : Index := 0#32
  ![9, v12787.toNat, 0, 0]

def k1_chk10 (v12786 : BitVec 32) : Prop :=
  (∀ a, (k1_off10 v12786) a + S1x1x64x64.size a ≤ S16x25x64x64.size a)
theorem k1_off10_inb : ∀ (v12786 : BitVec 32) (k1_hw10 : k1_chk10 v12786), ∀ a, (k1_off10 v12786) a + S1x1x64x64.size a ≤ S16x25x64x64.size a := fun v12786 k1_hw10 => k1_hw10

def k1_off11 (v12792 : BitVec 32) : Fin 4 → Nat :=
  let c10_7267 : Index := 10#32
  let v12793 : Index := Scalar.indexCast v12792
  let c0_7268 : Index := 0#32
  let c0_7269 : Index := 0#32
  ![10, v12793.toNat, 0, 0]

def k1_chk11 (v12792 : BitVec 32) : Prop :=
  (∀ a, (k1_off11 v12792) a + S1x1x64x64.size a ≤ S16x25x64x64.size a)
theorem k1_off11_inb : ∀ (v12792 : BitVec 32) (k1_hw11 : k1_chk11 v12792), ∀ a, (k1_off11 v12792) a + S1x1x64x64.size a ≤ S16x25x64x64.size a := fun v12792 k1_hw11 => k1_hw11

def k1_off12 (v12798 : BitVec 32) : Fin 4 → Nat :=
  let c11_7270 : Index := 11#32
  let v12799 : Index := Scalar.indexCast v12798
  let c0_7271 : Index := 0#32
  let c0_7272 : Index := 0#32
  ![11, v12799.toNat, 0, 0]

def k1_chk12 (v12798 : BitVec 32) : Prop :=
  (∀ a, (k1_off12 v12798) a + S1x1x64x64.size a ≤ S16x25x64x64.size a)
theorem k1_off12_inb : ∀ (v12798 : BitVec 32) (k1_hw12 : k1_chk12 v12798), ∀ a, (k1_off12 v12798) a + S1x1x64x64.size a ≤ S16x25x64x64.size a := fun v12798 k1_hw12 => k1_hw12

def k1_off13 (v12804 : BitVec 32) : Fin 4 → Nat :=
  let c12_7273 : Index := 12#32
  let v12805 : Index := Scalar.indexCast v12804
  let c0_7274 : Index := 0#32
  let c0_7275 : Index := 0#32
  ![12, v12805.toNat, 0, 0]

def k1_chk13 (v12804 : BitVec 32) : Prop :=
  (∀ a, (k1_off13 v12804) a + S1x1x64x64.size a ≤ S16x25x64x64.size a)
theorem k1_off13_inb : ∀ (v12804 : BitVec 32) (k1_hw13 : k1_chk13 v12804), ∀ a, (k1_off13 v12804) a + S1x1x64x64.size a ≤ S16x25x64x64.size a := fun v12804 k1_hw13 => k1_hw13

def k1_off14 (v12810 : BitVec 32) : Fin 4 → Nat :=
  let c13_7276 : Index := 13#32
  let v12811 : Index := Scalar.indexCast v12810
  let c0_7277 : Index := 0#32
  let c0_7278 : Index := 0#32
  ![13, v12811.toNat, 0, 0]

def k1_chk14 (v12810 : BitVec 32) : Prop :=
  (∀ a, (k1_off14 v12810) a + S1x1x64x64.size a ≤ S16x25x64x64.size a)
theorem k1_off14_inb : ∀ (v12810 : BitVec 32) (k1_hw14 : k1_chk14 v12810), ∀ a, (k1_off14 v12810) a + S1x1x64x64.size a ≤ S16x25x64x64.size a := fun v12810 k1_hw14 => k1_hw14

def k1_off15 (v12816 : BitVec 32) : Fin 4 → Nat :=
  let c14_7279 : Index := 14#32
  let v12817 : Index := Scalar.indexCast v12816
  let c0_7280 : Index := 0#32
  let c0_7281 : Index := 0#32
  ![14, v12817.toNat, 0, 0]

def k1_chk15 (v12816 : BitVec 32) : Prop :=
  (∀ a, (k1_off15 v12816) a + S1x1x64x64.size a ≤ S16x25x64x64.size a)
theorem k1_off15_inb : ∀ (v12816 : BitVec 32) (k1_hw15 : k1_chk15 v12816), ∀ a, (k1_off15 v12816) a + S1x1x64x64.size a ≤ S16x25x64x64.size a := fun v12816 k1_hw15 => k1_hw15

def k1_off16 (v12822 : BitVec 32) : Fin 4 → Nat :=
  let c15_7282 : Index := 15#32
  let v12823 : Index := Scalar.indexCast v12822
  let c0_7283 : Index := 0#32
  let c0_7284 : Index := 0#32
  ![15, v12823.toNat, 0, 0]

def k1_chk16 (v12822 : BitVec 32) : Prop :=
  (∀ a, (k1_off16 v12822) a + S1x1x64x64.size a ≤ S16x25x64x64.size a)
theorem k1_off16_inb : ∀ (v12822 : BitVec 32) (k1_hw16 : k1_chk16 v12822), ∀ a, (k1_off16 v12822) a + S1x1x64x64.size a ≤ S16x25x64x64.size a := fun v12822 k1_hw16 => k1_hw16

def k1_off17 (v12861 : BitVec 32) : Fin 4 → Nat :=
  let c0_7294 : Index := 0#32
  let v12862 : Index := Scalar.indexCast v12861
  let c0_7295 : Index := 0#32
  let c0_7296 : Index := 0#32
  ![0, v12862.toNat, 0, 0]

def k1_chk17 (v12861 : BitVec 32) : Prop :=
  (∀ a, (k1_off17 v12861) a + S1x1x64x64.size a ≤ S16x25x64x64.size a)
theorem k1_off17_inb : ∀ (v12861 : BitVec 32) (k1_hw17 : k1_chk17 v12861), ∀ a, (k1_off17 v12861) a + S1x1x64x64.size a ≤ S16x25x64x64.size a := fun v12861 k1_hw17 => k1_hw17

def k1_off18 (v12867 : BitVec 32) : Fin 4 → Nat :=
  let c1_7297 : Index := 1#32
  let v12868 : Index := Scalar.indexCast v12867
  let c0_7298 : Index := 0#32
  let c0_7299 : Index := 0#32
  ![1, v12868.toNat, 0, 0]

def k1_chk18 (v12867 : BitVec 32) : Prop :=
  (∀ a, (k1_off18 v12867) a + S1x1x64x64.size a ≤ S16x25x64x64.size a)
theorem k1_off18_inb : ∀ (v12867 : BitVec 32) (k1_hw18 : k1_chk18 v12867), ∀ a, (k1_off18 v12867) a + S1x1x64x64.size a ≤ S16x25x64x64.size a := fun v12867 k1_hw18 => k1_hw18

def k1_off19 (v12873 : BitVec 32) : Fin 4 → Nat :=
  let c2_7300 : Index := 2#32
  let v12874 : Index := Scalar.indexCast v12873
  let c0_7301 : Index := 0#32
  let c0_7302 : Index := 0#32
  ![2, v12874.toNat, 0, 0]

def k1_chk19 (v12873 : BitVec 32) : Prop :=
  (∀ a, (k1_off19 v12873) a + S1x1x64x64.size a ≤ S16x25x64x64.size a)
theorem k1_off19_inb : ∀ (v12873 : BitVec 32) (k1_hw19 : k1_chk19 v12873), ∀ a, (k1_off19 v12873) a + S1x1x64x64.size a ≤ S16x25x64x64.size a := fun v12873 k1_hw19 => k1_hw19

def k1_off20 (v12879 : BitVec 32) : Fin 4 → Nat :=
  let c3_7303 : Index := 3#32
  let v12880 : Index := Scalar.indexCast v12879
  let c0_7304 : Index := 0#32
  let c0_7305 : Index := 0#32
  ![3, v12880.toNat, 0, 0]

def k1_chk20 (v12879 : BitVec 32) : Prop :=
  (∀ a, (k1_off20 v12879) a + S1x1x64x64.size a ≤ S16x25x64x64.size a)
theorem k1_off20_inb : ∀ (v12879 : BitVec 32) (k1_hw20 : k1_chk20 v12879), ∀ a, (k1_off20 v12879) a + S1x1x64x64.size a ≤ S16x25x64x64.size a := fun v12879 k1_hw20 => k1_hw20

def k1_off21 (v12885 : BitVec 32) : Fin 4 → Nat :=
  let c4_7306 : Index := 4#32
  let v12886 : Index := Scalar.indexCast v12885
  let c0_7307 : Index := 0#32
  let c0_7308 : Index := 0#32
  ![4, v12886.toNat, 0, 0]

def k1_chk21 (v12885 : BitVec 32) : Prop :=
  (∀ a, (k1_off21 v12885) a + S1x1x64x64.size a ≤ S16x25x64x64.size a)
theorem k1_off21_inb : ∀ (v12885 : BitVec 32) (k1_hw21 : k1_chk21 v12885), ∀ a, (k1_off21 v12885) a + S1x1x64x64.size a ≤ S16x25x64x64.size a := fun v12885 k1_hw21 => k1_hw21

def k1_off22 (v12891 : BitVec 32) : Fin 4 → Nat :=
  let c5_7309 : Index := 5#32
  let v12892 : Index := Scalar.indexCast v12891
  let c0_7310 : Index := 0#32
  let c0_7311 : Index := 0#32
  ![5, v12892.toNat, 0, 0]

def k1_chk22 (v12891 : BitVec 32) : Prop :=
  (∀ a, (k1_off22 v12891) a + S1x1x64x64.size a ≤ S16x25x64x64.size a)
theorem k1_off22_inb : ∀ (v12891 : BitVec 32) (k1_hw22 : k1_chk22 v12891), ∀ a, (k1_off22 v12891) a + S1x1x64x64.size a ≤ S16x25x64x64.size a := fun v12891 k1_hw22 => k1_hw22

def k1_off23 (v12897 : BitVec 32) : Fin 4 → Nat :=
  let c6_7312 : Index := 6#32
  let v12898 : Index := Scalar.indexCast v12897
  let c0_7313 : Index := 0#32
  let c0_7314 : Index := 0#32
  ![6, v12898.toNat, 0, 0]

def k1_chk23 (v12897 : BitVec 32) : Prop :=
  (∀ a, (k1_off23 v12897) a + S1x1x64x64.size a ≤ S16x25x64x64.size a)
theorem k1_off23_inb : ∀ (v12897 : BitVec 32) (k1_hw23 : k1_chk23 v12897), ∀ a, (k1_off23 v12897) a + S1x1x64x64.size a ≤ S16x25x64x64.size a := fun v12897 k1_hw23 => k1_hw23

def k1_off24 (v12903 : BitVec 32) : Fin 4 → Nat :=
  let c7_7315 : Index := 7#32
  let v12904 : Index := Scalar.indexCast v12903
  let c0_7316 : Index := 0#32
  let c0_7317 : Index := 0#32
  ![7, v12904.toNat, 0, 0]

def k1_chk24 (v12903 : BitVec 32) : Prop :=
  (∀ a, (k1_off24 v12903) a + S1x1x64x64.size a ≤ S16x25x64x64.size a)
theorem k1_off24_inb : ∀ (v12903 : BitVec 32) (k1_hw24 : k1_chk24 v12903), ∀ a, (k1_off24 v12903) a + S1x1x64x64.size a ≤ S16x25x64x64.size a := fun v12903 k1_hw24 => k1_hw24

def k1_off25 (v12909 : BitVec 32) : Fin 4 → Nat :=
  let c8_7318 : Index := 8#32
  let v12910 : Index := Scalar.indexCast v12909
  let c0_7319 : Index := 0#32
  let c0_7320 : Index := 0#32
  ![8, v12910.toNat, 0, 0]

def k1_chk25 (v12909 : BitVec 32) : Prop :=
  (∀ a, (k1_off25 v12909) a + S1x1x64x64.size a ≤ S16x25x64x64.size a)
theorem k1_off25_inb : ∀ (v12909 : BitVec 32) (k1_hw25 : k1_chk25 v12909), ∀ a, (k1_off25 v12909) a + S1x1x64x64.size a ≤ S16x25x64x64.size a := fun v12909 k1_hw25 => k1_hw25

def k1_off26 (v12915 : BitVec 32) : Fin 4 → Nat :=
  let c9_7321 : Index := 9#32
  let v12916 : Index := Scalar.indexCast v12915
  let c0_7322 : Index := 0#32
  let c0_7323 : Index := 0#32
  ![9, v12916.toNat, 0, 0]

def k1_chk26 (v12915 : BitVec 32) : Prop :=
  (∀ a, (k1_off26 v12915) a + S1x1x64x64.size a ≤ S16x25x64x64.size a)
theorem k1_off26_inb : ∀ (v12915 : BitVec 32) (k1_hw26 : k1_chk26 v12915), ∀ a, (k1_off26 v12915) a + S1x1x64x64.size a ≤ S16x25x64x64.size a := fun v12915 k1_hw26 => k1_hw26

def k1_off27 (v12921 : BitVec 32) : Fin 4 → Nat :=
  let c10_7324 : Index := 10#32
  let v12922 : Index := Scalar.indexCast v12921
  let c0_7325 : Index := 0#32
  let c0_7326 : Index := 0#32
  ![10, v12922.toNat, 0, 0]

def k1_chk27 (v12921 : BitVec 32) : Prop :=
  (∀ a, (k1_off27 v12921) a + S1x1x64x64.size a ≤ S16x25x64x64.size a)
theorem k1_off27_inb : ∀ (v12921 : BitVec 32) (k1_hw27 : k1_chk27 v12921), ∀ a, (k1_off27 v12921) a + S1x1x64x64.size a ≤ S16x25x64x64.size a := fun v12921 k1_hw27 => k1_hw27

def k1_off28 (v12927 : BitVec 32) : Fin 4 → Nat :=
  let c11_7327 : Index := 11#32
  let v12928 : Index := Scalar.indexCast v12927
  let c0_7328 : Index := 0#32
  let c0_7329 : Index := 0#32
  ![11, v12928.toNat, 0, 0]

def k1_chk28 (v12927 : BitVec 32) : Prop :=
  (∀ a, (k1_off28 v12927) a + S1x1x64x64.size a ≤ S16x25x64x64.size a)
theorem k1_off28_inb : ∀ (v12927 : BitVec 32) (k1_hw28 : k1_chk28 v12927), ∀ a, (k1_off28 v12927) a + S1x1x64x64.size a ≤ S16x25x64x64.size a := fun v12927 k1_hw28 => k1_hw28

def k1_off29 (v12933 : BitVec 32) : Fin 4 → Nat :=
  let c12_7330 : Index := 12#32
  let v12934 : Index := Scalar.indexCast v12933
  let c0_7331 : Index := 0#32
  let c0_7332 : Index := 0#32
  ![12, v12934.toNat, 0, 0]

def k1_chk29 (v12933 : BitVec 32) : Prop :=
  (∀ a, (k1_off29 v12933) a + S1x1x64x64.size a ≤ S16x25x64x64.size a)
theorem k1_off29_inb : ∀ (v12933 : BitVec 32) (k1_hw29 : k1_chk29 v12933), ∀ a, (k1_off29 v12933) a + S1x1x64x64.size a ≤ S16x25x64x64.size a := fun v12933 k1_hw29 => k1_hw29

def k1_off30 (v12939 : BitVec 32) : Fin 4 → Nat :=
  let c13_7333 : Index := 13#32
  let v12940 : Index := Scalar.indexCast v12939
  let c0_7334 : Index := 0#32
  let c0_7335 : Index := 0#32
  ![13, v12940.toNat, 0, 0]

def k1_chk30 (v12939 : BitVec 32) : Prop :=
  (∀ a, (k1_off30 v12939) a + S1x1x64x64.size a ≤ S16x25x64x64.size a)
theorem k1_off30_inb : ∀ (v12939 : BitVec 32) (k1_hw30 : k1_chk30 v12939), ∀ a, (k1_off30 v12939) a + S1x1x64x64.size a ≤ S16x25x64x64.size a := fun v12939 k1_hw30 => k1_hw30

def k1_off31 (v12945 : BitVec 32) : Fin 4 → Nat :=
  let c14_7336 : Index := 14#32
  let v12946 : Index := Scalar.indexCast v12945
  let c0_7337 : Index := 0#32
  let c0_7338 : Index := 0#32
  ![14, v12946.toNat, 0, 0]

def k1_chk31 (v12945 : BitVec 32) : Prop :=
  (∀ a, (k1_off31 v12945) a + S1x1x64x64.size a ≤ S16x25x64x64.size a)
theorem k1_off31_inb : ∀ (v12945 : BitVec 32) (k1_hw31 : k1_chk31 v12945), ∀ a, (k1_off31 v12945) a + S1x1x64x64.size a ≤ S16x25x64x64.size a := fun v12945 k1_hw31 => k1_hw31

def k1_off32 (v12951 : BitVec 32) : Fin 4 → Nat :=
  let c15_7339 : Index := 15#32
  let v12952 : Index := Scalar.indexCast v12951
  let c0_7340 : Index := 0#32
  let c0_7341 : Index := 0#32
  ![15, v12952.toNat, 0, 0]

def k1_chk32 (v12951 : BitVec 32) : Prop :=
  (∀ a, (k1_off32 v12951) a + S1x1x64x64.size a ≤ S16x25x64x64.size a)
theorem k1_off32_inb : ∀ (v12951 : BitVec 32) (k1_hw32 : k1_chk32 v12951), ∀ a, (k1_off32 v12951) a + S1x1x64x64.size a ≤ S16x25x64x64.size a := fun v12951 k1_hw32 => k1_hw32

def k1_off33 (v12990 : BitVec 32) : Fin 4 → Nat :=
  let c0_7351 : Index := 0#32
  let v12991 : Index := Scalar.indexCast v12990
  let c0_7352 : Index := 0#32
  let c0_7353 : Index := 0#32
  ![0, v12991.toNat, 0, 0]

def k1_chk33 (v12990 : BitVec 32) : Prop :=
  (∀ a, (k1_off33 v12990) a + S1x1x64x64.size a ≤ S16x25x64x64.size a)
theorem k1_off33_inb : ∀ (v12990 : BitVec 32) (k1_hw33 : k1_chk33 v12990), ∀ a, (k1_off33 v12990) a + S1x1x64x64.size a ≤ S16x25x64x64.size a := fun v12990 k1_hw33 => k1_hw33

def k1_off34 (v12996 : BitVec 32) : Fin 4 → Nat :=
  let c1_7354 : Index := 1#32
  let v12997 : Index := Scalar.indexCast v12996
  let c0_7355 : Index := 0#32
  let c0_7356 : Index := 0#32
  ![1, v12997.toNat, 0, 0]

def k1_chk34 (v12996 : BitVec 32) : Prop :=
  (∀ a, (k1_off34 v12996) a + S1x1x64x64.size a ≤ S16x25x64x64.size a)
theorem k1_off34_inb : ∀ (v12996 : BitVec 32) (k1_hw34 : k1_chk34 v12996), ∀ a, (k1_off34 v12996) a + S1x1x64x64.size a ≤ S16x25x64x64.size a := fun v12996 k1_hw34 => k1_hw34

def k1_off35 (v13002 : BitVec 32) : Fin 4 → Nat :=
  let c2_7357 : Index := 2#32
  let v13003 : Index := Scalar.indexCast v13002
  let c0_7358 : Index := 0#32
  let c0_7359 : Index := 0#32
  ![2, v13003.toNat, 0, 0]

def k1_chk35 (v13002 : BitVec 32) : Prop :=
  (∀ a, (k1_off35 v13002) a + S1x1x64x64.size a ≤ S16x25x64x64.size a)
theorem k1_off35_inb : ∀ (v13002 : BitVec 32) (k1_hw35 : k1_chk35 v13002), ∀ a, (k1_off35 v13002) a + S1x1x64x64.size a ≤ S16x25x64x64.size a := fun v13002 k1_hw35 => k1_hw35

def k1_off36 (v13008 : BitVec 32) : Fin 4 → Nat :=
  let c3_7360 : Index := 3#32
  let v13009 : Index := Scalar.indexCast v13008
  let c0_7361 : Index := 0#32
  let c0_7362 : Index := 0#32
  ![3, v13009.toNat, 0, 0]

def k1_chk36 (v13008 : BitVec 32) : Prop :=
  (∀ a, (k1_off36 v13008) a + S1x1x64x64.size a ≤ S16x25x64x64.size a)
theorem k1_off36_inb : ∀ (v13008 : BitVec 32) (k1_hw36 : k1_chk36 v13008), ∀ a, (k1_off36 v13008) a + S1x1x64x64.size a ≤ S16x25x64x64.size a := fun v13008 k1_hw36 => k1_hw36

def k1_off37 (v13014 : BitVec 32) : Fin 4 → Nat :=
  let c4_7363 : Index := 4#32
  let v13015 : Index := Scalar.indexCast v13014
  let c0_7364 : Index := 0#32
  let c0_7365 : Index := 0#32
  ![4, v13015.toNat, 0, 0]

def k1_chk37 (v13014 : BitVec 32) : Prop :=
  (∀ a, (k1_off37 v13014) a + S1x1x64x64.size a ≤ S16x25x64x64.size a)
theorem k1_off37_inb : ∀ (v13014 : BitVec 32) (k1_hw37 : k1_chk37 v13014), ∀ a, (k1_off37 v13014) a + S1x1x64x64.size a ≤ S16x25x64x64.size a := fun v13014 k1_hw37 => k1_hw37

def k1_off38 (v13020 : BitVec 32) : Fin 4 → Nat :=
  let c5_7366 : Index := 5#32
  let v13021 : Index := Scalar.indexCast v13020
  let c0_7367 : Index := 0#32
  let c0_7368 : Index := 0#32
  ![5, v13021.toNat, 0, 0]

def k1_chk38 (v13020 : BitVec 32) : Prop :=
  (∀ a, (k1_off38 v13020) a + S1x1x64x64.size a ≤ S16x25x64x64.size a)
theorem k1_off38_inb : ∀ (v13020 : BitVec 32) (k1_hw38 : k1_chk38 v13020), ∀ a, (k1_off38 v13020) a + S1x1x64x64.size a ≤ S16x25x64x64.size a := fun v13020 k1_hw38 => k1_hw38

def k1_off39 (v13026 : BitVec 32) : Fin 4 → Nat :=
  let c6_7369 : Index := 6#32
  let v13027 : Index := Scalar.indexCast v13026
  let c0_7370 : Index := 0#32
  let c0_7371 : Index := 0#32
  ![6, v13027.toNat, 0, 0]

def k1_chk39 (v13026 : BitVec 32) : Prop :=
  (∀ a, (k1_off39 v13026) a + S1x1x64x64.size a ≤ S16x25x64x64.size a)
theorem k1_off39_inb : ∀ (v13026 : BitVec 32) (k1_hw39 : k1_chk39 v13026), ∀ a, (k1_off39 v13026) a + S1x1x64x64.size a ≤ S16x25x64x64.size a := fun v13026 k1_hw39 => k1_hw39

def k1_off40 (v13032 : BitVec 32) : Fin 4 → Nat :=
  let c7_7372 : Index := 7#32
  let v13033 : Index := Scalar.indexCast v13032
  let c0_7373 : Index := 0#32
  let c0_7374 : Index := 0#32
  ![7, v13033.toNat, 0, 0]

def k1_chk40 (v13032 : BitVec 32) : Prop :=
  (∀ a, (k1_off40 v13032) a + S1x1x64x64.size a ≤ S16x25x64x64.size a)
theorem k1_off40_inb : ∀ (v13032 : BitVec 32) (k1_hw40 : k1_chk40 v13032), ∀ a, (k1_off40 v13032) a + S1x1x64x64.size a ≤ S16x25x64x64.size a := fun v13032 k1_hw40 => k1_hw40

def k1_off41 (v13038 : BitVec 32) : Fin 4 → Nat :=
  let c8_7375 : Index := 8#32
  let v13039 : Index := Scalar.indexCast v13038
  let c0_7376 : Index := 0#32
  let c0_7377 : Index := 0#32
  ![8, v13039.toNat, 0, 0]

def k1_chk41 (v13038 : BitVec 32) : Prop :=
  (∀ a, (k1_off41 v13038) a + S1x1x64x64.size a ≤ S16x25x64x64.size a)
theorem k1_off41_inb : ∀ (v13038 : BitVec 32) (k1_hw41 : k1_chk41 v13038), ∀ a, (k1_off41 v13038) a + S1x1x64x64.size a ≤ S16x25x64x64.size a := fun v13038 k1_hw41 => k1_hw41

def k1_off42 (v13044 : BitVec 32) : Fin 4 → Nat :=
  let c9_7378 : Index := 9#32
  let v13045 : Index := Scalar.indexCast v13044
  let c0_7379 : Index := 0#32
  let c0_7380 : Index := 0#32
  ![9, v13045.toNat, 0, 0]

def k1_chk42 (v13044 : BitVec 32) : Prop :=
  (∀ a, (k1_off42 v13044) a + S1x1x64x64.size a ≤ S16x25x64x64.size a)
theorem k1_off42_inb : ∀ (v13044 : BitVec 32) (k1_hw42 : k1_chk42 v13044), ∀ a, (k1_off42 v13044) a + S1x1x64x64.size a ≤ S16x25x64x64.size a := fun v13044 k1_hw42 => k1_hw42

def k1_off43 (v13050 : BitVec 32) : Fin 4 → Nat :=
  let c10_7381 : Index := 10#32
  let v13051 : Index := Scalar.indexCast v13050
  let c0_7382 : Index := 0#32
  let c0_7383 : Index := 0#32
  ![10, v13051.toNat, 0, 0]

def k1_chk43 (v13050 : BitVec 32) : Prop :=
  (∀ a, (k1_off43 v13050) a + S1x1x64x64.size a ≤ S16x25x64x64.size a)
theorem k1_off43_inb : ∀ (v13050 : BitVec 32) (k1_hw43 : k1_chk43 v13050), ∀ a, (k1_off43 v13050) a + S1x1x64x64.size a ≤ S16x25x64x64.size a := fun v13050 k1_hw43 => k1_hw43

def k1_off44 (v13056 : BitVec 32) : Fin 4 → Nat :=
  let c11_7384 : Index := 11#32
  let v13057 : Index := Scalar.indexCast v13056
  let c0_7385 : Index := 0#32
  let c0_7386 : Index := 0#32
  ![11, v13057.toNat, 0, 0]

def k1_chk44 (v13056 : BitVec 32) : Prop :=
  (∀ a, (k1_off44 v13056) a + S1x1x64x64.size a ≤ S16x25x64x64.size a)
theorem k1_off44_inb : ∀ (v13056 : BitVec 32) (k1_hw44 : k1_chk44 v13056), ∀ a, (k1_off44 v13056) a + S1x1x64x64.size a ≤ S16x25x64x64.size a := fun v13056 k1_hw44 => k1_hw44

def k1_off45 (v13062 : BitVec 32) : Fin 4 → Nat :=
  let c12_7387 : Index := 12#32
  let v13063 : Index := Scalar.indexCast v13062
  let c0_7388 : Index := 0#32
  let c0_7389 : Index := 0#32
  ![12, v13063.toNat, 0, 0]

def k1_chk45 (v13062 : BitVec 32) : Prop :=
  (∀ a, (k1_off45 v13062) a + S1x1x64x64.size a ≤ S16x25x64x64.size a)
theorem k1_off45_inb : ∀ (v13062 : BitVec 32) (k1_hw45 : k1_chk45 v13062), ∀ a, (k1_off45 v13062) a + S1x1x64x64.size a ≤ S16x25x64x64.size a := fun v13062 k1_hw45 => k1_hw45

def k1_off46 (v13068 : BitVec 32) : Fin 4 → Nat :=
  let c13_7390 : Index := 13#32
  let v13069 : Index := Scalar.indexCast v13068
  let c0_7391 : Index := 0#32
  let c0_7392 : Index := 0#32
  ![13, v13069.toNat, 0, 0]

def k1_chk46 (v13068 : BitVec 32) : Prop :=
  (∀ a, (k1_off46 v13068) a + S1x1x64x64.size a ≤ S16x25x64x64.size a)
theorem k1_off46_inb : ∀ (v13068 : BitVec 32) (k1_hw46 : k1_chk46 v13068), ∀ a, (k1_off46 v13068) a + S1x1x64x64.size a ≤ S16x25x64x64.size a := fun v13068 k1_hw46 => k1_hw46

def k1_off47 (v13074 : BitVec 32) : Fin 4 → Nat :=
  let c14_7393 : Index := 14#32
  let v13075 : Index := Scalar.indexCast v13074
  let c0_7394 : Index := 0#32
  let c0_7395 : Index := 0#32
  ![14, v13075.toNat, 0, 0]

def k1_chk47 (v13074 : BitVec 32) : Prop :=
  (∀ a, (k1_off47 v13074) a + S1x1x64x64.size a ≤ S16x25x64x64.size a)
theorem k1_off47_inb : ∀ (v13074 : BitVec 32) (k1_hw47 : k1_chk47 v13074), ∀ a, (k1_off47 v13074) a + S1x1x64x64.size a ≤ S16x25x64x64.size a := fun v13074 k1_hw47 => k1_hw47

def k1_off48 (v13080 : BitVec 32) : Fin 4 → Nat :=
  let c15_7396 : Index := 15#32
  let v13081 : Index := Scalar.indexCast v13080
  let c0_7397 : Index := 0#32
  let c0_7398 : Index := 0#32
  ![15, v13081.toNat, 0, 0]

def k1_chk48 (v13080 : BitVec 32) : Prop :=
  (∀ a, (k1_off48 v13080) a + S1x1x64x64.size a ≤ S16x25x64x64.size a)
theorem k1_off48_inb : ∀ (v13080 : BitVec 32) (k1_hw48 : k1_chk48 v13080), ∀ a, (k1_off48 v13080) a + S1x1x64x64.size a ≤ S16x25x64x64.size a := fun v13080 k1_hw48 => k1_hw48

def k1_off49 (v13112 : BitVec 32) : Fin 4 → Nat :=
  let c0_7407 : Index := 0#32
  let v13113 : Index := Scalar.indexCast v13112
  let c0_7408 : Index := 0#32
  let c0_7409 : Index := 0#32
  ![0, v13113.toNat, 0, 0]

def k1_chk49 (v13112 : BitVec 32) : Prop :=
  (∀ a, (k1_off49 v13112) a + S1x1x64x64.size a ≤ S16x25x64x64.size a)
theorem k1_off49_inb : ∀ (v13112 : BitVec 32) (k1_hw49 : k1_chk49 v13112), ∀ a, (k1_off49 v13112) a + S1x1x64x64.size a ≤ S16x25x64x64.size a := fun v13112 k1_hw49 => k1_hw49

def k1_off50 (v13118 : BitVec 32) : Fin 4 → Nat :=
  let c1_7410 : Index := 1#32
  let v13119 : Index := Scalar.indexCast v13118
  let c0_7411 : Index := 0#32
  let c0_7412 : Index := 0#32
  ![1, v13119.toNat, 0, 0]

def k1_chk50 (v13118 : BitVec 32) : Prop :=
  (∀ a, (k1_off50 v13118) a + S1x1x64x64.size a ≤ S16x25x64x64.size a)
theorem k1_off50_inb : ∀ (v13118 : BitVec 32) (k1_hw50 : k1_chk50 v13118), ∀ a, (k1_off50 v13118) a + S1x1x64x64.size a ≤ S16x25x64x64.size a := fun v13118 k1_hw50 => k1_hw50

def k1_off51 (v13124 : BitVec 32) : Fin 4 → Nat :=
  let c2_7413 : Index := 2#32
  let v13125 : Index := Scalar.indexCast v13124
  let c0_7414 : Index := 0#32
  let c0_7415 : Index := 0#32
  ![2, v13125.toNat, 0, 0]

def k1_chk51 (v13124 : BitVec 32) : Prop :=
  (∀ a, (k1_off51 v13124) a + S1x1x64x64.size a ≤ S16x25x64x64.size a)
theorem k1_off51_inb : ∀ (v13124 : BitVec 32) (k1_hw51 : k1_chk51 v13124), ∀ a, (k1_off51 v13124) a + S1x1x64x64.size a ≤ S16x25x64x64.size a := fun v13124 k1_hw51 => k1_hw51

def k1_off52 (v13130 : BitVec 32) : Fin 4 → Nat :=
  let c3_7416 : Index := 3#32
  let v13131 : Index := Scalar.indexCast v13130
  let c0_7417 : Index := 0#32
  let c0_7418 : Index := 0#32
  ![3, v13131.toNat, 0, 0]

def k1_chk52 (v13130 : BitVec 32) : Prop :=
  (∀ a, (k1_off52 v13130) a + S1x1x64x64.size a ≤ S16x25x64x64.size a)
theorem k1_off52_inb : ∀ (v13130 : BitVec 32) (k1_hw52 : k1_chk52 v13130), ∀ a, (k1_off52 v13130) a + S1x1x64x64.size a ≤ S16x25x64x64.size a := fun v13130 k1_hw52 => k1_hw52

def k1_off53 (v13136 : BitVec 32) : Fin 4 → Nat :=
  let c4_7419 : Index := 4#32
  let v13137 : Index := Scalar.indexCast v13136
  let c0_7420 : Index := 0#32
  let c0_7421 : Index := 0#32
  ![4, v13137.toNat, 0, 0]

def k1_chk53 (v13136 : BitVec 32) : Prop :=
  (∀ a, (k1_off53 v13136) a + S1x1x64x64.size a ≤ S16x25x64x64.size a)
theorem k1_off53_inb : ∀ (v13136 : BitVec 32) (k1_hw53 : k1_chk53 v13136), ∀ a, (k1_off53 v13136) a + S1x1x64x64.size a ≤ S16x25x64x64.size a := fun v13136 k1_hw53 => k1_hw53

def k1_off54 (v13142 : BitVec 32) : Fin 4 → Nat :=
  let c5_7422 : Index := 5#32
  let v13143 : Index := Scalar.indexCast v13142
  let c0_7423 : Index := 0#32
  let c0_7424 : Index := 0#32
  ![5, v13143.toNat, 0, 0]

def k1_chk54 (v13142 : BitVec 32) : Prop :=
  (∀ a, (k1_off54 v13142) a + S1x1x64x64.size a ≤ S16x25x64x64.size a)
theorem k1_off54_inb : ∀ (v13142 : BitVec 32) (k1_hw54 : k1_chk54 v13142), ∀ a, (k1_off54 v13142) a + S1x1x64x64.size a ≤ S16x25x64x64.size a := fun v13142 k1_hw54 => k1_hw54

def k1_off55 (v13148 : BitVec 32) : Fin 4 → Nat :=
  let c6_7425 : Index := 6#32
  let v13149 : Index := Scalar.indexCast v13148
  let c0_7426 : Index := 0#32
  let c0_7427 : Index := 0#32
  ![6, v13149.toNat, 0, 0]

def k1_chk55 (v13148 : BitVec 32) : Prop :=
  (∀ a, (k1_off55 v13148) a + S1x1x64x64.size a ≤ S16x25x64x64.size a)
theorem k1_off55_inb : ∀ (v13148 : BitVec 32) (k1_hw55 : k1_chk55 v13148), ∀ a, (k1_off55 v13148) a + S1x1x64x64.size a ≤ S16x25x64x64.size a := fun v13148 k1_hw55 => k1_hw55

def k1_off56 (v13154 : BitVec 32) : Fin 4 → Nat :=
  let c7_7428 : Index := 7#32
  let v13155 : Index := Scalar.indexCast v13154
  let c0_7429 : Index := 0#32
  let c0_7430 : Index := 0#32
  ![7, v13155.toNat, 0, 0]

def k1_chk56 (v13154 : BitVec 32) : Prop :=
  (∀ a, (k1_off56 v13154) a + S1x1x64x64.size a ≤ S16x25x64x64.size a)
theorem k1_off56_inb : ∀ (v13154 : BitVec 32) (k1_hw56 : k1_chk56 v13154), ∀ a, (k1_off56 v13154) a + S1x1x64x64.size a ≤ S16x25x64x64.size a := fun v13154 k1_hw56 => k1_hw56

def k1_off57 (v13160 : BitVec 32) : Fin 4 → Nat :=
  let c8_7431 : Index := 8#32
  let v13161 : Index := Scalar.indexCast v13160
  let c0_7432 : Index := 0#32
  let c0_7433 : Index := 0#32
  ![8, v13161.toNat, 0, 0]

def k1_chk57 (v13160 : BitVec 32) : Prop :=
  (∀ a, (k1_off57 v13160) a + S1x1x64x64.size a ≤ S16x25x64x64.size a)
theorem k1_off57_inb : ∀ (v13160 : BitVec 32) (k1_hw57 : k1_chk57 v13160), ∀ a, (k1_off57 v13160) a + S1x1x64x64.size a ≤ S16x25x64x64.size a := fun v13160 k1_hw57 => k1_hw57

def k1_off58 (v13166 : BitVec 32) : Fin 4 → Nat :=
  let c9_7434 : Index := 9#32
  let v13167 : Index := Scalar.indexCast v13166
  let c0_7435 : Index := 0#32
  let c0_7436 : Index := 0#32
  ![9, v13167.toNat, 0, 0]

def k1_chk58 (v13166 : BitVec 32) : Prop :=
  (∀ a, (k1_off58 v13166) a + S1x1x64x64.size a ≤ S16x25x64x64.size a)
theorem k1_off58_inb : ∀ (v13166 : BitVec 32) (k1_hw58 : k1_chk58 v13166), ∀ a, (k1_off58 v13166) a + S1x1x64x64.size a ≤ S16x25x64x64.size a := fun v13166 k1_hw58 => k1_hw58

def k1_off59 (v13172 : BitVec 32) : Fin 4 → Nat :=
  let c10_7437 : Index := 10#32
  let v13173 : Index := Scalar.indexCast v13172
  let c0_7438 : Index := 0#32
  let c0_7439 : Index := 0#32
  ![10, v13173.toNat, 0, 0]

def k1_chk59 (v13172 : BitVec 32) : Prop :=
  (∀ a, (k1_off59 v13172) a + S1x1x64x64.size a ≤ S16x25x64x64.size a)
theorem k1_off59_inb : ∀ (v13172 : BitVec 32) (k1_hw59 : k1_chk59 v13172), ∀ a, (k1_off59 v13172) a + S1x1x64x64.size a ≤ S16x25x64x64.size a := fun v13172 k1_hw59 => k1_hw59

def k1_off60 (v13178 : BitVec 32) : Fin 4 → Nat :=
  let c11_7440 : Index := 11#32
  let v13179 : Index := Scalar.indexCast v13178
  let c0_7441 : Index := 0#32
  let c0_7442 : Index := 0#32
  ![11, v13179.toNat, 0, 0]

def k1_chk60 (v13178 : BitVec 32) : Prop :=
  (∀ a, (k1_off60 v13178) a + S1x1x64x64.size a ≤ S16x25x64x64.size a)
theorem k1_off60_inb : ∀ (v13178 : BitVec 32) (k1_hw60 : k1_chk60 v13178), ∀ a, (k1_off60 v13178) a + S1x1x64x64.size a ≤ S16x25x64x64.size a := fun v13178 k1_hw60 => k1_hw60

def k1_off61 (v13184 : BitVec 32) : Fin 4 → Nat :=
  let c12_7443 : Index := 12#32
  let v13185 : Index := Scalar.indexCast v13184
  let c0_7444 : Index := 0#32
  let c0_7445 : Index := 0#32
  ![12, v13185.toNat, 0, 0]

def k1_chk61 (v13184 : BitVec 32) : Prop :=
  (∀ a, (k1_off61 v13184) a + S1x1x64x64.size a ≤ S16x25x64x64.size a)
theorem k1_off61_inb : ∀ (v13184 : BitVec 32) (k1_hw61 : k1_chk61 v13184), ∀ a, (k1_off61 v13184) a + S1x1x64x64.size a ≤ S16x25x64x64.size a := fun v13184 k1_hw61 => k1_hw61

def k1_off62 (v13190 : BitVec 32) : Fin 4 → Nat :=
  let c13_7446 : Index := 13#32
  let v13191 : Index := Scalar.indexCast v13190
  let c0_7447 : Index := 0#32
  let c0_7448 : Index := 0#32
  ![13, v13191.toNat, 0, 0]

def k1_chk62 (v13190 : BitVec 32) : Prop :=
  (∀ a, (k1_off62 v13190) a + S1x1x64x64.size a ≤ S16x25x64x64.size a)
theorem k1_off62_inb : ∀ (v13190 : BitVec 32) (k1_hw62 : k1_chk62 v13190), ∀ a, (k1_off62 v13190) a + S1x1x64x64.size a ≤ S16x25x64x64.size a := fun v13190 k1_hw62 => k1_hw62

def k1_off63 (v13196 : BitVec 32) : Fin 4 → Nat :=
  let c14_7449 : Index := 14#32
  let v13197 : Index := Scalar.indexCast v13196
  let c0_7450 : Index := 0#32
  let c0_7451 : Index := 0#32
  ![14, v13197.toNat, 0, 0]

def k1_chk63 (v13196 : BitVec 32) : Prop :=
  (∀ a, (k1_off63 v13196) a + S1x1x64x64.size a ≤ S16x25x64x64.size a)
theorem k1_off63_inb : ∀ (v13196 : BitVec 32) (k1_hw63 : k1_chk63 v13196), ∀ a, (k1_off63 v13196) a + S1x1x64x64.size a ≤ S16x25x64x64.size a := fun v13196 k1_hw63 => k1_hw63

def k1_off64 (v13202 : BitVec 32) : Fin 4 → Nat :=
  let c15_7452 : Index := 15#32
  let v13203 : Index := Scalar.indexCast v13202
  let c0_7453 : Index := 0#32
  let c0_7454 : Index := 0#32
  ![15, v13203.toNat, 0, 0]

def k1_chk64 (v13202 : BitVec 32) : Prop :=
  (∀ a, (k1_off64 v13202) a + S1x1x64x64.size a ≤ S16x25x64x64.size a)
theorem k1_off64_inb : ∀ (v13202 : BitVec 32) (k1_hw64 : k1_chk64 v13202), ∀ a, (k1_off64 v13202) a + S1x1x64x64.size a ≤ S16x25x64x64.size a := fun v13202 k1_hw64 => k1_hw64

abbrev stage1_0 : Fin 1 → Memref sig .tc .smem S96x4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S6x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S16x1x64x64 : Shape := ⟨4, ![16, 1, 64, 64]⟩
abbrev S6x1x64x64 : Shape := ⟨4, ![6, 1, 64, 64]⟩
abbrev S1x1x64x64 : Shape := ⟨4, ![1, 1, 64, 64]⟩
abbrev S64x64 : Shape := ⟨2, ![64, 64]⟩
abbrev S16x64x64 : Shape := ⟨3, ![16, 64, 64]⟩
abbrev S6x64x64 : Shape := ⟨3, ![6, 64, 64]⟩
abbrev S1x6x64x64 : Shape := ⟨4, ![1, 6, 64, 64]⟩
abbrev S16x6x64x64 : Shape := ⟨4, ![16, 6, 64, 64]⟩
abbrev S_ : Shape := ⟨0, ![]⟩
abbrev S96x64x64 : Shape := ⟨3, ![96, 64, 64]⟩
abbrev S16x6x4096 : Shape := ⟨3, ![16, 6, 4096]⟩
abbrev S16x6x4 : Shape := ⟨3, ![16, 6, 4]⟩
abbrev S6 : Shape := ⟨1, ![6]⟩
abbrev S1x6x1x1x1 : Shape := ⟨5, ![1, 6, 1, 1, 1]⟩
abbrev S64 : Shape := ⟨1, ![64]⟩
abbrev S64x1 : Shape := ⟨2, ![64, 1]⟩
abbrev S16x6x4x1x1 : Shape := ⟨5, ![16, 6, 4, 1, 1]⟩
abbrev S1x1x1x64x1 : Shape := ⟨5, ![1, 1, 1, 64, 1]⟩
abbrev S16x6x4x64x1 : Shape := ⟨5, ![16, 6, 4, 64, 1]⟩
abbrev S1x64 : Shape := ⟨2, ![1, 64]⟩
abbrev S1x1x1x1x64 : Shape := ⟨5, ![1, 1, 1, 1, 64]⟩
abbrev S16x6x4x1x64 : Shape := ⟨5, ![16, 6, 4, 1, 64]⟩
abbrev S16x6x4x64x64 : Shape := ⟨5, ![16, 6, 4, 64, 64]⟩
abbrev S16x6x4x64x64x1 : Shape := ⟨6, ![16, 6, 4, 64, 64, 1]⟩
abbrev S16x6x4x64x64x3 : Shape := ⟨6, ![16, 6, 4, 64, 64, 3]⟩
abbrev S16x24x64x64 : Shape := ⟨4, ![16, 24, 64, 64]⟩
abbrev S16x25x64x64 : Shape := ⟨4, ![16, 25, 64, 64]⟩
abbrev S16x25 : Shape := ⟨2, ![16, 25]⟩
abbrev S16x1 : Shape := ⟨2, ![16, 1]⟩
abbrev S16 : Shape := ⟨1, ![16]⟩
abbrev S25 : Shape := ⟨1, ![25]⟩
abbrev S1x25 : Shape := ⟨2, ![1, 25]⟩
abbrev S16x2 : Shape := ⟨2, ![16, 2]⟩
abbrev S1x64x64 : Shape := ⟨3, ![1, 64, 64]⟩

abbrev nBuf : Space → Nat
  | .hbm => 550
  | .vmem => 0
  | .smem => 0
  | _ => 0

abbrev hbmTy0_0 (i : Nat) : BufTy := match i % 128 with
  | 0 => ⟨S16x1x64x64, .f32⟩
  | 1 => ⟨S6x1x64x64, .f32⟩
  | 2 => ⟨S1x1x64x64, .f32⟩
  | 3 => ⟨S64x64, .f32⟩
  | 4 => ⟨S64x64, .f32⟩
  | 5 => ⟨S16x64x64, .f32⟩
  | 6 => ⟨S6x64x64, .f32⟩
  | 7 => ⟨S64x64, .f32⟩
  | 8 => ⟨S16x64x64, .f32⟩
  | 9 => ⟨S16x64x64, .f32⟩
  | 10 => ⟨S16x64x64, .f32⟩
  | 11 => ⟨S16x64x64, .f32⟩
  | 12 => ⟨S16x64x64, .f32⟩
  | 13 => ⟨S16x64x64, .f32⟩
  | 14 => ⟨S16x64x64, .f32⟩
  | 15 => ⟨S16x64x64, .f32⟩
  | 16 => ⟨S16x64x64, .f32⟩
  | 17 => ⟨S16x64x64, .f32⟩
  | 18 => ⟨S16x64x64, .f32⟩
  | 19 => ⟨S16x64x64, .f32⟩
  | 20 => ⟨S6x64x64, .f32⟩
  | 21 => ⟨S6x64x64, .f32⟩
  | 22 => ⟨S6x64x64, .f32⟩
  | 23 => ⟨S6x64x64, .f32⟩
  | 24 => ⟨S6x64x64, .f32⟩
  | 25 => ⟨S6x64x64, .f32⟩
  | 26 => ⟨S6x64x64, .f32⟩
  | 27 => ⟨S6x64x64, .f32⟩
  | 28 => ⟨S6x64x64, .f32⟩
  | 29 => ⟨S6x64x64, .f32⟩
  | 30 => ⟨S6x64x64, .f32⟩
  | 31 => ⟨S6x64x64, .f32⟩
  | 32 => ⟨S16x1x64x64, .f32⟩
  | 33 => ⟨S16x1x64x64, .f32⟩
  | 34 => ⟨S1x6x64x64, .f32⟩
  | 35 => ⟨S1x6x64x64, .f32⟩
  | 36 => ⟨S16x6x64x64, .f32⟩
  | 37 => ⟨S16x6x64x64, .f32⟩
  | 38 => ⟨S16x6x64x64, .f32⟩
  | 39 => ⟨S16x6x64x64, .f32⟩
  | 40 => ⟨S16x6x64x64, .f32⟩
  | 41 => ⟨S16x6x64x64, .f32⟩
  | 42 => ⟨S16x6x64x64, .f32⟩
  | 43 => ⟨S16x6x64x64, .f32⟩
  | 44 => ⟨S16x6x64x64, .f32⟩
  | 45 => ⟨S16x6x64x64, .f32⟩
  | 46 => ⟨S16x6x64x64, .f32⟩
  | 47 => ⟨S16x6x64x64, .f32⟩
  | 48 => ⟨S16x6x64x64, .f32⟩
  | 49 => ⟨S16x6x64x64, .f32⟩
  | 50 => ⟨S16x6x64x64, .f32⟩
  | 51 => ⟨S16x6x64x64, .f32⟩
  | 52 => ⟨S16x6x64x64, .f32⟩
  | 53 => ⟨S16x6x64x64, .f32⟩
  | 54 => ⟨S_, .f32⟩
  | 55 => ⟨S16x6x64x64, .f32⟩
  | 56 => ⟨S16x6x64x64, .f32⟩
  | 57 => ⟨S16x6x64x64, .f32⟩
  | 58 => ⟨S16x6x64x64, .f32⟩
  | 59 => ⟨S96x64x64, .f32⟩
  | 60 => ⟨S96x64x64, .f32⟩
  | 61 => ⟨S96x64x64, .f32⟩
  | 62 => ⟨S96x64x64, .f32⟩
  | 63 => ⟨S96x64x64, .f32⟩
  | 64 => ⟨S96x64x64, .f32⟩
  | 65 => ⟨S96x64x64, .f32⟩
  | 66 => ⟨S96x64x64, .f32⟩
  | 67 => ⟨S96x64x64, .f32⟩
  | 68 => ⟨S96x64x64, .f32⟩
  | 69 => ⟨S96x64x64, .f32⟩
  | 70 => ⟨S96x64x64, .f32⟩
  | 71 => ⟨S96x64x64, .f32⟩
  | 72 => ⟨S96x64x64, .f32⟩
  | 73 => ⟨S96x64x64, .f32⟩
  | 74 => ⟨S_, .f32⟩
  | 75 => ⟨S96x64x64, .f32⟩
  | 76 => ⟨S96x64x64, .f32⟩
  | 77 => ⟨S16x6x4096, .f32⟩
  | 78 => ⟨S16x6x4, .f32⟩
  | 79 => ⟨S16x6x4, .i32⟩
  | 80 => ⟨S_, .i32⟩
  | 81 => ⟨S16x6x4, .i32⟩
  | 82 => ⟨S16x6x4, .i32⟩
  | 83 => ⟨S_, .i32⟩
  | 84 => ⟨S16x6x4, .i32⟩
  | 85 => ⟨S16x6x4, .i32⟩
  | 86 => ⟨S6, .i32⟩
  | 87 => ⟨S1x6x1x1x1, .i32⟩
  | 88 => ⟨S64, .i32⟩
  | 89 => ⟨S64x1, .i32⟩
  | 90 => ⟨S_, .i32⟩
  | 91 => ⟨S64x1, .i32⟩
  | 92 => ⟨S64x1, .i32⟩
  | 93 => ⟨S16x6x4x1x1, .i32⟩
  | 94 => ⟨S1x1x1x64x1, .i32⟩
  | 95 => ⟨S16x6x4x64x1, .i32⟩
  | 96 => ⟨S16x6x4x64x1, .i32⟩
  | 97 => ⟨S16x6x4x64x1, .i32⟩
  | 98 => ⟨S_, .i32⟩
  | 99 => ⟨S16x6x4x64x1, .i32⟩
  | 100 => ⟨S16x6x4x64x1, .i32⟩
  | 101 => ⟨S64, .i32⟩
  | 102 => ⟨S1x64, .i32⟩
  | 103 => ⟨S_, .i32⟩
  | 104 => ⟨S1x64, .i32⟩
  | 105 => ⟨S1x64, .i32⟩
  | 106 => ⟨S16x6x4x1x1, .i32⟩
  | 107 => ⟨S1x1x1x1x64, .i32⟩
  | 108 => ⟨S16x6x4x1x64, .i32⟩
  | 109 => ⟨S16x6x4x1x64, .i32⟩
  | 110 => ⟨S16x6x4x1x64, .i32⟩
  | 111 => ⟨S_, .i32⟩
  | 112 => ⟨S16x6x4x1x64, .i32⟩
  | 113 => ⟨S16x6x4x1x64, .i32⟩
  | 114 => ⟨S_, .i32⟩
  | 115 => ⟨S1x6x1x1x1, .i32⟩
  | 116 => ⟨S1x6x1x1x1, .i1⟩
  | 117 => ⟨S_, .i32⟩
  | 118 => ⟨S1x6x1x1x1, .i32⟩
  | 119 => ⟨S1x6x1x1x1, .i32⟩
  | 120 => ⟨S1x6x1x1x1, .i32⟩
  | 121 => ⟨S_, .i32⟩
  | 122 => ⟨S16x6x4x64x1, .i32⟩
  | 123 => ⟨S16x6x4x64x1, .i1⟩
  | 124 => ⟨S_, .i32⟩
  | 125 => ⟨S16x6x4x64x1, .i32⟩
  | 126 => ⟨S16x6x4x64x1, .i32⟩
  | 127 => ⟨S16x6x4x64x1, .i32⟩
  | _ => ⟨S16x1x64x64, .f32⟩

abbrev hbmTy0_1 (i : Nat) : BufTy := match i % 128 with
  | 0 => ⟨S_, .i32⟩
  | 1 => ⟨S16x6x4x1x64, .i32⟩
  | 2 => ⟨S16x6x4x1x64, .i1⟩
  | 3 => ⟨S_, .i32⟩
  | 4 => ⟨S16x6x4x1x64, .i32⟩
  | 5 => ⟨S16x6x4x1x64, .i32⟩
  | 6 => ⟨S16x6x4x1x64, .i32⟩
  | 7 => ⟨S16x6x4x64x64, .i32⟩
  | 8 => ⟨S16x6x4x64x64, .i32⟩
  | 9 => ⟨S16x6x4x64x64, .i32⟩
  | 10 => ⟨S16x6x4x64x64x1, .i32⟩
  | 11 => ⟨S16x6x4x64x64x1, .i32⟩
  | 12 => ⟨S16x6x4x64x64x1, .i32⟩
  | 13 => ⟨S16x6x4x64x64x3, .i32⟩
  | 14 => ⟨S16x6x4x64x64, .f32⟩
  | 15 => ⟨S_, .f32⟩
  | 16 => ⟨S16x1x64x64, .f32⟩
  | 17 => ⟨S16x24x64x64, .f32⟩
  | 18 => ⟨S16x25x64x64, .f32⟩
  | 19 => ⟨S_, .f32⟩
  | 20 => ⟨S16x25, .f32⟩
  | 21 => ⟨S1x1x64x64, .f32⟩
  | 22 => ⟨S_, .f32⟩
  | 23 => ⟨S16x25x64x64, .f32⟩
  | 24 => ⟨S16x25x64x64, .i1⟩
  | 25 => ⟨S16x25x64x64, .f32⟩
  | 26 => ⟨S_, .f32⟩
  | 27 => ⟨S16x25x64x64, .f32⟩
  | 28 => ⟨S16x25x64x64, .f32⟩
  | 29 => ⟨S16x25x64x64, .f32⟩
  | 30 => ⟨S16x25x64x64, .f32⟩
  | 31 => ⟨S16x25x64x64, .f32⟩
  | 32 => ⟨S16x25x64x64, .f32⟩
  | 33 => ⟨S16x1x64x64, .f32⟩
  | 34 => ⟨S16x25x64x64, .f32⟩
  | 35 => ⟨S16x25x64x64, .f32⟩
  | 36 => ⟨S16x25x64x64, .f32⟩
  | 37 => ⟨S_, .f32⟩
  | 38 => ⟨S16x25, .f32⟩
  | 39 => ⟨S_, .f32⟩
  | 40 => ⟨S16x25, .f32⟩
  | 41 => ⟨S16x25, .f32⟩
  | 42 => ⟨S_, .f32⟩
  | 43 => ⟨S16x25, .f32⟩
  | 44 => ⟨S16x25, .i1⟩
  | 45 => ⟨S_, .f32⟩
  | 46 => ⟨S_, .f32⟩
  | 47 => ⟨S16x25, .f32⟩
  | 48 => ⟨S16x25, .f32⟩
  | 49 => ⟨S16x25, .f32⟩
  | 50 => ⟨S16x1, .f32⟩
  | 51 => ⟨S16x1, .i32⟩
  | 52 => ⟨S16, .i32⟩
  | 53 => ⟨S25, .i32⟩
  | 54 => ⟨S1x25, .i32⟩
  | 55 => ⟨S16x1, .i32⟩
  | 56 => ⟨S16x25, .i32⟩
  | 57 => ⟨S16x25, .i32⟩
  | 58 => ⟨S16x25, .i1⟩
  | 59 => ⟨S16x1, .i32⟩
  | 60 => ⟨S_, .i32⟩
  | 61 => ⟨S16x1, .i32⟩
  | 62 => ⟨S16x1, .i1⟩
  | 63 => ⟨S16x25, .i1⟩
  | 64 => ⟨S16x25, .i1⟩
  | 65 => ⟨S_, .f32⟩
  | 66 => ⟨S_, .f32⟩
  | 67 => ⟨S16x25, .f32⟩
  | 68 => ⟨S16x25, .f32⟩
  | 69 => ⟨S16x25, .f32⟩
  | 70 => ⟨S16x25, .f32⟩
  | 71 => ⟨S16x25, .f32⟩
  | 72 => ⟨S16, .i32⟩
  | 73 => ⟨S_, .i32⟩
  | 74 => ⟨S16, .i32⟩
  | 75 => ⟨S16, .i1⟩
  | 76 => ⟨S_, .i32⟩
  | 77 => ⟨S16, .i32⟩
  | 78 => ⟨S16, .i32⟩
  | 79 => ⟨S16, .i32⟩
  | 80 => ⟨S_, .i32⟩
  | 81 => ⟨S16, .i32⟩
  | 82 => ⟨S16, .i1⟩
  | 83 => ⟨S_, .i32⟩
  | 84 => ⟨S16, .i32⟩
  | 85 => ⟨S16, .i32⟩
  | 86 => ⟨S16, .i32⟩
  | 87 => ⟨S16x1, .i32⟩
  | 88 => ⟨S16x1, .i32⟩
  | 89 => ⟨S16x2, .i32⟩
  | 90 => ⟨S16x64x64, .f32⟩
  | 91 => ⟨S1x1x64x64, .f32⟩
  | 92 => ⟨S_, .f32⟩
  | 93 => ⟨S16x25x64x64, .f32⟩
  | 94 => ⟨S16x25x64x64, .i1⟩
  | 95 => ⟨S16x25x64x64, .f32⟩
  | 96 => ⟨S_, .f32⟩
  | 97 => ⟨S16x25x64x64, .f32⟩
  | 98 => ⟨S16x25x64x64, .f32⟩
  | 99 => ⟨S16x25x64x64, .f32⟩
  | 100 => ⟨S16x25x64x64, .f32⟩
  | 101 => ⟨S16x25x64x64, .f32⟩
  | 102 => ⟨S16x25x64x64, .f32⟩
  | 103 => ⟨S16x1x64x64, .f32⟩
  | 104 => ⟨S_, .f32⟩
  | 105 => ⟨S16x1x64x64, .f32⟩
  | 106 => ⟨S16x1x64x64, .i1⟩
  | 107 => ⟨S16x1x64x64, .f32⟩
  | 108 => ⟨S_, .f32⟩
  | 109 => ⟨S16x1x64x64, .f32⟩
  | 110 => ⟨S16x1x64x64, .f32⟩
  | 111 => ⟨S16x25x64x64, .f32⟩
  | 112 => ⟨S16x25x64x64, .f32⟩
  | 113 => ⟨S16x1x64x64, .f32⟩
  | 114 => ⟨S16x25x64x64, .f32⟩
  | 115 => ⟨S16x25x64x64, .f32⟩
  | 116 => ⟨S16x1x64x64, .f32⟩
  | 117 => ⟨S16x25x64x64, .f32⟩
  | 118 => ⟨S16x25x64x64, .f32⟩
  | 119 => ⟨S16x25x64x64, .f32⟩
  | 120 => ⟨S_, .f32⟩
  | 121 => ⟨S16x25, .f32⟩
  | 122 => ⟨S_, .f32⟩
  | 123 => ⟨S16x25, .f32⟩
  | 124 => ⟨S16x25, .f32⟩
  | 125 => ⟨S_, .f32⟩
  | 126 => ⟨S16x25, .f32⟩
  | 127 => ⟨S16x25, .i1⟩
  | _ => ⟨S16x1x64x64, .f32⟩

abbrev hbmTy0_2 (i : Nat) : BufTy := match i % 128 with
  | 0 => ⟨S_, .f32⟩
  | 1 => ⟨S_, .f32⟩
  | 2 => ⟨S16x25, .f32⟩
  | 3 => ⟨S16x25, .f32⟩
  | 4 => ⟨S16x25, .f32⟩
  | 5 => ⟨S16x1, .f32⟩
  | 6 => ⟨S16x1, .i32⟩
  | 7 => ⟨S16, .i32⟩
  | 8 => ⟨S25, .i32⟩
  | 9 => ⟨S1x25, .i32⟩
  | 10 => ⟨S16x1, .i32⟩
  | 11 => ⟨S16x25, .i32⟩
  | 12 => ⟨S16x25, .i32⟩
  | 13 => ⟨S16x25, .i1⟩
  | 14 => ⟨S16x1, .i32⟩
  | 15 => ⟨S_, .i32⟩
  | 16 => ⟨S16x1, .i32⟩
  | 17 => ⟨S16x1, .i1⟩
  | 18 => ⟨S16x25, .i1⟩
  | 19 => ⟨S16x25, .i1⟩
  | 20 => ⟨S_, .f32⟩
  | 21 => ⟨S_, .f32⟩
  | 22 => ⟨S16x25, .f32⟩
  | 23 => ⟨S16x25, .f32⟩
  | 24 => ⟨S16x25, .f32⟩
  | 25 => ⟨S16x25, .f32⟩
  | 26 => ⟨S16x25, .f32⟩
  | 27 => ⟨S16, .i32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S_, .i32⟩
  | 36 => ⟨S16, .i32⟩
  | 37 => ⟨S16, .i1⟩
  | 38 => ⟨S_, .i32⟩
  | 39 => ⟨S16, .i32⟩
  | 40 => ⟨S16, .i32⟩
  | 41 => ⟨S16, .i32⟩
  | 42 => ⟨S16x1, .i32⟩
  | 43 => ⟨S16x1, .i32⟩
  | 44 => ⟨S16x2, .i32⟩
  | 45 => ⟨S16x64x64, .f32⟩
  | 46 => ⟨S1x1x64x64, .f32⟩
  | 47 => ⟨S_, .f32⟩
  | 48 => ⟨S16x25x64x64, .f32⟩
  | 49 => ⟨S16x25x64x64, .i1⟩
  | 50 => ⟨S16x25x64x64, .f32⟩
  | 51 => ⟨S_, .f32⟩
  | 52 => ⟨S16x25x64x64, .f32⟩
  | 53 => ⟨S16x25x64x64, .f32⟩
  | 54 => ⟨S16x25x64x64, .f32⟩
  | 55 => ⟨S16x25x64x64, .f32⟩
  | 56 => ⟨S16x25x64x64, .f32⟩
  | 57 => ⟨S16x25x64x64, .f32⟩
  | 58 => ⟨S16x1x64x64, .f32⟩
  | 59 => ⟨S_, .f32⟩
  | 60 => ⟨S16x1x64x64, .f32⟩
  | 61 => ⟨S16x1x64x64, .i1⟩
  | 62 => ⟨S16x1x64x64, .f32⟩
  | 63 => ⟨S_, .f32⟩
  | 64 => ⟨S16x1x64x64, .f32⟩
  | 65 => ⟨S16x1x64x64, .f32⟩
  | 66 => ⟨S16x25x64x64, .f32⟩
  | 67 => ⟨S16x25x64x64, .f32⟩
  | 68 => ⟨S16x1x64x64, .f32⟩
  | 69 => ⟨S16x25x64x64, .f32⟩
  | 70 => ⟨S16x25x64x64, .f32⟩
  | 71 => ⟨S16x1x64x64, .f32⟩
  | 72 => ⟨S_, .f32⟩
  | 73 => ⟨S16x1x64x64, .f32⟩
  | 74 => ⟨S16x1x64x64, .i1⟩
  | 75 => ⟨S16x1x64x64, .f32⟩
  | 76 => ⟨S_, .f32⟩
  | 77 => ⟨S16x1x64x64, .f32⟩
  | 78 => ⟨S16x1x64x64, .f32⟩
  | 79 => ⟨S16x25x64x64, .f32⟩
  | 80 => ⟨S16x25x64x64, .f32⟩
  | 81 => ⟨S16x1x64x64, .f32⟩
  | 82 => ⟨S16x25x64x64, .f32⟩
  | 83 => ⟨S16x25x64x64, .f32⟩
  | 84 => ⟨S16x1x64x64, .f32⟩
  | 85 => ⟨S16x25x64x64, .f32⟩
  | 86 => ⟨S16x25x64x64, .f32⟩
  | 87 => ⟨S16x25x64x64, .f32⟩
  | 88 => ⟨S_, .f32⟩
  | 89 => ⟨S16x25, .f32⟩
  | 90 => ⟨S_, .f32⟩
  | 91 => ⟨S16x25, .f32⟩
  | 92 => ⟨S16x25, .f32⟩
  | 93 => ⟨S_, .f32⟩
  | 94 => ⟨S16x25, .f32⟩
  | 95 => ⟨S16x25, .i1⟩
  | 96 => ⟨S_, .f32⟩
  | 97 => ⟨S_, .f32⟩
  | 98 => ⟨S16x25, .f32⟩
  | 99 => ⟨S16x25, .f32⟩
  | 100 => ⟨S16x25, .f32⟩
  | 101 => ⟨S16x1, .f32⟩
  | 102 => ⟨S16x1, .i32⟩
  | 103 => ⟨S16, .i32⟩
  | 104 => ⟨S25, .i32⟩
  | 105 => ⟨S1x25, .i32⟩
  | 106 => ⟨S16x1, .i32⟩
  | 107 => ⟨S16x25, .i32⟩
  | 108 => ⟨S16x25, .i32⟩
  | 109 => ⟨S16x25, .i1⟩
  | 110 => ⟨S16x1, .i32⟩
  | 111 => ⟨S_, .i32⟩
  | 112 => ⟨S16x1, .i32⟩
  | 113 => ⟨S16x1, .i1⟩
  | 114 => ⟨S16x25, .i1⟩
  | 115 => ⟨S16x25, .i1⟩
  | 116 => ⟨S_, .f32⟩
  | 117 => ⟨S_, .f32⟩
  | 118 => ⟨S16x25, .f32⟩
  | 119 => ⟨S16x25, .f32⟩
  | 120 => ⟨S16x25, .f32⟩
  | 121 => ⟨S16x25, .f32⟩
  | 122 => ⟨S16x25, .f32⟩
  | 123 => ⟨S16, .i32⟩
  | 124 => ⟨S_, .i32⟩
  | 125 => ⟨S16, .i32⟩
  | 126 => ⟨S16, .i1⟩
  | 127 => ⟨S_, .i32⟩
  | _ => ⟨S16x1x64x64, .f32⟩

abbrev hbmTy0_3 (i : Nat) : BufTy := match i % 128 with
  | 0 => ⟨S16, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16x1, .i32⟩
  | 12 => ⟨S16x2, .i32⟩
  | 13 => ⟨S16x64x64, .f32⟩
  | 14 => ⟨S1x1x64x64, .f32⟩
  | 15 => ⟨S_, .f32⟩
  | 16 => ⟨S16x25x64x64, .f32⟩
  | 17 => ⟨S16x25x64x64, .i1⟩
  | 18 => ⟨S16x25x64x64, .f32⟩
  | 19 => ⟨S_, .f32⟩
  | 20 => ⟨S16x25x64x64, .f32⟩
  | 21 => ⟨S16x25x64x64, .f32⟩
  | 22 => ⟨S16x25x64x64, .f32⟩
  | 23 => ⟨S16x25x64x64, .f32⟩
  | 24 => ⟨S16x25x64x64, .f32⟩
  | 25 => ⟨S16x25x64x64, .f32⟩
  | 26 => ⟨S16x1x64x64, .f32⟩
  | 27 => ⟨S_, .f32⟩
  | 28 => ⟨S16x1x64x64, .f32⟩
  | 29 => ⟨S16x1x64x64, .i1⟩
  | 30 => ⟨S16x1x64x64, .f32⟩
  | 31 => ⟨S_, .f32⟩
  | 32 => ⟨S16x1x64x64, .f32⟩
  | 33 => ⟨S16x1x64x64, .f32⟩
  | 34 => ⟨S16x25x64x64, .f32⟩
  | 35 => ⟨S16x25x64x64, .f32⟩
  | 36 => ⟨S16x1x64x64, .f32⟩
  | 37 => ⟨S16x25x64x64, .f32⟩
  | 38 => ⟨S16x25x64x64, .f32⟩
  | 39 => ⟨S16x1x64x64, .f32⟩
  | 40 => ⟨S_, .f32⟩
  | 41 => ⟨S16x1x64x64, .f32⟩
  | 42 => ⟨S16x1x64x64, .i1⟩
  | 43 => ⟨S16x1x64x64, .f32⟩
  | 44 => ⟨S_, .f32⟩
  | 45 => ⟨S16x1x64x64, .f32⟩
  | 46 => ⟨S16x1x64x64, .f32⟩
  | 47 => ⟨S16x25x64x64, .f32⟩
  | 48 => ⟨S16x25x64x64, .f32⟩
  | 49 => ⟨S16x1x64x64, .f32⟩
  | 50 => ⟨S16x25x64x64, .f32⟩
  | 51 => ⟨S16x25x64x64, .f32⟩
  | 52 => ⟨S16x1x64x64, .f32⟩
  | 53 => ⟨S_, .f32⟩
  | 54 => ⟨S16x1x64x64, .f32⟩
  | 55 => ⟨S16x1x64x64, .i1⟩
  | 56 => ⟨S16x1x64x64, .f32⟩
  | 57 => ⟨S_, .f32⟩
  | 58 => ⟨S16x1x64x64, .f32⟩
  | 59 => ⟨S16x1x64x64, .f32⟩
  | 60 => ⟨S16x25x64x64, .f32⟩
  | 61 => ⟨S16x25x64x64, .f32⟩
  | 62 => ⟨S16x1x64x64, .f32⟩
  | 63 => ⟨S16x25x64x64, .f32⟩
  | 64 => ⟨S16x25x64x64, .f32⟩
  | 65 => ⟨S16x1x64x64, .f32⟩
  | 66 => ⟨S16x25x64x64, .f32⟩
  | 67 => ⟨S16x25x64x64, .f32⟩
  | 68 => ⟨S16x25x64x64, .f32⟩
  | 69 => ⟨S_, .f32⟩
  | 70 => ⟨S16x25, .f32⟩
  | 71 => ⟨S_, .f32⟩
  | 72 => ⟨S16x25, .f32⟩
  | 73 => ⟨S16x25, .f32⟩
  | 74 => ⟨S_, .f32⟩
  | 75 => ⟨S16x25, .f32⟩
  | 76 => ⟨S16x25, .i1⟩
  | 77 => ⟨S_, .f32⟩
  | 78 => ⟨S_, .f32⟩
  | 79 => ⟨S16x25, .f32⟩
  | 80 => ⟨S16x25, .f32⟩
  | 81 => ⟨S16x25, .f32⟩
  | 82 => ⟨S16x1, .f32⟩
  | 83 => ⟨S16x1, .i32⟩
  | 84 => ⟨S16, .i32⟩
  | 85 => ⟨S25, .i32⟩
  | 86 => ⟨S1x25, .i32⟩
  | 87 => ⟨S16x1, .i32⟩
  | 88 => ⟨S16x25, .i32⟩
  | 89 => ⟨S16x25, .i32⟩
  | 90 => ⟨S16x25, .i1⟩
  | 91 => ⟨S16x1, .i32⟩
  | 92 => ⟨S_, .i32⟩
  | 93 => ⟨S16x1, .i32⟩
  | 94 => ⟨S16x1, .i1⟩
  | 95 => ⟨S16x25, .i1⟩
  | 96 => ⟨S16x25, .i1⟩
  | 97 => ⟨S_, .f32⟩
  | 98 => ⟨S_, .f32⟩
  | 99 => ⟨S16x25, .f32⟩
  | 100 => ⟨S16x25, .f32⟩
  | 101 => ⟨S16x25, .f32⟩
  | 102 => ⟨S16x25, .f32⟩
  | 103 => ⟨S16x25, .f32⟩
  | 104 => ⟨S16, .i32⟩
  | 105 => ⟨S_, .i32⟩
  | 106 => ⟨S16, .i32⟩
  | 107 => ⟨S16, .i1⟩
  | 108 => ⟨S_, .i32⟩
  | 109 => ⟨S16, .i32⟩
  | 110 => ⟨S16, .i32⟩
  | 111 => ⟨S16, .i32⟩
  | 112 => ⟨S_, .i32⟩
  | 113 => ⟨S16, .i32⟩
  | 114 => ⟨S16, .i1⟩
  | 115 => ⟨S_, .i32⟩
  | 116 => ⟨S16, .i32⟩
  | 117 => ⟨S16, .i32⟩
  | 118 => ⟨S16, .i32⟩
  | 119 => ⟨S16x1, .i32⟩
  | 120 => ⟨S16x1, .i32⟩
  | 121 => ⟨S16x2, .i32⟩
  | 122 => ⟨S16x64x64, .f32⟩
  | 123 => ⟨S1x64x64, .f32⟩
  | 124 => ⟨S_, .f32⟩
  | 125 => ⟨S16x64x64, .f32⟩
  | 126 => ⟨S16x64x64, .i1⟩
  | 127 => ⟨S16x64x64, .f32⟩
  | _ => ⟨S16x1x64x64, .f32⟩

abbrev hbmTy0_4 (i : Nat) : BufTy := match i % 128 with
  | 0 => ⟨S_, .f32⟩
  | 1 => ⟨S16x64x64, .f32⟩
  | 2 => ⟨S16x64x64, .f32⟩
  | 3 => ⟨S16x64x64, .f32⟩
  | 4 => ⟨S16x64x64, .f32⟩
  | 5 => ⟨S16x64x64, .f32⟩
  | 6 => ⟨S16x64x64, .f32⟩
  | 7 => ⟨S_, .f32⟩
  | 8 => ⟨S16x64x64, .f32⟩
  | 9 => ⟨S16x64x64, .i1⟩
  | 10 => ⟨S16x64x64, .f32⟩
  | 11 => ⟨S_, .f32⟩
  | 12 => ⟨S16x64x64, .f32⟩
  | 13 => ⟨S16x64x64, .f32⟩
  | 14 => ⟨S16x64x64, .f32⟩
  | 15 => ⟨S16x64x64, .f32⟩
  | 16 => ⟨S16x64x64, .f32⟩
  | 17 => ⟨S_, .f32⟩
  | 18 => ⟨S16x64x64, .f32⟩
  | 19 => ⟨S16x64x64, .i1⟩
  | 20 => ⟨S16x64x64, .f32⟩
  | 21 => ⟨S_, .f32⟩
  | 22 => ⟨S16x64x64, .f32⟩
  | 23 => ⟨S16x64x64, .f32⟩
  | 24 => ⟨S16x64x64, .f32⟩
  | 25 => ⟨S16x64x64, .f32⟩
  | 26 => ⟨S16x64x64, .f32⟩
  | 27 => ⟨S_, .f32⟩
  | 28 => ⟨S16x64x64, .f32⟩
  | 29 => ⟨S16x64x64, .i1⟩
  | 30 => ⟨S16x64x64, .f32⟩
  | 31 => ⟨S_, .f32⟩
  | 32 => ⟨S16x64x64, .f32⟩
  | 33 => ⟨S16x64x64, .f32⟩
  | 34 => ⟨S16x64x64, .f32⟩
  | 35 => ⟨S16x64x64, .f32⟩
  | 36 => ⟨S16x64x64, .f32⟩
  | 37 => ⟨S16x1x64x64, .f32⟩
  | _ => ⟨S16x1x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x1x64x64, .f32⟩

abbrev bufTy : (tb : Table) → Fin (tcTables nBuf tb) → BufTy
  | .hbm, ⟨i, _⟩ => hbmTy i
  | _, _ => ⟨S16x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_1 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_cst_2 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_values : Ref sig .tc := ⟨.hbm, 78, rfl⟩
abbrev main_indices : Ref sig .tc := ⟨.hbm, 79, rfl⟩
abbrev main_c : Ref sig .tc := ⟨.hbm, 80, rfl⟩
abbrev main_v71 : Ref sig .tc := ⟨.hbm, 81, rfl⟩
abbrev main_v72 : Ref sig .tc := ⟨.hbm, 82, rfl⟩
abbrev main_c_3 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_c_4 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_c_5 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_c_6 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_c_7 : Ref sig .tc := ⟨.hbm, 111, rfl⟩
abbrev main_v97 : Ref sig .tc := ⟨.hbm, 112, rfl⟩
abbrev main_v98 : Ref sig .tc := ⟨.hbm, 113, rfl⟩
abbrev main_c_8 : Ref sig .tc := ⟨.hbm, 114, rfl⟩
abbrev main_v99 : Ref sig .tc := ⟨.hbm, 115, rfl⟩
abbrev main_v100 : Ref sig .tc := ⟨.hbm, 116, rfl⟩
abbrev main_c_9 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_c_10 : Ref sig .tc := ⟨.hbm, 121, rfl⟩
abbrev main_v104 : Ref sig .tc := ⟨.hbm, 122, rfl⟩
abbrev main_v105 : Ref sig .tc := ⟨.hbm, 123, rfl⟩
abbrev main_c_11 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_c_12 : Ref sig .tc := ⟨.hbm, 128, rfl⟩
abbrev main_v109 : Ref sig .tc := ⟨.hbm, 129, rfl⟩
abbrev main_v110 : Ref sig .tc := ⟨.hbm, 130, rfl⟩
abbrev main_c_13 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_14 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_15 : Ref sig .tc := ⟨.hbm, 147, rfl⟩
abbrev main_v125 : Ref sig .tc := ⟨.hbm, 148, rfl⟩
abbrev main_v126 : Ref sig .tc := ⟨.hbm, 149, rfl⟩
abbrev main_cst_16 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_17 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_18 : Ref sig .tc := ⟨.hbm, 165, rfl⟩
abbrev main_v140 : Ref sig .tc := ⟨.hbm, 166, rfl⟩
abbrev main_cst_19 : Ref sig .tc := ⟨.hbm, 167, rfl⟩
abbrev main_v141 : Ref sig .tc := ⟨.hbm, 168, rfl⟩
abbrev main_v142 : Ref sig .tc := ⟨.hbm, 169, rfl⟩
abbrev main_cst_20 : Ref sig .tc := ⟨.hbm, 170, rfl⟩
abbrev main_v143 : Ref sig .tc := ⟨.hbm, 171, rfl⟩
abbrev main_v144 : Ref sig .tc := ⟨.hbm, 172, rfl⟩
abbrev main_cst_21 : Ref sig .tc := ⟨.hbm, 173, rfl⟩
abbrev main_call0_v0 : Ref sig .tc := ⟨.hbm, 174, rfl⟩
abbrev main_call0_v1 : Ref sig .tc := ⟨.hbm, 175, rfl⟩
abbrev main_v145 : Ref sig .tc := ⟨.hbm, 176, rfl⟩
abbrev main_v146 : Ref sig .tc := ⟨.hbm, 177, rfl⟩
abbrev main_values_22 : Ref sig .tc := ⟨.hbm, 178, rfl⟩
abbrev main_indices_23 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_c_24 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_25 : Ref sig .tc := ⟨.hbm, 193, rfl⟩
abbrev main_cst_26 : Ref sig .tc := ⟨.hbm, 194, rfl⟩
abbrev main_call1_v0 : Ref sig .tc := ⟨.hbm, 195, rfl⟩
abbrev main_call1_v1 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_c_27 : Ref sig .tc := ⟨.hbm, 201, rfl⟩
abbrev main_v163 : Ref sig .tc := ⟨.hbm, 202, rfl⟩
abbrev main_v164 : Ref sig .tc := ⟨.hbm, 203, rfl⟩
abbrev main_c_28 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_c_29 : Ref sig .tc := ⟨.hbm, 208, rfl⟩
abbrev main_v168 : Ref sig .tc := ⟨.hbm, 209, rfl⟩
abbrev main_v169 : Ref sig .tc := ⟨.hbm, 210, rfl⟩
abbrev main_c_30 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_cst_31 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_cst_32 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_33 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_cst_34 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_35 : Ref sig .tc := ⟨.hbm, 248, rfl⟩
abbrev main_v202 : Ref sig .tc := ⟨.hbm, 249, rfl⟩
abbrev main_cst_36 : Ref sig .tc := ⟨.hbm, 250, rfl⟩
abbrev main_v203 : Ref sig .tc := ⟨.hbm, 251, rfl⟩
abbrev main_v204 : Ref sig .tc := ⟨.hbm, 252, rfl⟩
abbrev main_cst_37 : Ref sig .tc := ⟨.hbm, 253, rfl⟩
abbrev main_v205 : Ref sig .tc := ⟨.hbm, 254, rfl⟩
abbrev main_v206 : Ref sig .tc := ⟨.hbm, 255, rfl⟩
abbrev main_cst_38 : Ref sig .tc := ⟨.hbm, 256, rfl⟩
abbrev main_call2_v0 : Ref sig .tc := ⟨.hbm, 257, rfl⟩
abbrev main_call2_v1 : Ref sig .tc := ⟨.hbm, 258, rfl⟩
abbrev main_v207 : Ref sig .tc := ⟨.hbm, 259, rfl⟩
abbrev main_v208 : Ref sig .tc := ⟨.hbm, 260, rfl⟩
abbrev main_values_39 : Ref sig .tc := ⟨.hbm, 261, rfl⟩
abbrev main_indices_40 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_c_41 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_42 : Ref sig .tc := ⟨.hbm, 276, rfl⟩
abbrev main_cst_43 : Ref sig .tc := ⟨.hbm, 277, rfl⟩
abbrev main_call3_v0 : Ref sig .tc := ⟨.hbm, 278, rfl⟩
abbrev main_call3_v1 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_c_44 : Ref sig .tc := ⟨.hbm, 284, rfl⟩
abbrev main_v225 : Ref sig .tc := ⟨.hbm, 285, rfl⟩
abbrev main_v226 : Ref sig .tc := ⟨.hbm, 286, rfl⟩
abbrev main_c_45 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_c_46 : Ref sig .tc := ⟨.hbm, 291, rfl⟩
abbrev main_v230 : Ref sig .tc := ⟨.hbm, 292, rfl⟩
abbrev main_v231 : Ref sig .tc := ⟨.hbm, 293, rfl⟩
abbrev main_c_47 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_cst_48 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_cst_49 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_cst_50 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_cst_51 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_52 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_cst_53 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_cst_54 : Ref sig .tc := ⟨.hbm, 344, rfl⟩
abbrev main_v275 : Ref sig .tc := ⟨.hbm, 345, rfl⟩
abbrev main_cst_55 : Ref sig .tc := ⟨.hbm, 346, rfl⟩
abbrev main_v276 : Ref sig .tc := ⟨.hbm, 347, rfl⟩
abbrev main_v277 : Ref sig .tc := ⟨.hbm, 348, rfl⟩
abbrev main_cst_56 : Ref sig .tc := ⟨.hbm, 349, rfl⟩
abbrev main_v278 : Ref sig .tc := ⟨.hbm, 350, rfl⟩
abbrev main_v279 : Ref sig .tc := ⟨.hbm, 351, rfl⟩
abbrev main_cst_57 : Ref sig .tc := ⟨.hbm, 352, rfl⟩
abbrev main_call4_v0 : Ref sig .tc := ⟨.hbm, 353, rfl⟩
abbrev main_call4_v1 : Ref sig .tc := ⟨.hbm, 354, rfl⟩
abbrev main_v280 : Ref sig .tc := ⟨.hbm, 355, rfl⟩
abbrev main_v281 : Ref sig .tc := ⟨.hbm, 356, rfl⟩
abbrev main_values_58 : Ref sig .tc := ⟨.hbm, 357, rfl⟩
abbrev main_indices_59 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_c_60 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_cst_61 : Ref sig .tc := ⟨.hbm, 372, rfl⟩
abbrev main_cst_62 : Ref sig .tc := ⟨.hbm, 373, rfl⟩
abbrev main_call5_v0 : Ref sig .tc := ⟨.hbm, 374, rfl⟩
abbrev main_call5_v1 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_c_63 : Ref sig .tc := ⟨.hbm, 380, rfl⟩
abbrev main_v298 : Ref sig .tc := ⟨.hbm, 381, rfl⟩
abbrev main_v299 : Ref sig .tc := ⟨.hbm, 382, rfl⟩
abbrev main_c_64 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_c_65 : Ref sig .tc := ⟨.hbm, 387, rfl⟩
abbrev main_v303 : Ref sig .tc := ⟨.hbm, 388, rfl⟩
abbrev main_v304 : Ref sig .tc := ⟨.hbm, 389, rfl⟩
abbrev main_c_66 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_v312 : Ref sig .tc := ⟨.hbm, 398, rfl⟩
abbrev main_cst_67 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_cst_68 : Ref sig .tc := ⟨.hbm, 403, rfl⟩
abbrev main_v316 : Ref sig .tc := ⟨.hbm, 404, rfl⟩
abbrev main_v317 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_cst_69 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_cst_70 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_cst_71 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_cst_72 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_cst_73 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_cst_74 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_cst_75 : Ref sig .tc := ⟨.hbm, 453, rfl⟩
abbrev main_v359 : Ref sig .tc := ⟨.hbm, 454, rfl⟩
abbrev main_cst_76 : Ref sig .tc := ⟨.hbm, 455, rfl⟩
abbrev main_v360 : Ref sig .tc := ⟨.hbm, 456, rfl⟩
abbrev main_v361 : Ref sig .tc := ⟨.hbm, 457, rfl⟩
abbrev main_cst_77 : Ref sig .tc := ⟨.hbm, 458, rfl⟩
abbrev main_v362 : Ref sig .tc := ⟨.hbm, 459, rfl⟩
abbrev main_v363 : Ref sig .tc := ⟨.hbm, 460, rfl⟩
abbrev main_cst_78 : Ref sig .tc := ⟨.hbm, 461, rfl⟩
abbrev main_call6_v0 : Ref sig .tc := ⟨.hbm, 462, rfl⟩
abbrev main_call6_v1 : Ref sig .tc := ⟨.hbm, 463, rfl⟩
abbrev main_v364 : Ref sig .tc := ⟨.hbm, 464, rfl⟩
abbrev main_v365 : Ref sig .tc := ⟨.hbm, 465, rfl⟩
abbrev main_values_79 : Ref sig .tc := ⟨.hbm, 466, rfl⟩
abbrev main_indices_80 : Ref sig .tc := ⟨.hbm, 467, rfl⟩
abbrev main_v366 : Ref sig .tc := ⟨.hbm, 468, rfl⟩
abbrev main_v367 : Ref sig .tc := ⟨.hbm, 469, rfl⟩
abbrev main_v368 : Ref sig .tc := ⟨.hbm, 470, rfl⟩
abbrev main_v369 : Ref sig .tc := ⟨.hbm, 471, rfl⟩
abbrev main_v370 : Ref sig .tc := ⟨.hbm, 472, rfl⟩
abbrev main_v371 : Ref sig .tc := ⟨.hbm, 473, rfl⟩
abbrev main_v372 : Ref sig .tc := ⟨.hbm, 474, rfl⟩
abbrev main_v373 : Ref sig .tc := ⟨.hbm, 475, rfl⟩
abbrev main_c_81 : Ref sig .tc := ⟨.hbm, 476, rfl⟩
abbrev main_v374 : Ref sig .tc := ⟨.hbm, 477, rfl⟩
abbrev main_v375 : Ref sig .tc := ⟨.hbm, 478, rfl⟩
abbrev main_v376 : Ref sig .tc := ⟨.hbm, 479, rfl⟩
abbrev main_v377 : Ref sig .tc := ⟨.hbm, 480, rfl⟩
abbrev main_cst_82 : Ref sig .tc := ⟨.hbm, 481, rfl⟩
abbrev main_cst_83 : Ref sig .tc := ⟨.hbm, 482, rfl⟩
abbrev main_call7_v0 : Ref sig .tc := ⟨.hbm, 483, rfl⟩
abbrev main_call7_v1 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_v381 : Ref sig .tc := ⟨.hbm, 488, rfl⟩
abbrev main_c_84 : Ref sig .tc := ⟨.hbm, 489, rfl⟩
abbrev main_v382 : Ref sig .tc := ⟨.hbm, 490, rfl⟩
abbrev main_v383 : Ref sig .tc := ⟨.hbm, 491, rfl⟩
abbrev main_c_85 : Ref sig .tc := ⟨.hbm, 492, rfl⟩
abbrev main_v384 : Ref sig .tc := ⟨.hbm, 493, rfl⟩
abbrev main_v385 : Ref sig .tc := ⟨.hbm, 494, rfl⟩
abbrev main_v386 : Ref sig .tc := ⟨.hbm, 495, rfl⟩
abbrev main_c_86 : Ref sig .tc := ⟨.hbm, 496, rfl⟩
abbrev main_v387 : Ref sig .tc := ⟨.hbm, 497, rfl⟩
abbrev main_v388 : Ref sig .tc := ⟨.hbm, 498, rfl⟩
abbrev main_c_87 : Ref sig .tc := ⟨.hbm, 499, rfl⟩
abbrev main_v389 : Ref sig .tc := ⟨.hbm, 500, rfl⟩
abbrev main_v390 : Ref sig .tc := ⟨.hbm, 501, rfl⟩
abbrev main_v391 : Ref sig .tc := ⟨.hbm, 502, rfl⟩
abbrev main_v392 : Ref sig .tc := ⟨.hbm, 503, rfl⟩
abbrev main_v393 : Ref sig .tc := ⟨.hbm, 504, rfl⟩
abbrev main_v394 : Ref sig .tc := ⟨.hbm, 505, rfl⟩
abbrev main_v395 : Ref sig .tc := ⟨.hbm, 506, rfl⟩
abbrev main_v396 : Ref sig .tc := ⟨.hbm, 507, rfl⟩
abbrev main_cst_88 : Ref sig .tc := ⟨.hbm, 508, rfl⟩
abbrev main_v397 : Ref sig .tc := ⟨.hbm, 509, rfl⟩
abbrev main_v398 : Ref sig .tc := ⟨.hbm, 510, rfl⟩
abbrev main_v399 : Ref sig .tc := ⟨.hbm, 511, rfl⟩
abbrev main_cst_89 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_cst_90 : Ref sig .tc := ⟨.hbm, 519, rfl⟩
abbrev main_v406 : Ref sig .tc := ⟨.hbm, 520, rfl⟩
abbrev main_v407 : Ref sig .tc := ⟨.hbm, 521, rfl⟩
abbrev main_v408 : Ref sig .tc := ⟨.hbm, 522, rfl⟩
abbrev main_cst_91 : Ref sig .tc := ⟨.hbm, 523, rfl⟩
abbrev main_v409 : Ref sig .tc := ⟨.hbm, 524, rfl⟩
abbrev main_v410 : Ref sig .tc := ⟨.hbm, 525, rfl⟩
abbrev main_v411 : Ref sig .tc := ⟨.hbm, 526, rfl⟩
abbrev main_v412 : Ref sig .tc := ⟨.hbm, 527, rfl⟩
abbrev main_v413 : Ref sig .tc := ⟨.hbm, 528, rfl⟩
abbrev main_cst_92 : Ref sig .tc := ⟨.hbm, 529, rfl⟩
abbrev main_v414 : Ref sig .tc := ⟨.hbm, 530, rfl⟩
abbrev main_v415 : Ref sig .tc := ⟨.hbm, 531, rfl⟩
abbrev main_v416 : Ref sig .tc := ⟨.hbm, 532, rfl⟩
abbrev main_cst_93 : Ref sig .tc := ⟨.hbm, 533, rfl⟩
abbrev main_v417 : Ref sig .tc := ⟨.hbm, 534, rfl⟩
abbrev main_v418 : Ref sig .tc := ⟨.hbm, 535, rfl⟩
abbrev main_v419 : Ref sig .tc := ⟨.hbm, 536, rfl⟩
abbrev main_v420 : Ref sig .tc := ⟨.hbm, 537, rfl⟩
abbrev main_v421 : Ref sig .tc := ⟨.hbm, 538, rfl⟩
abbrev main_cst_94 : Ref sig .tc := ⟨.hbm, 539, rfl⟩
abbrev main_v422 : Ref sig .tc := ⟨.hbm, 540, rfl⟩
abbrev main_v423 : Ref sig .tc := ⟨.hbm, 541, rfl⟩
abbrev main_v424 : Ref sig .tc := ⟨.hbm, 542, rfl⟩
abbrev main_cst_95 : Ref sig .tc := ⟨.hbm, 543, rfl⟩
abbrev main_v425 : Ref sig .tc := ⟨.hbm, 544, rfl⟩
abbrev main_v426 : Ref sig .tc := ⟨.hbm, 545, rfl⟩
abbrev main_v427 : Ref sig .tc := ⟨.hbm, 546, rfl⟩
abbrev main_v428 : Ref sig .tc := ⟨.hbm, 547, rfl⟩
abbrev main_v429 : Ref sig .tc := ⟨.hbm, 548, rfl⟩
abbrev main_v430 : Ref sig .tc := ⟨.hbm, 549, rfl⟩

abbrev nD : Nat := 1
abbrev τ : Topo := Topo.v7x

variable {F : FTy → Type} [FloatOps F]
-- ==== Proof.SelectText.lean ====
/-
  The two kernel bodies as short programs: the printed bodies are unrolled (384 rolls, 64 gathers), the programs here
  are the same loads, stores and operations written as loops over the prototypes and images. `corr_text` and
  `select_text` state that the printed bodies ARE these programs.
-/
module

public import proofs.«01_k».proof.Proof.Gen.KernelIdeal
public import Idealize.ShloMosaic.Lib.Tactic

@[expose] public section

noncomputable section

namespace Cert.Proof.Kern

open Cert.KernelIdeal Cert.KernelIdeal.Gen
open Idealize.ShloMosaic Idealize.SL.Sem

variable {F : FTy → Type} [FloatOps F]

/-! ## The correlation kernel -/

/-- `-t`, as the kernel writes it. -/
def neg64 (t : FVec F S64x64 .f32) : FVec F S64x64 .f32 := subf (broadcast S64x64 (Scalar.ofBits .f32 0x00000000#32)) t

/-- Every image's rows against the rows of the table `t`, laid out `[row, image · 64 + column]`. -/
def rowsBy (imgs : FVec F S22x64x64 .f32) (t : FVec F S64x64 .f32) : FVec F S64x1408 .f32 :=
  shapeCast S64x1408 (transpose S64x22x64 [1, 0, 2] (shapeCast S22x64x64
    (matmul dot_S1408x64_S64x64_S1408x64_1_0_0_1_n_n (some .fp32) (shapeCast S1408x64 imgs shapeCasts_S22x64x64_S1408x64)
      (transpose S64x64 [1, 0] t transposes_S64x64_p1_0_S64x64) (constant S1408x64 .f32 0x00000000#32))
    shapeCasts_S1408x64_S22x64x64) transposes_S22x64x64_p1_0_2_S64x22x64) shapeCasts_S64x22x64_S64x1408

/-- The images and the prototypes together. -/
def allImgs (x : FVec F S16x64x64 .f32) (p : FVec F S6x64x64 .f32) : FVec F S22x64x64 .f32 :=
  concatenate S22x64x64 0 [⟨S16x64x64, shapeCast S16x64x64 x shapeCasts_S16x64x64_S16x64x64⟩,
    ⟨S6x64x64, shapeCast S6x64x64 p shapeCasts_S6x64x64_S6x64x64⟩] concatenates_S16x64x64_S6x64x64_S22x64x64_d0

/-- The left factor `[a | b]`. -/
def beside (a b : FVec F S64x64 .f32) : FVec F S64x128 .f32 :=
  concatenate S64x128 1 [⟨S64x64, a⟩, ⟨S64x64, b⟩] concatenates_S64x64_S64x64_S64x128_d1

/-- The forward transform along the other axis: `[a | b]` against the stacked half transforms. -/
def forward (imgs : FVec F S22x64x64 .f32) (dr di a b : FVec F S64x64 .f32) : FVec F S64x1408 .f32 :=
  matmul dot_S64x128_S128x1408_S64x1408_1_0_0_1_n_n (some .fp32) (beside a b)
    (concatenate S128x1408 0 [⟨S64x1408, rowsBy imgs dr⟩, ⟨S64x1408, rowsBy imgs di⟩] concatenates_S64x1408_S64x1408_S128x1408_d0)
    (constant S64x1408 .f32 0x00000000#32)

/-- The images' part of a transform, once per pair (image, prototype). -/
def perImage (f : FVec F S64x1408 .f32) : FVec F S64x6144 .f32 :=
  shapeCast S64x6144 (broadcastTo S64x16x6x64 (shapeCast S64x16x1x64 (shapeCast S64x16x1x64
    (extractStridedSlice S64x1024 ![0, 0] f slices_S64x1408_o0_0_S64x1024) shapeCasts_S64x1024_S64x16x1x64)
    shapeCasts_S64x16x1x64_S64x16x1x64) broadcasts_S64x16x1x64_S64x16x6x64) shapeCasts_S64x16x6x64_S64x6144

/-- The prototypes' part of a transform, once per pair (image, prototype). -/
def perProto (f : FVec F S64x1408 .f32) : FVec F S64x6144 .f32 :=
  shapeCast S64x6144 (broadcastTo S64x16x6x64 (shapeCast S64x1x6x64 (shapeCast S64x1x6x64
    (extractStridedSlice S64x384 ![0, 1024] f slices_S64x1408_o0_1024_S64x384) shapeCasts_S64x384_S64x1x6x64)
    shapeCasts_S64x1x6x64_S64x1x6x64) broadcasts_S64x1x6x64_S64x16x6x64) shapeCasts_S64x16x6x64_S64x6144

/-- The real part of image transform times conjugate prototype transform. -/
def crossRe (exr exi epr epi : FVec F S64x6144 .f32) : FVec F S64x6144 .f32 := addf (mulf exr epr) (mulf exi epi)
/-- Its imaginary part. -/
def crossIm (exr exi epr epi : FVec F S64x6144 .f32) : FVec F S64x6144 .f32 := subf (mulf exi epr) (mulf exr epi)
/-- Its modulus, plus the small constant. -/
def modulus (cr ci : FVec F S64x6144 .f32) : FVec F S64x6144 .f32 :=
  addf (sqrt (addf (mulf cr cr) (mulf ci ci))) (broadcast S64x6144 (Scalar.ofBits .f32 0x322BCC77#32))

/-- The inverse transform along the rows: `[a | b]` against the stacked normalised products, laid out `[pair · 64 + row, column]`. -/
def backRows (cr ci : FVec F S64x6144 .f32) (a b : FVec F S64x64 .f32) : FVec F S6144x64 .f32 :=
  shapeCast S6144x64 (transpose S96x64x64 [1, 0, 2] (shapeCast S64x96x64
    (matmul dot_S64x128_S128x6144_S64x6144_1_0_0_1_n_n (some .fp32) (beside a b)
      (concatenate S128x6144 0 [⟨S64x6144, cr⟩, ⟨S64x6144, ci⟩] concatenates_S64x6144_S64x6144_S128x6144_d0)
      (constant S64x6144 .f32 0x00000000#32))
    shapeCasts_S64x6144_S64x96x64) transposes_S64x96x64_p1_0_2_S96x64x64) shapeCasts_S96x64x64_S6144x64

/-- The inverse transform's real part, from the normalised products and the scaled tables. -/
def back (cr ci : FVec F S64x6144 .f32) (er ei : FVec F S64x64 .f32) : FVec F S96x64x64 .f32 :=
  shapeCast S96x64x64 (matmul dot_S6144x128_S128x64_S6144x64_1_0_0_1_n_n (some .fp32)
    (concatenate S6144x128 1 [⟨S6144x64, backRows cr ci er (neg64 ei)⟩, ⟨S6144x64, backRows cr ci ei er⟩] concatenates_S6144x64_S6144x64_S6144x128_d1)
    (concatenate S128x64 0 [⟨S64x64, transpose S64x64 [1, 0] er transposes_S64x64_p1_0_S64x64⟩,
      ⟨S64x64, neg64 (transpose S64x64 [1, 0] ei transposes_S64x64_p1_0_S64x64)⟩] concatenates_S64x64_S64x64_S128x64_d0)
    (constant S6144x64 .f32 0x00000000#32)) shapeCasts_S6144x64_S96x64x64

/-- The phase correlation of every pair from the four products' factors. -/
def corrFrom (exr exi epr epi : FVec F S64x6144 .f32) (dr di : FVec F S64x64 .f32) : FVec F S96x64x64 .f32 :=
  back (divf (crossRe exr exi epr epi) (modulus (crossRe exr exi epr epi) (crossIm exr exi epr epi)))
    (divf (crossIm exr exi epr epi) (modulus (crossRe exr exi epr epi) (crossIm exr exi epr epi)))
    (mulf dr (broadcast S64x64 (Scalar.ofBits .f32 0x3C800000#32))) (mulf di (broadcast S64x64 (Scalar.ofBits .f32 0xBC800000#32)))

/-- The phase correlation of every pair (image, prototype). -/
def corr (x : FVec F S16x64x64 .f32) (p : FVec F S6x64x64 .f32) (dr di : FVec F S64x64 .f32) : FVec F S96x64x64 .f32 :=
  corrFrom (perImage (forward (allImgs x p) dr di dr (neg64 di))) (perImage (forward (allImgs x p) dr di di dr))
    (perProto (forward (allImgs x p) dr di dr (neg64 di))) (perProto (forward (allImgs x p) dr di di dr)) dr di

/-- The position `64 · row + column`. -/
def lin : IVec S1x64x64 32 :=
  addi (muli (iota .tc S1x64x64 32 [1] iota_S1x64x64_d1_w32) (broadcast S1x64x64 64#32)) (iota .tc S1x64x64 32 [2] iota_S1x64x64_d2_w32)

/-- The first position at which each pair's array is greatest. -/
def peak (work : FVec F S96x64x64 .f32) : IVec S96x1x1 32 :=
  shapeCast S96x1x1 (multiReductionI .minsi [1, 2] S96 (select
    (cmpf .oeq work (broadcastTo S96x64x64 (shapeCast S96x1x1
      (multiReduction .maximumf [1, 2] S96 work 0xFF800000#32 reduces_S96x64x64_S96 (.inl rfl) rfl) shapeCasts_S96_S96x1x1) broadcasts_S96x1x1_S96x64x64))
    (broadcastTo S96x64x64 (shapeCast S1x64x64 lin shapeCasts_S1x64x64_S1x64x64) broadcasts_S1x64x64_S96x64x64)
    (broadcast S96x64x64 1073741824#32)) 2147483647#32 reduces_S96x64x64_S96 rfl) shapeCasts_S96_S96x1x1

/-- The array with that position replaced by a value below every other. -/
def strike (work : FVec F S96x64x64 .f32) : FVec F S96x64x64 .f32 :=
  select (cmpi .eq (broadcastTo S96x64x64 lin broadcasts_S1x64x64_S96x64x64) (broadcastTo S96x64x64 (peak work) broadcasts_S96x1x1_S96x64x64))
    (broadcast S96x64x64 (Scalar.ofBits .f32 0xFF61B1E6#32)) work

/-- Each pair's four highest positions, from its correlation. -/
def peaks (c : FVec F S96x64x64 .f32) : IVec S96x4 32 :=
  concatenate S96x4 1 [⟨S96x1, shapeCast S96x1 (peak c) shapeCasts_S96x1x1_S96x1⟩, ⟨S96x1, shapeCast S96x1 (peak (strike c)) shapeCasts_S96x1x1_S96x1⟩,
    ⟨S96x1, shapeCast S96x1 (peak (strike (strike c))) shapeCasts_S96x1x1_S96x1⟩,
    ⟨S96x1, shapeCast S96x1 (peak (strike (strike (strike c)))) shapeCasts_S96x1x1_S96x1⟩] concatenates_S96x1_S96x1_S96x1_S96x1_S96x4_d1

/-- The first kernel: four loads, and the peaks stored. -/
def corrProg (arg0 : Memref sig .tc .vmem S16x64x64 .f32) (arg1 : Memref sig .tc .vmem S6x64x64 .f32)
    (arg2 : Memref sig .tc .vmem S64x64 .f32) (arg3 : Memref sig .tc .vmem S64x64 .f32) (arg4 : Memref sig .tc .vmem S96x4 .i32) :
    Prog (TpuEff nD τ sig (Elt F) Λ₀ .tc) PUnit := do
  let dr : Vec F S64x64 .f32 ← Prog.lift (.load arg2 (Rect.unit (s := S64x64) ![0, 0] S64x64.size inb_S64x64_S64x64_0_0).toLoadRect (View.loadsAt_vmem h_S64x64))
  let di : Vec F S64x64 .f32 ← Prog.lift (.load arg3 (Rect.unit (s := S64x64) ![0, 0] S64x64.size inb_S64x64_S64x64_0_0).toLoadRect (View.loadsAt_vmem h_S64x64))
  let x : Vec F S16x64x64 .f32 ← Prog.lift (.load arg0 (Rect.unit (s := S16x64x64) ![0, 0, 0] S16x64x64.size inb_S16x64x64_S16x64x64_0_0_0).toLoadRect (View.loadsAt_vmem h_S16x64x64))
  let p : Vec F S6x64x64 .f32 ← Prog.lift (.load arg1 (Rect.unit (s := S6x64x64) ![0, 0, 0] S6x64x64.size inb_S6x64x64_S6x64x64_0_0_0).toLoadRect (View.loadsAt_vmem h_S6x64x64))
  let _ : Vec F S96x4 .i32 ← Prog.lift (.load arg4 (Rect.unit (s := S96x4) ![0, 0] S96x4.size inb_S96x4_S96x4_0_0).toLoadRect (View.loadsAt_vmem h_S96x4))
  Prog.lift (.store arg4 (Rect.unit (s := S96x4) ![0, 0] S96x4.size inb_S96x4_S96x4_0_0) (peaks (corr x p dr di)) Finset.univ (View.stores_vmem_bits_univ h_S96x4 rfl) (.inl rfl))
  pure ⟨⟩

/-- The printed first kernel is that program. -/
theorem corr_text (arg0 : Memref sig .tc .vmem S16x64x64 .f32) (h0 : arg0.IsWhole) (arg1 : Memref sig .tc .vmem S6x64x64 .f32) (h1 : arg1.IsWhole)
    (arg2 : Memref sig .tc .vmem S64x64 .f32) (h2 : arg2.IsWhole) (arg3 : Memref sig .tc .vmem S64x64 .f32) (h3 : arg3.IsWhole)
    (arg4 : Memref sig .tc .vmem S96x4 .i32) (h4 : arg4.IsWhole) :
    cc0__corr_kernel (F := F) arg0 h0 arg1 h1 arg2 h2 arg3 h3 arg4 h4 = corrProg arg0 arg1 arg2 arg3 arg4 := by
  sl_kernel_rfl

/-! ## The selection kernel: rolling the prototypes -/

/-- The row `⌊ii / 64⌋`, as the kernel computes it. -/
def rowOf (ii : BitVec 32) : BitVec 32 :=
  Scalar.select (Scalar.andi (Scalar.cmpi .ne
      (Scalar.subi (Scalar.extui (Scalar.cmpi .sgt ii 0#32)) (Scalar.extui (Scalar.cmpi .slt ii 0#32)) : BitVec 32)
      (Scalar.subi (Scalar.extui (Scalar.cmpi .sgt (64#32 : BitVec 32) 0#32)) (Scalar.extui (Scalar.cmpi .slt (64#32 : BitVec 32) 0#32))))
    (Scalar.cmpi .ne (Scalar.remsi ii 64#32) 0#32)) (Scalar.subi (Scalar.divsi ii 64#32) 1#32) (Scalar.divsi ii 64#32)

/-- The divisor, as the kernel guards it against zero. -/
def div64 : BitVec 32 := Scalar.select (Scalar.cmpi .eq (64#32 : BitVec 32) 0#32) 1#32 64#32

/-- The column `ii mod 64`, as the kernel computes it. -/
def colOf (ii : BitVec 32) : BitVec 32 :=
  Scalar.select (Scalar.andi (Scalar.xori (Scalar.cmpi .slt (Scalar.remsi ii div64) 0#32) (Scalar.cmpi .slt div64 0#32))
    (Scalar.cmpi .ne (Scalar.remsi ii div64) 0#32)) (Scalar.addi (Scalar.remsi ii div64) div64) (Scalar.remsi ii div64)

/-- The prototype rolled to the position `ii`. -/
def rolled (pr : FVec F S64x64 .f32) (ii : BitVec 32) : FVec F S64x64 .f32 :=
  dynamicRotate 1 (colOf ii) none (dynamicRotate 0 (rowOf ii) none pr rotates_S64x64_d0) rotates_S64x64_d1

theorem word_inb (b p t : Nat) : ∀ a, (![b % 16 * 6 + p % 6, t % 4] : Fin 2 → Nat) a + S1x1.size a ≤ S96x4.size a := by
  intro a; fin_cases a
  · show b % 16 * 6 + p % 6 + 1 ≤ 96; omega
  · show t % 4 + 1 ≤ 4; omega

theorem cell_inb (b k : Nat) : ∀ a, (![b % 16, k % 25, 0, 0] : Fin 4 → Nat) a + S1x1x64x64.size a ≤ S16x25x64x64.size a := by
  intro a; fin_cases a
  · show b % 16 + 1 ≤ 16; omega
  · show k % 25 + 1 ≤ 25; omega
  · show 0 + 64 ≤ 64; omega
  · show 0 + 64 ≤ 64; omega

theorem proto_inb (p : Nat) : ∀ a, (![p % 6, 0, 0] : Fin 3 → Nat) a + S1x64x64.size a ≤ S6x64x64.size a := by
  intro a; fin_cases a
  · show p % 6 + 1 ≤ 6; omega
  · show 0 + 64 ≤ 64; omega
  · show 0 + 64 ≤ 64; omega

/-- `f k`, `f (k + 1)`, … : `n` programs in turn. -/
def inTurn (f : Nat → Prog (TpuEff nD τ sig (Elt F) Λ₀ .tc) PUnit) : Nat → Nat → Prog (TpuEff nD τ sig (Elt F) Λ₀ .tc) PUnit
  | 0, _ => pure ⟨⟩
  | n + 1, k => f k >>= fun _ => inTurn f n (k + 1)

/-- One roll: step `k` of a prototype is peak `k mod 4` of image `k / 4`. -/
def rollStep (arg0 : Memref sig .tc .smem S96x4 .i32) (arg5 : Memref sig .tc .vmem S16x25x64x64 .f32) (p : Nat) (pr : FVec F S64x64 .f32) (k : Nat) :
    Prog (TpuEff nD τ sig (Elt F) Λ₀ .tc) PUnit := do
  let ii : Elt F .i32 ← smemLoad arg0 (Rect.unit (s := S96x4) ![k / 4 % 16 * 6 + p % 6, k % 4] S1x1.size (word_inb (k / 4) p k)) numel1_S1x1 rfl
  let _ : Vec F S1x1x64x64 .f32 ← Prog.lift (.load arg5 (Rect.unit (s := S16x25x64x64) ![k / 4 % 16, (1 + 4 * p + k % 4) % 25, 0, 0] S1x1x64x64.size (cell_inb (k / 4) (1 + 4 * p + k % 4))).toLoadRect (View.loadsAt_vmem h_S1x1x64x64))
  Prog.lift (.store arg5 (Rect.unit (s := S16x25x64x64) ![k / 4 % 16, (1 + 4 * p + k % 4) % 25, 0, 0] S1x1x64x64.size (cell_inb (k / 4) (1 + 4 * p + k % 4)))
    (shapeCast S1x1x64x64 (rolled pr ii) shapeCasts_S64x64_S1x1x64x64) Finset.univ (View.stores_vmem_bits_univ h_S1x1x64x64 rfl) (.inl rfl))

/-- All rolls of prototype `p`. -/
def rollProto (arg0 : Memref sig .tc .smem S96x4 .i32) (arg2 : Memref sig .tc .vmem S6x64x64 .f32) (arg5 : Memref sig .tc .vmem S16x25x64x64 .f32) (p : Nat) :
    Prog (TpuEff nD τ sig (Elt F) Λ₀ .tc) PUnit := do
  let pr : Vec F S1x64x64 .f32 ← Prog.lift (.load arg2 (Rect.unit (s := S6x64x64) ![p % 6, 0, 0] S1x64x64.size (proto_inb p)).toLoadRect (View.loadsAt_vmem h_S1x64x64))
  inTurn (rollStep arg0 arg5 p (shapeCast S64x64 pr shapeCasts_S1x64x64_S64x64)) 64 0

/-- The empty templates. -/
def noTemplate : FVec F S16x1x64x64 .f32 :=
  shapeCast S16x1x64x64 (broadcast S16x64x64 (Scalar.ofBits .f32 0x00000000#32)) shapeCasts_S16x64x64_S16x1x64x64

/-- The templates written: the empty one, then every prototype's rolls. -/
def fillProg (arg0 : Memref sig .tc .smem S96x4 .i32) (arg2 : Memref sig .tc .vmem S6x64x64 .f32) (arg5 : Memref sig .tc .vmem S16x25x64x64 .f32) :
    Prog (TpuEff nD τ sig (Elt F) Λ₀ .tc) PUnit := do
  let _ : Vec F S16x1x64x64 .f32 ← Prog.lift (.load arg5 (Rect.unit (s := S16x25x64x64) ![0, 0, 0, 0] S16x1x64x64.size inb_S16x25x64x64_S16x1x64x64_0_0_0_0).toLoadRect (View.loadsAt_vmem h_S16x1x64x64))
  Prog.lift (.store arg5 (Rect.unit (s := S16x25x64x64) ![0, 0, 0, 0] S16x1x64x64.size inb_S16x25x64x64_S16x1x64x64_0_0_0_0) noTemplate Finset.univ (View.stores_vmem_bits_univ h_S16x1x64x64 rfl) (.inl rfl))
  inTurn (rollProto arg0 arg2 arg5) 6 0

/-! ## The selection kernel: the greedy rounds -/

/-- The squared difference every candidate makes at every pixel: from the candidate where it covers, else from the background. -/
def diffs (x : FVec F S16x64x64 .f32) (bg : FVec F S64x64 .f32) (temps : FVec F S16x25x64x64 .f32) : FVec F S16x25x64x64 .f32 :=
  select (cmpf .ogt temps (broadcast S16x25x64x64 (Scalar.ofBits .f32 0x3DCCCCCD#32)))
    (mulf (subf (broadcastTo S16x25x64x64 (shapeCast S16x1x64x64 x shapeCasts_S16x64x64_S16x1x64x64) broadcasts_S16x1x64x64_S16x25x64x64) temps)
      (subf (broadcastTo S16x25x64x64 (shapeCast S16x1x64x64 x shapeCasts_S16x64x64_S16x1x64x64) broadcasts_S16x1x64x64_S16x25x64x64) temps))
    (broadcastTo S16x25x64x64 (shapeCast S16x1x64x64 (shapeCast S16x1x64x64
      (mulf (subf x (broadcastTo S16x64x64 (shapeCast S1x64x64 bg shapeCasts_S64x64_S1x64x64) broadcasts_S1x64x64_S16x64x64))
        (subf x (broadcastTo S16x64x64 (shapeCast S1x64x64 bg shapeCasts_S64x64_S1x64x64) broadcasts_S1x64x64_S16x64x64)))
      shapeCasts_S16x64x64_S16x1x64x64) shapeCasts_S16x1x64x64_S16x1x64x64) broadcasts_S16x1x64x64_S16x25x64x64)

/-- The mean of those differences over the pixels. -/
def meanOver (q : FVec F S16x25x64x64 .f32) : FVec F S16x25 .f32 :=
  mulf (multiReduction .add [2, 3] S16x25 q 0x00000000#32 reduces_S16x25x64x64_S16x25 (.inl rfl) rfl) (broadcast S16x25 (Scalar.ofBits .f32 0x39800000#32))

/-- The candidates' numbers. -/
def cands : IVec S16x25 32 := iota .tc S16x25 32 [1] iota_S16x25_d1_w32

/-- The errors with the used candidates out of reach. -/
def reach (used : IVec S16x25 1) (e : FVec F S16x25 .f32) : FVec F S16x25 .f32 :=
  select used (broadcast S16x25 (Scalar.ofBits .f32 0x4CBEBC20#32)) e

/-- Every image's first candidate of least error. -/
def best (em : FVec F S16x25 .f32) : IVec S16x1 32 :=
  shapeCast S16x1 (multiReductionI .minsi [1] S16 (select
    (cmpf .oeq em (broadcastTo S16x25 (shapeCast S16x1 (multiReduction .minimumf [1] S16 em 0x7F800000#32 reduces_S16x25_S16 (.inl rfl) rfl)
      shapeCasts_S16_S16x1) broadcasts_S16x1_S16x25)) cands (broadcast S16x25 25#32)) 2147483647#32 reduces_S16x25_S16 rfl) shapeCasts_S16_S16x1

/-- The candidates used after `sel` is taken: the empty one never is. -/
def useAlso (used : IVec S16x25 1) (sel : IVec S16x1 32) : IVec S16x25 1 :=
  ori used (andi (cmpi .eq cands (broadcastTo S16x25 sel broadcasts_S16x1_S16x25))
    (broadcastTo S16x25 (cmpi .sgt sel (broadcast S16x1 0#32)) broadcasts_S16x1_S16x25))

theorem sel_slices (b : Nat) (hb : b < 16) : S16x1.Slices ![b, 0] S1x1 := by
  refine ⟨rfl, fun a => ?_⟩
  fin_cases a
  · show b + 1 ≤ 16; omega
  · show 0 + 1 ≤ 1; omega

/-- Image `b`'s entry of `sel`. -/
def selAt (sel : IVec S16x1 32) (b : Nat) (hb : b < 16) : BitVec 32 :=
  extractAt ![0, 0] (extractStridedSlice S1x1 ![b, 0] sel (sel_slices b hb)) inpos_S1x1_p0_0

/-- Where template `v` of image `b` lies. -/
def pickOff (b : Nat) (v : BitVec 32) : Fin 4 → Nat := ![b, (Scalar.indexCast v).toNat, 0, 0]
/-- Template `v` of image `b` lies within the array. -/
def PickOk (b : Nat) (v : BitVec 32) : Prop := ∀ a, pickOff b v a + S1x1x64x64.size a ≤ S16x25x64x64.size a
instance PickOk.dec (b : Nat) (v : BitVec 32) : Decidable (PickOk b v) := decidable_of_iff' _ (Iff.of_eq (PickOk.eq_1 b v))

/-- The chosen template of image `b`. -/
def pick (arg5 : Memref sig .tc .vmem S16x25x64x64 .f32) (sel : IVec S16x1 32) (b : Nat) (hb : b < 16) :
    Prog (TpuEff nD τ sig (Elt F) Λ₀ .tc) (FVec F S1x64x64 .f32) := do
  have ok : PickOk b (selAt sel b hb) := (← Prog.lift (TpuEff.assume (PickOk b (selAt sel b hb)) (PickOk.dec b (selAt sel b hb)))).down
  let t : Vec F S1x1x64x64 .f32 ← Prog.lift (.load arg5 (Rect.unit (s := S16x25x64x64) (pickOff b (selAt sel b hb)) S1x1x64x64.size ok).toLoadRect (View.loadsAt_vmem h_S1x1x64x64))
  pure (shapeCast S1x64x64 (shapeCast S64x64 t shapeCasts_S1x1x64x64_S64x64) shapeCasts_S64x64_S1x64x64)

/-- Sixteen images' templates together. -/
def stack (v : Fin 16 → FVec F S1x64x64 .f32) : FVec F S16x64x64 .f32 :=
  concatenate S16x64x64 0 [⟨S1x64x64, v 0⟩, ⟨S1x64x64, v 1⟩, ⟨S1x64x64, v 2⟩, ⟨S1x64x64, v 3⟩, ⟨S1x64x64, v 4⟩, ⟨S1x64x64, v 5⟩, ⟨S1x64x64, v 6⟩, ⟨S1x64x64, v 7⟩, ⟨S1x64x64, v 8⟩, ⟨S1x64x64, v 9⟩, ⟨S1x64x64, v 10⟩, ⟨S1x64x64, v 11⟩, ⟨S1x64x64, v 12⟩, ⟨S1x64x64, v 13⟩, ⟨S1x64x64, v 14⟩, ⟨S1x64x64, v 15⟩]
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0

/-- Every image's chosen template. -/
def gatherProg (arg5 : Memref sig .tc .vmem S16x25x64x64 .f32) (sel : IVec S16x1 32) : Prog (TpuEff nD τ sig (Elt F) Λ₀ .tc) (FVec F S16x64x64 .f32) := do
  let c0 ← pick arg5 sel 0 (by decide)
  let c1 ← pick arg5 sel 1 (by decide)
  let c2 ← pick arg5 sel 2 (by decide)
  let c3 ← pick arg5 sel 3 (by decide)
  let c4 ← pick arg5 sel 4 (by decide)
  let c5 ← pick arg5 sel 5 (by decide)
  let c6 ← pick arg5 sel 6 (by decide)
  let c7 ← pick arg5 sel 7 (by decide)
  let c8 ← pick arg5 sel 8 (by decide)
  let c9 ← pick arg5 sel 9 (by decide)
  let c10 ← pick arg5 sel 10 (by decide)
  let c11 ← pick arg5 sel 11 (by decide)
  let c12 ← pick arg5 sel 12 (by decide)
  let c13 ← pick arg5 sel 13 (by decide)
  let c14 ← pick arg5 sel 14 (by decide)
  let c15 ← pick arg5 sel 15 (by decide)
  pure (stack ![c0, c1, c2, c3, c4, c5, c6, c7, c8, c9, c10, c11, c12, c13, c14, c15])

/-- Where the chosen templates cover. -/
def covers (ch : FVec F S16x64x64 .f32) : IVec S16x64x64 1 := cmpf .ogt ch (broadcast S16x64x64 (Scalar.ofBits .f32 0x3DCCCCCD#32))
/-- Where they cover what nothing covered yet. -/
def fresh (ch : FVec F S16x64x64 .f32) (cov : IVec S16x64x64 1) : IVec S16x64x64 1 := andi (covers ch) (xori cov (constantI S16x64x64 1 1#1))
/-- The values shown, after the chosen templates' own. -/
def showAlso (ch : FVec F S16x64x64 .f32) (cov : IVec S16x64x64 1) (vals : FVec F S16x64x64 .f32) : FVec F S16x64x64 .f32 := select (fresh ch cov) ch vals
/-- Where anything covers, after the chosen templates. -/
def coverAlso (ch : FVec F S16x64x64 .f32) (cov : IVec S16x64x64 1) : IVec S16x64x64 1 := ori cov (covers ch)
/-- The errors less what the freshly covered pixels contributed. -/
def settle (q : FVec F S16x25x64x64 .f32) (ch : FVec F S16x64x64 .f32) (cov : IVec S16x64x64 1) (e : FVec F S16x25 .f32) : FVec F S16x25 .f32 :=
  subf e (meanOver (mulf q (broadcastTo S16x25x64x64 (sitofp .f32 (extui 32 (shapeCast S16x1x64x64 (fresh ch cov) shapeCasts_S16x64x64_S16x1x64x64) natLt_1_32)) broadcasts_S16x1x64x64_S16x25x64x64)))

/-- What a round leaves: errors, used candidates, covered pixels, shown values. -/
structure RoundState (F : FTy → Type) [FloatOps F] where
  e : FVec F S16x25 .f32
  used : IVec S16x25 1
  cov : IVec S16x64x64 1
  vals : FVec F S16x64x64 .f32

/-- A round's outcome, the chosen templates given. -/
def RoundState.next (q : FVec F S16x25x64x64 .f32) (s : RoundState F) (ch : FVec F S16x64x64 .f32) : RoundState F :=
  ⟨settle q ch s.cov s.e, useAlso s.used (best (reach s.used s.e)), coverAlso ch s.cov, showAlso ch s.cov s.vals⟩

/-- One greedy round. -/
def roundProg (arg5 : Memref sig .tc .vmem S16x25x64x64 .f32) (q : FVec F S16x25x64x64 .f32) (s : RoundState F) :
    Prog (TpuEff nD τ sig (Elt F) Λ₀ .tc) (RoundState F) := do
  let ch ← gatherProg arg5 (best (reach s.used s.e))
  pure (s.next q ch)

/-- The state before the first round. -/
def RoundState.start (q : FVec F S16x25x64x64 .f32) : RoundState F :=
  ⟨meanOver q, broadcast S16x25 0#1, broadcast S16x64x64 0#1, broadcast S16x64x64 (Scalar.ofBits .f32 0x00000000#32)⟩

/-- The result: the shown values where anything covers, else the background. -/
def compose (bg : FVec F S64x64 .f32) (s : RoundState F) : FVec F S16x64x64 .f32 :=
  select s.cov s.vals (broadcastTo S16x64x64 (shapeCast S1x64x64 (shapeCast S1x64x64 bg shapeCasts_S64x64_S1x64x64) shapeCasts_S1x64x64_S1x64x64) broadcasts_S1x64x64_S16x64x64)

/-- The four rounds and the result's store. -/
def greedyProg (arg1 : Memref sig .tc .vmem S16x64x64 .f32) (arg3 : Memref sig .tc .vmem S64x64 .f32) (arg4 : Memref sig .tc .vmem S16x64x64 .f32)
    (arg5 : Memref sig .tc .vmem S16x25x64x64 .f32) : Prog (TpuEff nD τ sig (Elt F) Λ₀ .tc) PUnit := do
  let x : Vec F S16x64x64 .f32 ← Prog.lift (.load arg1 (Rect.unit (s := S16x64x64) ![0, 0, 0] S16x64x64.size inb_S16x64x64_S16x64x64_0_0_0).toLoadRect (View.loadsAt_vmem h_S16x64x64))
  let bg : Vec F S64x64 .f32 ← Prog.lift (.load arg3 (Rect.unit (s := S64x64) ![0, 0] S64x64.size inb_S64x64_S64x64_0_0).toLoadRect (View.loadsAt_vmem h_S64x64))
  let temps : Vec F S16x25x64x64 .f32 ← Prog.lift (.load arg5 (Rect.unit (s := S16x25x64x64) ![0, 0, 0, 0] S16x25x64x64.size inb_S16x25x64x64_S16x25x64x64_0_0_0_0).toLoadRect (View.loadsAt_vmem h_S16x25x64x64))
  let s1 ← roundProg arg5 (diffs (shapeCast S16x64x64 x shapeCasts_S16x64x64_S16x64x64) (shapeCast S64x64 bg shapeCasts_S64x64_S64x64) temps) (RoundState.start (diffs (shapeCast S16x64x64 x shapeCasts_S16x64x64_S16x64x64) (shapeCast S64x64 bg shapeCasts_S64x64_S64x64) temps))
  let s2 ← roundProg arg5 (diffs (shapeCast S16x64x64 x shapeCasts_S16x64x64_S16x64x64) (shapeCast S64x64 bg shapeCasts_S64x64_S64x64) temps) s1
  let s3 ← roundProg arg5 (diffs (shapeCast S16x64x64 x shapeCasts_S16x64x64_S16x64x64) (shapeCast S64x64 bg shapeCasts_S64x64_S64x64) temps) s2
  let s4 ← roundProg arg5 (diffs (shapeCast S16x64x64 x shapeCasts_S16x64x64_S16x64x64) (shapeCast S64x64 bg shapeCasts_S64x64_S64x64) temps) s3
  let _ : Vec F S16x64x64 .f32 ← Prog.lift (.load arg4 (Rect.unit (s := S16x64x64) ![0, 0, 0] S16x64x64.size inb_S16x64x64_S16x64x64_0_0_0).toLoadRect (View.loadsAt_vmem h_S16x64x64))
  Prog.lift (.store arg4 (Rect.unit (s := S16x64x64) ![0, 0, 0] S16x64x64.size inb_S16x64x64_S16x64x64_0_0_0) (compose (shapeCast S64x64 bg shapeCasts_S64x64_S64x64) s4) Finset.univ (View.stores_vmem_bits_univ h_S16x64x64 rfl) (.inl rfl))
  pure ⟨⟩

/-- The second kernel. -/
def selectProg (arg0 : Memref sig .tc .smem S96x4 .i32) (arg1 : Memref sig .tc .vmem S16x64x64 .f32) (arg2 : Memref sig .tc .vmem S6x64x64 .f32)
    (arg3 : Memref sig .tc .vmem S64x64 .f32) (arg4 : Memref sig .tc .vmem S16x64x64 .f32) (arg5 : Memref sig .tc .vmem S16x25x64x64 .f32) :
    Prog (TpuEff nD τ sig (Elt F) Λ₀ .tc) PUnit := do
  fillProg arg0 arg2 arg5
  greedyProg arg1 arg3 arg4 arg5

/-- The printed second kernel is that program. -/
theorem select_text (arg0 : Memref sig .tc .smem S96x4 .i32) (h0 : arg0.IsWhole) (arg1 : Memref sig .tc .vmem S16x64x64 .f32) (h1 : arg1.IsWhole)
    (arg2 : Memref sig .tc .vmem S6x64x64 .f32) (h2 : arg2.IsWhole) (arg3 : Memref sig .tc .vmem S64x64 .f32) (h3 : arg3.IsWhole)
    (arg4 : Memref sig .tc .vmem S16x64x64 .f32) (h4 : arg4.IsWhole) (arg5 : Memref sig .tc .vmem S16x25x64x64 .f32) (h5 : arg5.IsWhole) :
    cc1__select_kernel (F := F) arg0 h0 arg1 h1 arg2 h2 arg3 h3 arg4 h4 arg5 h5 = selectProg arg0 arg1 arg2 arg3 arg4 arg5 := by
  sl_kernel_rfl

end Cert.Proof.Kern

end
-- ==== Proof.BodyRun.lean ====
/-
  What the two kernel bodies do to the buffers they are handed: the first leaves the peaks of the correlation in its
  result, the second the selection's result. The selection's templates are written one by one into a scratch buffer; the
  invariant says which of them are in place, and at the end all are, whatever the scratch held before.
-/
module

public import proofs.«01_k».proof.Proof.SelectText
public import proofs.«01_k».proof.Proof.Gen.KernelIdeal.Launch
public import Idealize.ShloMosaic.Lib.Pipeline.Frame
public import Idealize.ShloMosaic.Lib.Pipeline.Regions
public import Idealize.ShloMosaic.Lib.Pointwise

@[expose] public section

noncomputable section

namespace Cert.Proof.Kern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's, beside its counters. -/
abbrev UU : Type := UR sig nD τ × Counters

local notation "𝕄" => MT nD τ sig Unit (Elt F) ℕ UU ℕ

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

variable {α : Type}

/-- A load from a buffer held whole. -/
theorem load_at (c : Dev nD) {sp : CoreSpace} {S : Shape} {e : EltTy} (M : Memref sig .tc sp S e) (r : LoadRect S) {hl : M.view.LoadsAt r}
    {k : (r.shape.Idx → Elt F e) → Prog (TpuEff nD τ sig (Elt F) Λ₀ .tc) α} {E : Set ℕ} {Q : α → sProp 𝕄} (f : Buf (Elt F) (M.view.loc (c : Thread nD τ))) :
    pt c M f ⊢ iprop((pt c M f -∗ wp frame (wpE (defs₀ (F := F)) Variants.none c none) E (k (M.view.readAt (Elt F) r f)) Q)
      -∗ wp frame (wpE (defs₀ (F := F)) Variants.none c none) E (.op (.load M r hl) k) Q) :=
  wp_load (m := M) (r := r) (f := f) (k := k) (hl := hl) (defs := defs₀ (F := F)) Variants.none (c : Thread nD τ) none E (Finset.subset_univ _)

/-- A store to a buffer held whole. -/
theorem store_at (c : Dev nD) {sp : CoreSpace} {S : Shape} {e : EltTy} (M : Memref sig .tc sp S e) (r : Rect S) {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {E : Set ℕ} {Q : α → sProp 𝕄} (f : Buf (Elt F) (M.view.loc (c : Thread nD τ))) :
    pt c M f ⊢ iprop((pt c M ((M.access r).write (Elt F) f w Finset.univ) -∗ wp frame (wpE (defs₀ (F := F)) Variants.none c none) E (k ⟨⟩) Q)
      -∗ wp frame (wpE (defs₀ (F := F)) Variants.none c none) E (.op (.store M r w Finset.univ hx hm) k) Q) :=
  wp_store (m := M) (r := r) (f := f) (k := k) (hx := hx) (hm := hm) (defs := defs₀ (F := F)) Variants.none (c : Thread nD τ) none E (Finset.subset_univ _)

/-- A word read from a buffer of scalars held whole. -/
theorem word_at (c : Dev nD) {S : Shape} {e : EltTy} (M : Memref sig .tc .smem S e) (r : Rect S) {hw : (M.access r).Loads} {x : r.shape.Idx}
    {k : Elt F e → Prog (TpuEff nD τ sig (Elt F) Λ₀ .tc) α} {E : Set ℕ} {Q : α → sProp 𝕄} (f : Buf (Elt F) (M.view.loc (c : Thread nD τ))) :
    pt c M f ⊢ iprop((pt c M f -∗ wp frame (wpE (defs₀ (F := F)) Variants.none c none) E (k ((M.access r).read (Elt F) f x)) Q)
      -∗ wp frame (wpE (defs₀ (F := F)) Variants.none c none) E (smemLoadElt M r hw x k) Q) :=
  wp_smemLoadElt (m := M) (r := r) (f := f) (k := k) (hw := hw) (x := x) (defs := defs₀ (F := F)) Variants.none (c : Thread nD τ) none E (Finset.subset_univ _)

/-- A program that returns. -/
theorem returns (c : Dev nD) (a : α) {E : Set ℕ} {Q : α → sProp 𝕄} :
    Q a ⊢ wp frame (wpE (defs₀ (F := F)) Variants.none c none) E (.ret a) Q := by
  rw [wp_ret]; exact BI.fupd_intro

theorem two_zeros : (![0, 0] : Fin 2 → Nat) = fun _ => 0 := by funext a; fin_cases a <;> rfl
theorem three_zeros : (![0, 0, 0] : Fin 3 → Nat) = fun _ => 0 := by funext a; fin_cases a <;> rfl
theorem four_zeros : (![0, 0, 0, 0] : Fin 4 → Nat) = fun _ => 0 := by funext a; fin_cases a <;> rfl

/-! ## The first kernel -/

/-- The first body over its five staging buffers: the operands as they were, the result at the peaks. -/
theorem corr_run (c : Dev nD) (x : FVec F S16x64x64 .f32) (p : FVec F S6x64x64 .f32) (dr di : FVec F S64x64 .f32) (r : IVec S96x4 32)
    (E : Set ℕ) (Q : PUnit → sProp 𝕄) :
    iprop(pt c (Memref.whole cc0_stg0_0) x ∗ pt c (Memref.whole cc0_stg1_0) p ∗ pt c (Memref.whole cc0_stg2_0) dr ∗ pt c (Memref.whole cc0_stg3_0) di
        ∗ pt c (Memref.whole cc0_stg4_0) r
        ∗ (iprop(pt c (Memref.whole cc0_stg0_0) x ∗ pt c (Memref.whole cc0_stg1_0) p ∗ pt c (Memref.whole cc0_stg2_0) dr ∗ pt c (Memref.whole cc0_stg3_0) di
            ∗ pt c (Memref.whole cc0_stg4_0) (peaks (corr x p dr di))) -∗ Q ⟨⟩))
      ⊢ wp frame (wpE (defs₀ (F := F)) Variants.none c none) E
          (corrProg (Memref.whole cc0_stg0_0) (Memref.whole cc0_stg1_0) (Memref.whole cc0_stg2_0) (Memref.whole cc0_stg3_0) (Memref.whole cc0_stg4_0)) Q := by
  have e0 : (Memref.whole cc0_stg0_0).view.readAt (Elt F) (Rect.unit (s := S16x64x64) ![0, 0, 0] S16x64x64.size inb_S16x64x64_S16x64x64_0_0_0).toLoadRect x = x :=
    Memref.readAt_unit_zero (Elt F) cc0_stg0_0 three_zeros _ x
  have e1 : (Memref.whole cc0_stg1_0).view.readAt (Elt F) (Rect.unit (s := S6x64x64) ![0, 0, 0] S6x64x64.size inb_S6x64x64_S6x64x64_0_0_0).toLoadRect p = p :=
    Memref.readAt_unit_zero (Elt F) cc0_stg1_0 three_zeros _ p
  have e2 : (Memref.whole cc0_stg2_0).view.readAt (Elt F) (Rect.unit (s := S64x64) ![0, 0] S64x64.size inb_S64x64_S64x64_0_0).toLoadRect dr = dr :=
    Memref.readAt_unit_zero (Elt F) cc0_stg2_0 two_zeros _ dr
  have e3 : (Memref.whole cc0_stg3_0).view.readAt (Elt F) (Rect.unit (s := S64x64) ![0, 0] S64x64.size inb_S64x64_S64x64_0_0).toLoadRect di = di :=
    Memref.readAt_unit_zero (Elt F) cc0_stg3_0 two_zeros _ di
  have e4 (w : IVec S96x4 32) : ((Memref.whole cc0_stg4_0).access (Rect.unit (s := S96x4) ![0, 0] S96x4.size inb_S96x4_S96x4_0_0)).write (Elt F) r w Finset.univ = w :=
    Memref.write_access_unit_zero_univ (Elt F) cc0_stg4_0 two_zeros _ r w
  iintro ⟨H0, H1, H2, H3, H4, Hk⟩
  unfold corrProg
  iapply (load_at c (Memref.whole cc0_stg2_0) _ dr) $$ H2; iintro H2
  iapply (load_at c (Memref.whole cc0_stg3_0) _ di) $$ H3; iintro H3
  iapply (load_at c (Memref.whole cc0_stg0_0) _ x) $$ H0; iintro H0
  iapply (load_at c (Memref.whole cc0_stg1_0) _ p) $$ H1; iintro H1
  iapply (load_at c (Memref.whole cc0_stg4_0) _ r) $$ H4; iintro H4
  iapply (store_at c (Memref.whole cc0_stg4_0) _ r) $$ H4; iintro H4
  iapply (returns c PUnit.unit)
  iapply Hk
  isplitl [H0]; · iexact H0
  isplitl [H1]; · iexact H1
  isplitl [H2]; · iexact H2
  isplitl [H3]; · iexact H3
  rw [e4, e0, e1, e2, e3]
  iexact H4

/-! ## The second kernel: the templates -/

/-- Prototype `p`'s picture. -/
def protoAt (pr : FVec F S6x64x64 .f32) (p : Fin 6) : FVec F S64x64 .f32 := fun j => pr (ix3 p (j 0) (j 1))

/-- Every image's candidates: the empty one, then each prototype rolled to each of its peaks in that image. -/
def temps (idx : IVec S96x4 32) (pr : FVec F S6x64x64 .f32) : FVec F S16x25x64x64 .f32 := fun i =>
  if h : (i 1).val = 0 then Scalar.ofBits .f32 0x00000000#32
  else rolled (protoAt pr ⟨((i 1).val - 1) / 4, by have : (i 1).val < 25 := (i 1).isLt; omega⟩)
    (idx (ix2 ⟨(i 0).val * 6 + ((i 1).val - 1) / 4, by have : (i 1).val < 25 := (i 1).isLt; have : (i 0).val < 16 := (i 0).isLt; omega⟩
      ⟨((i 1).val - 1) % 4, Nat.mod_lt _ (by decide)⟩)) (ix2 (i 2) (i 3))

/-- Image `b`'s place for candidate `k`. -/
abbrev cell (b k : Nat) : Rect S16x25x64x64 := Rect.unit (s := S16x25x64x64) ![b % 16, k % 25, 0, 0] S1x1x64x64.size (cell_inb b k)

theorem cell_mem {b k : Nat} {i : S16x25x64x64.Idx} : i ∈ (cell b k).set ↔ (i 0).val = b % 16 ∧ (i 1).val = k % 25 := by
  rw [Rect.mem_set_unit]
  have h2 : (i 2).val < 64 := (i 2).isLt
  have h3 : (i 3).val < 64 := (i 3).isLt
  constructor
  · intro h
    have h0 : b % 16 ≤ (i 0).val ∧ (i 0).val < b % 16 + 1 := h 0
    have h1 : k % 25 ≤ (i 1).val ∧ (i 1).val < k % 25 + 1 := h 1
    omega
  · rintro ⟨h0, h1⟩ a
    fin_cases a
    · show b % 16 ≤ (i 0).val ∧ (i 0).val < b % 16 + 1; omega
    · show k % 25 ≤ (i 1).val ∧ (i 1).val < k % 25 + 1; omega
    · show 0 ≤ (i 2).val ∧ (i 2).val < 0 + 64; omega
    · show 0 ≤ (i 3).val ∧ (i 3).val < 0 + 64; omega

/-- What a store to a place leaves there, -/
theorem cell_write_in (T : FVec F S16x25x64x64 .f32) (b k : Nat) (w : FVec F S64x64 .f32) (i : S16x25x64x64.Idx)
    (h0 : (i 0).val = b % 16) (h1 : (i 1).val = k % 25) :
    ((Memref.whole cc1_scratch0).access (cell b k)).write (Elt F) T (shapeCast S1x1x64x64 w shapeCasts_S64x64_S1x1x64x64) Finset.univ i
      = w (ix2 (i 2) (i 3)) := by
  have hi : i = ((Memref.whole cc1_scratch0).access (cell b k)).emb (ix4 (0 : Fin 1) (0 : Fin 1) (i 2 : Fin 64) (i 3 : Fin 64)) := by
    funext a
    apply Fin.ext
    fin_cases a
    · show (i 0).val = b % 16 + 1 * 0; omega
    · show (i 1).val = k % 25 + 1 * 0; omega
    · show (i 2).val = 0 + 1 * (i 2).val; omega
    · show (i 3).val = 0 + 1 * (i 3).val; omega
  conv_lhs => rw [hi]
  rw [View.write_emb_of_mem _ _ (Finset.mem_univ _)]
  show shapeCast S1x1x64x64 w shapeCasts_S64x64_S1x1x64x64 (ix4 (0 : Fin 1) (0 : Fin 1) (i 2 : Fin 64) (i 3 : Fin 64)) = _
  pointwise

/-- and elsewhere. -/
theorem cell_write_out (T : FVec F S16x25x64x64 .f32) (b k : Nat) (w : (cell b k).shape.Idx → Elt F .f32) (i : S16x25x64x64.Idx)
    (h : ¬ ((i 0).val = b % 16 ∧ (i 1).val = k % 25)) :
    ((Memref.whole cc1_scratch0).access (cell b k)).write (Elt F) T w Finset.univ i = T i := by
  refine View.write_of_not_mem _ _ _ ?_
  show i ∉ ((View.whole cc1_scratch0).slice (cell b k)).set
  rw [View.set_slice_whole]
  exact mt cell_mem.1 h

/-- The word the second kernel reads for a roll. -/
theorem word_read (idx : IVec S96x4 32) (r t : Nat) (hr : r < 96) (ht : t < 4) (inb : ∀ a, (![r, t] : Fin 2 → Nat) a + S1x1.size a ≤ S96x4.size a) (x : S1x1.Idx) :
    ((Memref.whole cc1_stg0_0).access (Rect.unit (s := S96x4) ![r, t] S1x1.size inb)).read (Elt F) idx x = idx (ix2 ⟨r, hr⟩ ⟨t, ht⟩) := by
  rw [View.read_apply]
  refine congrArg idx (funext fun a => Fin.ext ?_)
  have h0 : (x 0).val < 1 := (x 0).isLt
  have h1 : (x 1).val < 1 := (x 1).isLt
  fin_cases a
  · show r + 1 * (x 0).val = r; omega
  · show t + 1 * (x 1).val = t; omega

/-- The prototype the second kernel reads. -/
theorem proto_read (pr : FVec F S6x64x64 .f32) (p : Nat) (hp : p < 6) :
    (Memref.whole cc1_stg2_0).view.readAt (Elt F) (Rect.unit (s := S6x64x64) ![p % 6, 0, 0] S1x64x64.size (proto_inb p)).toLoadRect pr
      = fun j : S1x64x64.Idx => pr (ix3 ⟨p, hp⟩ (j 1) (j 2)) := by
  funext j
  rw [View.readAt_apply]
  refine congrArg pr (funext fun a => Fin.ext ?_)
  have h0 : (j 0).val < 1 := (j 0).isLt
  fin_cases a
  · show p % 6 + 1 * (j 0).val = p; omega
  · show 0 + 1 * (j 1).val = (j 1).val; omega
  · show 0 + 1 * (j 2).val = (j 2).val; omega

theorem proto_cast (pr : FVec F S6x64x64 .f32) (p : Fin 6) :
    shapeCast S64x64 (fun j : S1x64x64.Idx => pr (ix3 p (j 1) (j 2))) shapeCasts_S1x64x64_S64x64 = protoAt pr p := by
  funext j
  pointwise [protoAt]

/-- The templates in place before step `k` of prototype `p`. -/
def Filled (idx : IVec S96x4 32) (pr : FVec F S6x64x64 .f32) (T : FVec F S16x25x64x64 .f32) (p k : Nat) : Prop :=
  ∀ i : S16x25x64x64.Idx, ((i 1).val = 0 ∨ (((i 1).val - 1) / 4 < p ∨ (((i 1).val - 1) / 4 = p ∧ (i 0).val * 4 + ((i 1).val - 1) % 4 < k))) →
    T i = temps idx pr i

theorem roll_place {p k b q : Nat} (hp : p < 6) (hk : k < 64) (hb : b = k / 4 % 16) (hq : q = (1 + 4 * p + k % 4) % 25) :
    q ≠ 0 ∧ (q - 1) / 4 = p ∧ b * 6 + p = k / 4 % 16 * 6 + p % 6 ∧ (q - 1) % 4 = k % 4 := by
  have h1 : (1 + 4 * p + k % 4) % 25 = 1 + 4 * p + k % 4 := Nat.mod_eq_of_lt (by omega)
  have h2 : p % 6 = p := Nat.mod_eq_of_lt hp
  rw [h1] at hq
  subst hb hq
  refine ⟨by omega, by omega, by omega, by omega⟩

theorem roll_else {p k b q : Nat} (hp : p < 6) (hk : k < 64) (hb : b < 16) (hq : q < 25) (hq0 : q ≠ 0) (h : (q - 1) / 4 = p)
    (hc : ¬ (b = k / 4 % 16 ∧ q = (1 + 4 * p + k % 4) % 25)) (hlt : b * 4 + (q - 1) % 4 < k + 1) : b * 4 + (q - 1) % 4 < k := by
  have h1 : (1 + 4 * p + k % 4) % 25 = 1 + 4 * p + k % 4 := Nat.mod_eq_of_lt (by omega)
  have h3 : k / 4 % 16 = k / 4 := Nat.mod_eq_of_lt (by omega)
  rw [h1, h3] at hc
  by_contra hn
  exact hc ⟨by omega, by omega⟩

theorem Filled.step {idx : IVec S96x4 32} {pr : FVec F S6x64x64 .f32} {T : FVec F S16x25x64x64 .f32} {p k : Nat} (hp : p < 6) (hk : k < 64)
    (h : Filled idx pr T p k) :
    Filled idx pr (((Memref.whole cc1_scratch0).access (cell (k / 4) (1 + 4 * p + k % 4))).write (Elt F) T
      (shapeCast S1x1x64x64 (rolled (protoAt pr ⟨p, hp⟩) (idx (ix2 ⟨k / 4 % 16 * 6 + p % 6, by omega⟩ ⟨k % 4, by omega⟩))) shapeCasts_S64x64_S1x1x64x64) Finset.univ) p (k + 1) := by
  intro i hi
  have h0 : (i 0).val < 16 := (i 0).isLt
  have h1 : (i 1).val < 25 := (i 1).isLt
  by_cases hc : (i 0).val = k / 4 % 16 ∧ (i 1).val = (1 + 4 * p + k % 4) % 25
  · rw [cell_write_in T _ _ _ i hc.1 hc.2]
    obtain ⟨hne, e1, e2, e3⟩ := roll_place hp hk hc.1 hc.2
    unfold temps
    rw [dif_neg hne]
    simp only [e1, e2, e3]
  · rw [cell_write_out T _ _ _ i hc]
    refine h i ?_
    by_cases h10 : (i 1).val = 0
    · exact .inl h10
    rcases hi with hi | hi | ⟨hi, hi'⟩
    · exact .inl hi
    · exact .inr (.inl hi)
    · exact .inr (.inr ⟨hi, roll_else hp hk h0 h1 h10 hi hc hi'⟩)

theorem Filled.next {idx : IVec S96x4 32} {pr : FVec F S6x64x64 .f32} {T : FVec F S16x25x64x64 .f32} {p : Nat} (h : Filled idx pr T p 64) :
    Filled idx pr T (p + 1) 0 := by
  intro i hi
  have h0 : (i 0).val < 16 := (i 0).isLt
  refine h i ?_
  rcases hi with hi | hi | ⟨-, hi'⟩
  · exact .inl hi
  · by_cases he : ((i 1).val - 1) / 4 = p
    · exact .inr (.inr ⟨he, by omega⟩)
    · exact .inr (.inl (by omega))
  · omega

theorem Filled.all {idx : IVec S96x4 32} {pr : FVec F S6x64x64 .f32} {T : FVec F S16x25x64x64 .f32} (h : Filled idx pr T 6 0) : T = temps idx pr := by
  funext i
  have h1 : (i 1).val < 25 := (i 1).isLt
  exact h i (.inr (.inl (by omega)))

theorem Filled.first (idx : IVec S96x4 32) (pr : FVec F S6x64x64 .f32) (T : FVec F S16x25x64x64 .f32) :
    Filled idx pr (((Memref.whole cc1_scratch0).access (Rect.unit (s := S16x25x64x64) ![0, 0, 0, 0] S16x1x64x64.size inb_S16x25x64x64_S16x1x64x64_0_0_0_0)).write (Elt F) T
      (noTemplate (F := F)) Finset.univ) 0 0 := by
  intro i hi
  have h10 : (i 1).val = 0 := by omega
  have he : i = ((Memref.whole cc1_scratch0).access (Rect.unit (s := S16x25x64x64) ![0, 0, 0, 0] S16x1x64x64.size inb_S16x25x64x64_S16x1x64x64_0_0_0_0)).emb
      (ix4 (i 0 : Fin 16) (0 : Fin 1) (i 2 : Fin 64) (i 3 : Fin 64)) := by
    funext a
    apply Fin.ext
    fin_cases a
    · show (i 0).val = 0 + 1 * (i 0).val; omega
    · show (i 1).val = 0 + 1 * 0; omega
    · show (i 2).val = 0 + 1 * (i 2).val; omega
    · show (i 3).val = 0 + 1 * (i 3).val; omega
  conv_lhs => rw [he]
  rw [View.write_emb_of_mem _ _ (Finset.mem_univ _)]
  unfold temps
  rw [dif_pos h10]
  rfl

/-- Programs in turn, by an invariant. -/
theorem in_turn (c : Dev nD) (f : Nat → Prog (TpuEff nD τ sig (Elt F) Λ₀ .tc) PUnit) (I : Nat → sProp 𝕄) {E : Set ℕ} (n : Nat) :
    ∀ (k : Nat) (_ : ∀ j, k ≤ j → j < k + n → ∀ Q : PUnit → sProp 𝕄, iprop(I j ∗ (I (j + 1) -∗ Q ⟨⟩)) ⊢ wp frame (wpE (defs₀ (F := F)) Variants.none (c : Thread nD τ) none) E (f j) Q)
      (Q : PUnit → sProp 𝕄), iprop(I k ∗ (I (k + n) -∗ Q ⟨⟩)) ⊢ wp frame (wpE (defs₀ (F := F)) Variants.none (c : Thread nD τ) none) E (inTurn f n k) Q := by
  induction n with
  | zero =>
    intro k _ Q
    iintro ⟨H, Hk⟩
    iapply (returns c PUnit.unit)
    iapply Hk; iexact H
  | succ n ih =>
    intro k h Q
    show _ ⊢ wp frame _ E (f k >>= fun _ => inTurn f n (k + 1)) Q
    rw [wp_bind]
    iintro ⟨H, Hk⟩
    iapply (h k le_rfl (by omega) _)
    isplitl [H]; · iexact H
    iintro H
    iapply (ih (k + 1) (fun j h1 h2 => h j (by omega) (by omega)) Q)
    isplitl [H]; · iexact H
    rw [show k + 1 + n = k + (n + 1) from by omega]
    iexact Hk

/-- One roll. -/
theorem roll_run (c : Dev nD) (idx : IVec S96x4 32) (pr : FVec F S6x64x64 .f32) (p k : Nat) (hp : p < 6) (hk : k < 64) (E : Set ℕ) (Q : PUnit → sProp 𝕄) :
    iprop((pt c (Memref.whole cc1_stg0_0) idx ∗ ∃ T : FVec F S16x25x64x64 .f32, ⌜Filled idx pr T p k⌝ ∗ pt c (Memref.whole cc1_scratch0) T)
        ∗ (iprop(pt c (Memref.whole cc1_stg0_0) idx ∗ ∃ T : FVec F S16x25x64x64 .f32, ⌜Filled idx pr T p (k + 1)⌝ ∗ pt c (Memref.whole cc1_scratch0) T) -∗ Q ⟨⟩))
      ⊢ wp frame (wpE (defs₀ (F := F)) Variants.none (c : Thread nD τ) none) E
          (rollStep (Memref.whole cc1_stg0_0) (Memref.whole cc1_scratch0) p (protoAt pr ⟨p, hp⟩) k) Q := by
  iintro ⟨⟨H0, %T, %hT, H5⟩, Hk⟩
  unfold rollStep smemLoad
  rw [wp_bind]
  iapply (word_at c (Memref.whole cc1_stg0_0) _ idx) $$ H0; iintro H0
  iapply (returns c _)
  rw [word_read idx _ _ (by omega) (by omega)]
  iapply (load_at c (Memref.whole cc1_scratch0) _ T) $$ H5; iintro H5
  iapply (store_at c (Memref.whole cc1_scratch0) _ T) $$ H5; iintro H5
  iapply (returns c PUnit.unit)
  iapply Hk
  isplitl [H0]; · iexact H0
  iexists _
  isplitr; swap; · iexact H5
  ipureintro
  exact hT.step hp hk

/-- All rolls of a prototype. -/
theorem proto_run (c : Dev nD) (idx : IVec S96x4 32) (pr : FVec F S6x64x64 .f32) (p : Nat) (hp : p < 6) (E : Set ℕ) (Q : PUnit → sProp 𝕄) :
    iprop((pt c (Memref.whole cc1_stg0_0) idx ∗ pt c (Memref.whole cc1_stg2_0) pr ∗ ∃ T : FVec F S16x25x64x64 .f32, ⌜Filled idx pr T p 0⌝ ∗ pt c (Memref.whole cc1_scratch0) T)
        ∗ (iprop(pt c (Memref.whole cc1_stg0_0) idx ∗ pt c (Memref.whole cc1_stg2_0) pr ∗ ∃ T : FVec F S16x25x64x64 .f32, ⌜Filled idx pr T (p + 1) 0⌝ ∗ pt c (Memref.whole cc1_scratch0) T) -∗ Q ⟨⟩))
      ⊢ wp frame (wpE (defs₀ (F := F)) Variants.none (c : Thread nD τ) none) E
          (rollProto (Memref.whole cc1_stg0_0) (Memref.whole cc1_stg2_0) (Memref.whole cc1_scratch0) p) Q := by
  iintro ⟨⟨H0, H2, HT⟩, Hk⟩
  unfold rollProto
  iapply (load_at c (Memref.whole cc1_stg2_0) _ pr) $$ H2; iintro H2
  rw [proto_read pr p hp]
  iapply (in_turn c _ (fun k => iprop(pt c (Memref.whole cc1_stg0_0) idx ∗ ∃ T : FVec F S16x25x64x64 .f32, ⌜Filled idx pr T p k⌝ ∗ pt c (Memref.whole cc1_scratch0) T)) 64 0
    (fun j _ hj Q => by rw [proto_cast pr ⟨p, hp⟩]; exact roll_run c idx pr p j hp (by omega) E Q) Q)
  isplitl [H0 HT]
  · isplitl [H0]; · iexact H0
    iexact HT
  iintro ⟨H0, %T, %hT, H5⟩
  iapply Hk
  isplitl [H0]; · iexact H0
  isplitl [H2]; · iexact H2
  iexists T
  isplitr; swap; · iexact H5
  ipureintro
  exact hT.next

/-- The templates written. -/
theorem fill_run (c : Dev nD) (idx : IVec S96x4 32) (pr : FVec F S6x64x64 .f32) (T : FVec F S16x25x64x64 .f32) (E : Set ℕ) (Q : PUnit → sProp 𝕄) :
    iprop(pt c (Memref.whole cc1_stg0_0) idx ∗ pt c (Memref.whole cc1_stg2_0) pr ∗ pt c (Memref.whole cc1_scratch0) T
        ∗ (iprop(pt c (Memref.whole cc1_stg0_0) idx ∗ pt c (Memref.whole cc1_stg2_0) pr ∗ pt c (Memref.whole cc1_scratch0) (temps idx pr)) -∗ Q ⟨⟩))
      ⊢ wp frame (wpE (defs₀ (F := F)) Variants.none (c : Thread nD τ) none) E
          (fillProg (Memref.whole cc1_stg0_0) (Memref.whole cc1_stg2_0) (Memref.whole cc1_scratch0)) Q := by
  iintro ⟨H0, H2, H5, Hk⟩
  unfold fillProg
  iapply (load_at c (Memref.whole cc1_scratch0) _ T) $$ H5; iintro H5
  iapply (store_at c (Memref.whole cc1_scratch0) _ T) $$ H5; iintro H5
  iapply (in_turn c _ (fun p => iprop(pt c (Memref.whole cc1_stg0_0) idx ∗ pt c (Memref.whole cc1_stg2_0) pr ∗ ∃ T : FVec F S16x25x64x64 .f32, ⌜Filled idx pr T p 0⌝ ∗ pt c (Memref.whole cc1_scratch0) T)) 6 0
    (fun j _ hj Q => proto_run c idx pr j (by omega) E Q) Q)
  isplitl [H0 H2 H5]
  · isplitl [H0]; · iexact H0
    isplitl [H2]; · iexact H2
    iexists _
    isplitr; swap; · iexact H5
    ipureintro
    exact Filled.first idx pr T
  iintro ⟨H0, H2, %T', %hT, H5⟩
  obtain rfl := hT.all
  iapply Hk
  isplitl [H0]; · iexact H0
  isplitl [H2]; · iexact H2
  iexact H5

/-! ## The second kernel: the rounds -/

/-- Template `v` of image `b`. -/
def tmplAt (T : FVec F S16x25x64x64 .f32) (b : Fin 16) (v : BitVec 32) : FVec F S1x64x64 .f32 :=
  fun j => T (ix4 b ⟨v.toNat % 25, Nat.mod_lt _ (by decide)⟩ (j 1) (j 2))

/-- Every image's chosen template. -/
def chosen (T : FVec F S16x25x64x64 .f32) (sel : IVec S16x1 32) : FVec F S16x64x64 .f32 :=
  stack fun b => tmplAt T b (selAt sel b.1 b.2)

theorem tmpl_read (T : FVec F S16x25x64x64 .f32) (b : Nat) (hb : b < 16) (v : BitVec 32) (hv : v.toNat < 25) (ok : PickOk b v) :
    (Memref.whole cc1_scratch0).view.readAt (Elt F) (Rect.unit (s := S16x25x64x64) (pickOff b v) S1x1x64x64.size ok).toLoadRect T
      = fun j : S1x1x64x64.Idx => T (ix4 ⟨b, hb⟩ ⟨v.toNat % 25, Nat.mod_lt _ (by decide)⟩ (j 2) (j 3)) := by
  funext j
  rw [View.readAt_apply]
  refine congrArg T (funext fun a => Fin.ext ?_)
  have h0 : (j 0).val < 1 := (j 0).isLt
  have h1 : (j 1).val < 1 := (j 1).isLt
  fin_cases a
  · show b + 1 * (j 0).val = b; omega
  · show v.toNat + 1 * (j 1).val = v.toNat % 25; omega
  · show 0 + 1 * (j 2).val = (j 2).val; omega
  · show 0 + 1 * (j 3).val = (j 3).val; omega

theorem tmpl_cast (T : FVec F S16x25x64x64 .f32) (b : Fin 16) (v : BitVec 32) :
    shapeCast S1x64x64 (shapeCast S64x64 (fun j : S1x1x64x64.Idx => T (ix4 b ⟨v.toNat % 25, Nat.mod_lt _ (by decide)⟩ (j 2) (j 3)))
      shapeCasts_S1x1x64x64_S64x64) shapeCasts_S64x64_S1x64x64 = tmplAt T b v := by
  funext j
  pointwise [tmplAt]

theorem pick_ok {b : Nat} (hb : b < 16) {v : BitVec 32} (hv : v.toNat < 25) : PickOk b v := by
  intro a
  fin_cases a
  · show b + 1 ≤ 16; omega
  · show v.toNat + 1 ≤ 25; omega
  · show 0 + 64 ≤ 64; omega
  · show 0 + 64 ≤ 64; omega

/-- One image's template read. -/
theorem pick_run (c : Dev nD) (T : FVec F S16x25x64x64 .f32) (sel : IVec S16x1 32) (b : Nat) (hb : b < 16) (hv : (selAt sel b hb).toNat < 25) (E : Set ℕ)
    (Q : FVec F S1x64x64 .f32 → sProp 𝕄) :
    iprop(pt c (Memref.whole cc1_scratch0) T ∗ (pt c (Memref.whole cc1_scratch0) T -∗ Q (tmplAt T ⟨b, hb⟩ (selAt sel b hb))))
      ⊢ wp frame (wpE (defs₀ (F := F)) Variants.none (c : Thread nD τ) none) E (pick (Memref.whole cc1_scratch0) sel b hb) Q := by
  iintro ⟨H5, Hk⟩
  unfold pick
  iapply (wp_assume Variants.none (c : Thread nD τ) none E (pick_ok hb hv))
  iapply (load_at c (Memref.whole cc1_scratch0) _ T) $$ H5; iintro H5
  iapply (returns c _)
  rw [tmpl_read T b hb _ hv, tmpl_cast T ⟨b, hb⟩]
  iapply Hk; iexact H5

end Cert.Proof.Kern

end
-- ==== Proof.SelectRun.lean ====
/-
  The selection kernel's rounds and its whole run: the result it leaves, as a function of the peaks, the images, the
  prototypes and the background alone.
-/
module

public import proofs.«01_k».proof.Proof.BodyRun

@[expose] public section

noncomputable section

namespace Cert.Proof.Kern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Whatever the errors, the candidate of least error is one of the twenty-five. -/
def InRange (F : FTy → Type) [FloatOps F] : Prop :=
  ∀ (em : FVec F S16x25 .f32) (b : Nat) (hb : b < 16), (selAt (best em) b hb).toNat < 25

/-- Sixteen templates read. -/
theorem gather_run (c : Dev nD) (T : FVec F S16x25x64x64 .f32) (sel : IVec S16x1 32) (hv : ∀ b hb, (selAt sel b hb).toNat < 25) (E : Set ℕ)
    (Q : FVec F S16x64x64 .f32 → sProp 𝕄) :
    iprop(pt c (Memref.whole cc1_scratch0) T ∗ (pt c (Memref.whole cc1_scratch0) T -∗ Q (chosen T sel)))
      ⊢ wp frame (wpE (defs₀ (F := F)) Variants.none (c : Thread nD τ) none) E (gatherProg (Memref.whole cc1_scratch0) sel) Q := by
  iintro ⟨H5, Hk⟩
  unfold gatherProg
  iterate 16
    rw [wp_bind]
    iapply (pick_run c T sel _ _ (hv _ _) E _)
    isplitl [H5]; · iexact H5
    iintro H5
  iapply (returns c _)
  rw [show stack _ = chosen T sel from congrArg stack (funext fun b => by fin_cases b <;> rfl)]
  iapply Hk; iexact H5

/-- A round's outcome. -/
def RoundState.step (T q : FVec F S16x25x64x64 .f32) (s : RoundState F) : RoundState F :=
  s.next q (chosen T (best (reach s.used s.e)))

/-- One round. -/
theorem round_run (hr : InRange F) (c : Dev nD) (T q : FVec F S16x25x64x64 .f32) (s : RoundState F) (E : Set ℕ) (Q : RoundState F → sProp 𝕄) :
    iprop(pt c (Memref.whole cc1_scratch0) T ∗ (pt c (Memref.whole cc1_scratch0) T -∗ Q (s.step T q)))
      ⊢ wp frame (wpE (defs₀ (F := F)) Variants.none (c : Thread nD τ) none) E (roundProg (Memref.whole cc1_scratch0) q s) Q := by
  iintro ⟨H5, Hk⟩
  unfold roundProg
  rw [wp_bind]
  iapply (gather_run c T _ (hr _) E _)
  isplitl [H5]; · iexact H5
  iintro H5
  iapply (returns c _)
  rw [show RoundState.next q s _ = s.step T q from rfl]
  iapply Hk; iexact H5

/-- The result of the rounds over the templates `T`. -/
def greedyOut (T : FVec F S16x25x64x64 .f32) (x : FVec F S16x64x64 .f32) (bg : FVec F S64x64 .f32) : FVec F S16x64x64 .f32 :=
  compose bg (((((RoundState.start (diffs x bg T)).step T (diffs x bg T)).step T (diffs x bg T)).step T (diffs x bg T)).step T (diffs x bg T))

/-- A statement already run hands its value on. -/
theorem returned {Ef : Type → Type} {A B : Type} (a : A) (k : A → Prog Ef B) : (Prog.ret a).bind k = k a := rfl

/-- The rounds and the result's store. -/
theorem greedy_run (hr : InRange F) (c : Dev nD) (T : FVec F S16x25x64x64 .f32) (x : FVec F S16x64x64 .f32) (bg : FVec F S64x64 .f32) (r : FVec F S16x64x64 .f32)
    (E : Set ℕ) (Q : PUnit → sProp 𝕄) :
    iprop(pt c (Memref.whole cc1_stg1_0) x ∗ pt c (Memref.whole cc1_stg3_0) bg ∗ pt c (Memref.whole cc1_stg4_0) r ∗ pt c (Memref.whole cc1_scratch0) T
        ∗ (iprop(pt c (Memref.whole cc1_stg1_0) x ∗ pt c (Memref.whole cc1_stg3_0) bg ∗ pt c (Memref.whole cc1_stg4_0) (greedyOut T x bg)
            ∗ pt c (Memref.whole cc1_scratch0) T) -∗ Q ⟨⟩))
      ⊢ wp frame (wpE (defs₀ (F := F)) Variants.none (c : Thread nD τ) none) E
          (greedyProg (Memref.whole cc1_stg1_0) (Memref.whole cc1_stg3_0) (Memref.whole cc1_stg4_0) (Memref.whole cc1_scratch0)) Q := by
  have e1 : (Memref.whole cc1_stg1_0).view.readAt (Elt F) (Rect.unit (s := S16x64x64) ![0, 0, 0] S16x64x64.size inb_S16x64x64_S16x64x64_0_0_0).toLoadRect x = x :=
    Memref.readAt_unit_zero (Elt F) cc1_stg1_0 three_zeros _ x
  have e3 : (Memref.whole cc1_stg3_0).view.readAt (Elt F) (Rect.unit (s := S64x64) ![0, 0] S64x64.size inb_S64x64_S64x64_0_0).toLoadRect bg = bg :=
    Memref.readAt_unit_zero (Elt F) cc1_stg3_0 two_zeros _ bg
  have e5 : (Memref.whole cc1_scratch0).view.readAt (Elt F) (Rect.unit (s := S16x25x64x64) ![0, 0, 0, 0] S16x25x64x64.size inb_S16x25x64x64_S16x25x64x64_0_0_0_0).toLoadRect T = T :=
    Memref.readAt_unit_zero (Elt F) cc1_scratch0 four_zeros _ T
  have e4 (w : FVec F S16x64x64 .f32) : ((Memref.whole cc1_stg4_0).access (Rect.unit (s := S16x64x64) ![0, 0, 0] S16x64x64.size inb_S16x64x64_S16x64x64_0_0_0)).write (Elt F) r w Finset.univ = w :=
    Memref.write_access_unit_zero_univ (Elt F) cc1_stg4_0 three_zeros _ r w
  have c1 : shapeCast S16x64x64 x shapeCasts_S16x64x64_S16x64x64 = x := shapeCast_id x _
  have c3 : shapeCast S64x64 bg shapeCasts_S64x64_S64x64 = bg := shapeCast_id bg _
  iintro ⟨H1, H3, H4, H5, Hk⟩
  unfold greedyProg
  iapply (load_at c (Memref.whole cc1_stg1_0) _ x) $$ H1; iintro H1
  iapply (load_at c (Memref.whole cc1_stg3_0) _ bg) $$ H3; iintro H3
  iapply (load_at c (Memref.whole cc1_scratch0) _ T) $$ H5; iintro H5
  rw [e1, e3, e5, c1, c3, returned]
  iterate 4
    rw [wp_bind]
    iapply (round_run hr c T _ _ E _)
    isplitl [H5]; · iexact H5
    iintro H5
  iapply (load_at c (Memref.whole cc1_stg4_0) _ r) $$ H4; iintro H4
  iapply (store_at c (Memref.whole cc1_stg4_0) _ r) $$ H4; iintro H4
  iapply (returns c PUnit.unit)
  iapply Hk
  isplitl [H1]; · iexact H1
  isplitl [H3]; · iexact H3
  isplitl [H4]; · rw [e4]; iexact H4
  iexact H5

/-- The second kernel's result. -/
def selectOut (idx : IVec S96x4 32) (x : FVec F S16x64x64 .f32) (pr : FVec F S6x64x64 .f32) (bg : FVec F S64x64 .f32) : FVec F S16x64x64 .f32 :=
  greedyOut (temps idx pr) x bg

/-- The second body over its staging buffers and its scratch: the operands as they were, the result at the selection's. -/
theorem select_run (hr : InRange F) (c : Dev nD) (idx : IVec S96x4 32) (x : FVec F S16x64x64 .f32) (pr : FVec F S6x64x64 .f32) (bg : FVec F S64x64 .f32)
    (r : FVec F S16x64x64 .f32) (T : FVec F S16x25x64x64 .f32) (E : Set ℕ) (Q : PUnit → sProp 𝕄) :
    iprop(pt c (Memref.whole cc1_stg0_0) idx ∗ pt c (Memref.whole cc1_stg1_0) x ∗ pt c (Memref.whole cc1_stg2_0) pr ∗ pt c (Memref.whole cc1_stg3_0) bg
        ∗ pt c (Memref.whole cc1_stg4_0) r ∗ pt c (Memref.whole cc1_scratch0) T
        ∗ (iprop(pt c (Memref.whole cc1_stg0_0) idx ∗ pt c (Memref.whole cc1_stg1_0) x ∗ pt c (Memref.whole cc1_stg2_0) pr ∗ pt c (Memref.whole cc1_stg3_0) bg
            ∗ pt c (Memref.whole cc1_stg4_0) (selectOut idx x pr bg) ∗ pt c (Memref.whole cc1_scratch0) (temps idx pr)) -∗ Q ⟨⟩))
      ⊢ wp frame (wpE (defs₀ (F := F)) Variants.none (c : Thread nD τ) none) E
          (selectProg (Memref.whole cc1_stg0_0) (Memref.whole cc1_stg1_0) (Memref.whole cc1_stg2_0) (Memref.whole cc1_stg3_0) (Memref.whole cc1_stg4_0)
            (Memref.whole cc1_scratch0)) Q := by
  iintro ⟨H0, H1, H2, H3, H4, H5, Hk⟩
  unfold selectProg
  rw [wp_bind]
  iapply (fill_run c idx pr T E _)
  isplitl [H0]; · iexact H0
  isplitl [H2]; · iexact H2
  isplitl [H5]; · iexact H5
  iintro ⟨H0, H2, H5⟩
  iapply (greedy_run hr c (temps idx pr) x bg r E _)
  isplitl [H1]; · iexact H1
  isplitl [H3]; · iexact H3
  isplitl [H4]; · iexact H4
  isplitl [H5]; · iexact H5
  iintro ⟨H1, H3, H4, H5⟩
  iapply Hk
  isplitl [H0]; · iexact H0
  isplitl [H1]; · iexact H1
  isplitl [H2]; · iexact H2
  isplitl [H3]; · iexact H3
  isplitl [H4]; · iexact H4
  iexact H5

end Cert.Proof.Kern

end
-- ==== Proof.Launches.lean ====
/-
  The two launches as segments of the whole program: each entered with every array at a valuation, and left with the
  valuation changed at its result alone.
-/
module

public import proofs.«01_k».proof.Proof.SelectRun
public import proofs.«01_k».proof.Proof.Gen.KernelIdeal.Regions
public import Idealize.ShloMosaic.Lib.Pipeline.ValueKit.Geometry

@[expose] public section

noncomputable section

namespace Cert.Proof.Kern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What every buffer of every core holds. -/
abbrev Contents (F : FTy → Type) [FloatOps F] : Type := (c : Dev nD) → (b : Ref sig .tc) → Buf (Elt F) ((c : Thread nD τ).loc b)

variable (V : Contents F) (c : Dev nD)

/-! ## The blocks are the arrays -/

theorem block0_0 : ((cfg0.win 0).blk t0_0).view.read (Elt F) (V c main_v0) = V c main_v0 :=
  Memref.read_access_unit_zero (Elt F) main_v0 (funext fun a => by fin_cases a <;> decide) (fun a => by fin_cases a <;> decide) _
theorem block0_1 : ((cfg0.win 1).blk t0_0).view.read (Elt F) (V c main_v1) = V c main_v1 :=
  Memref.read_access_unit_zero (Elt F) main_v1 (funext fun a => by fin_cases a <;> decide) (fun a => by fin_cases a <;> decide) _
theorem block0_2 : ((cfg0.win 2).blk t0_0).view.read (Elt F) (V c main_cst) = V c main_cst :=
  Memref.read_access_unit_zero (Elt F) main_cst (funext fun a => by fin_cases a <;> decide) (fun a => by fin_cases a <;> decide) _
theorem block0_3 : ((cfg0.win 3).blk t0_0).view.read (Elt F) (V c main_cst_0) = V c main_cst_0 :=
  Memref.read_access_unit_zero (Elt F) main_cst_0 (funext fun a => by fin_cases a <;> decide) (fun a => by fin_cases a <;> decide) _
theorem block1_0 : ((cfg1.win 0).blk t1_0).view.read (Elt F) (V c main_v3) = V c main_v3 :=
  Memref.read_access_unit_zero (Elt F) main_v3 (funext fun a => by fin_cases a <;> decide) (fun a => by fin_cases a <;> decide) _
theorem block1_1 : ((cfg1.win 1).blk t1_0).view.read (Elt F) (V c main_v0) = V c main_v0 :=
  Memref.read_access_unit_zero (Elt F) main_v0 (funext fun a => by fin_cases a <;> decide) (fun a => by fin_cases a <;> decide) _
theorem block1_2 : ((cfg1.win 2).blk t1_0).view.read (Elt F) (V c main_v1) = V c main_v1 :=
  Memref.read_access_unit_zero (Elt F) main_v1 (funext fun a => by fin_cases a <;> decide) (fun a => by fin_cases a <;> decide) _
theorem block1_3 : ((cfg1.win 3).blk t1_0).view.read (Elt F) (V c main_v2) = V c main_v2 :=
  Memref.read_access_unit_zero (Elt F) main_v2 (funext fun a => by fin_cases a <;> decide) (fun a => by fin_cases a <;> decide) _

/-! ## The proof data -/

/-- The first kernel's result from the arrays. -/
def peaksOf : IVec S96x4 32 := peaks (corr (F := F) (V c main_v0) (V c main_v1) (V c main_cst) (V c main_cst_0))

/-- The second kernel's result from the arrays. -/
def selectOf : FVec F S16x64x64 .f32 := selectOut (F := F) (V c main_v3) (V c main_v0) (V c main_v1) (V c main_v2)

/-- The first launch's data: arrays at `V`, staging buffers as fetched, the result's at the peaks. -/
def dat0 : Dat τ (Elt F) Unit ℕ UU ℕ cfg0 c where
  A w := V c (Pipeline.arrRef spec0 w)
  after w _ := match w with
    | ⟨0, _⟩ => V c main_v0
    | ⟨1, _⟩ => V c main_v1
    | ⟨2, _⟩ => V c main_cst
    | ⟨3, _⟩ => V c main_cst_0
    | ⟨4, _⟩ => peaksOf V c
  Φ _ := Pipeline.scopedRest (Ix := Unit) (Name := ℕ) (U := UU) (Lvl := ℕ) (Val := Elt F) spec0 c
  q _ := fullShare
  owed _ := 0

/-- The second launch's data. -/
def dat1 : Dat τ (Elt F) Unit ℕ UU ℕ cfg1 c where
  A w := V c (Pipeline.arrRef spec1 w)
  after w _ := match w with
    | ⟨0, _⟩ => V c main_v3
    | ⟨1, _⟩ => V c main_v0
    | ⟨2, _⟩ => V c main_v1
    | ⟨3, _⟩ => V c main_v2
    | ⟨4, _⟩ => selectOf V c
  Φ _ := Pipeline.scopedRest (Ix := Unit) (Name := ℕ) (U := UU) (Lvl := ℕ) (Val := Elt F) spec1 c
  q _ := fullShare
  owed _ := 0

theorem before0_0 (d) : (dat0 V c).before 0 t0_0 d = V c main_v0 := by
  unfold Dat.before; rw [if_pos (by decide)]; exact block0_0 V c
theorem before0_1 (d) : (dat0 V c).before 1 t0_0 d = V c main_v1 := by
  unfold Dat.before; rw [if_pos (by decide)]; exact block0_1 V c
theorem before0_2 (d) : (dat0 V c).before 2 t0_0 d = V c main_cst := by
  unfold Dat.before; rw [if_pos (by decide)]; exact block0_2 V c
theorem before0_3 (d) : (dat0 V c).before 3 t0_0 d = V c main_cst_0 := by
  unfold Dat.before; rw [if_pos (by decide)]; exact block0_3 V c
theorem before1_0 (d) : (dat1 V c).before 0 t1_0 d = V c main_v3 := by
  unfold Dat.before; rw [if_pos (by decide)]; exact block1_0 V c
theorem before1_1 (d) : (dat1 V c).before 1 t1_0 d = V c main_v0 := by
  unfold Dat.before; rw [if_pos (by decide)]; exact block1_1 V c
theorem before1_2 (d) : (dat1 V c).before 2 t1_0 d = V c main_v1 := by
  unfold Dat.before; rw [if_pos (by decide)]; exact block1_2 V c
theorem before1_3 (d) : (dat1 V c).before 3 t1_0 d = V c main_v2 := by
  unfold Dat.before; rw [if_pos (by decide)]; exact block1_3 V c

/-- The first result array after its launch. -/
theorem final0 : (dat0 V c).arrAt 4 cfg0.N = peaksOf V c := by
  refine (dat0 V c).arrAt_eq_of_after_last 4 t0_0 (by decide +kernel) _ fun j => ?_
  rfl

/-- The second result array after its launch. -/
theorem final1 : (dat1 V c).arrAt 4 cfg1.N = selectOf V c := by
  refine (dat1 V c).arrAt_eq_of_after_last 4 t1_0 (by decide +kernel) _ fun j => ?_
  rfl

/-! ## The bodies -/

/-- The first body as printed. -/
theorem corr_body (x : FVec F S16x64x64 .f32) (p : FVec F S6x64x64 .f32) (dr di : FVec F S64x64 .f32) (r : IVec S96x4 32)
    (E : Set ℕ) (Q : PUnit → sProp 𝕄) :
    iprop(pt c (Memref.whole cc0_stg0_0) x ∗ pt c (Memref.whole cc0_stg1_0) p ∗ pt c (Memref.whole cc0_stg2_0) dr ∗ pt c (Memref.whole cc0_stg3_0) di
        ∗ pt c (Memref.whole cc0_stg4_0) r
        ∗ (iprop(pt c (Memref.whole cc0_stg0_0) x ∗ pt c (Memref.whole cc0_stg1_0) p ∗ pt c (Memref.whole cc0_stg2_0) dr ∗ pt c (Memref.whole cc0_stg3_0) di
            ∗ pt c (Memref.whole cc0_stg4_0) (peaks (corr x p dr di))) -∗ Q ⟨⟩))
      ⊢ wp frame (wpE (defs₀ (F := F)) Variants.none c none) E
          (cc0__corr_kernel (stage0_0 0) (hstage0_0 0) (stage0_1 0) (hstage0_1 0) (stage0_2 0) (hstage0_2 0) (stage0_3 0) (hstage0_3 0) (stage0_4 0) (hstage0_4 0)) Q := by
  rw [corr_text]
  exact corr_run c x p dr di r E Q

/-- The second body as printed. -/
theorem select_body (hr : InRange F) (idx : IVec S96x4 32) (x : FVec F S16x64x64 .f32) (pr : FVec F S6x64x64 .f32) (bg : FVec F S64x64 .f32)
    (r : FVec F S16x64x64 .f32) (T : FVec F S16x25x64x64 .f32) (E : Set ℕ) (Q : PUnit → sProp 𝕄) :
    iprop(pt c (Memref.whole cc1_stg0_0) idx ∗ pt c (Memref.whole cc1_stg1_0) x ∗ pt c (Memref.whole cc1_stg2_0) pr ∗ pt c (Memref.whole cc1_stg3_0) bg
        ∗ pt c (Memref.whole cc1_stg4_0) r ∗ pt c (Memref.whole cc1_scratch0) T
        ∗ (iprop(pt c (Memref.whole cc1_stg0_0) idx ∗ pt c (Memref.whole cc1_stg1_0) x ∗ pt c (Memref.whole cc1_stg2_0) pr ∗ pt c (Memref.whole cc1_stg3_0) bg
            ∗ pt c (Memref.whole cc1_stg4_0) (selectOut idx x pr bg) ∗ pt c (Memref.whole cc1_scratch0) (temps idx pr)) -∗ Q ⟨⟩))
      ⊢ wp frame (wpE (defs₀ (F := F)) Variants.none (c : Thread nD τ) none) E
          (cc1__select_kernel (stage1_0 0) (hstage1_0 0) (stage1_1 0) (hstage1_1 0) (stage1_2 0) (hstage1_2 0) (stage1_3 0) (hstage1_3 0) (stage1_4 0) (hstage1_4 0)
            (Memref.whole cc1_scratch0) (Memref.isWhole_whole _)) Q := by
  rw [show cc1__select_kernel (F := F) (stage1_0 0) (hstage1_0 0) (stage1_1 0) (hstage1_1 0) (stage1_2 0) (hstage1_2 0) (stage1_3 0) (hstage1_3 0) (stage1_4 0) (hstage1_4 0)
      (Memref.whole cc1_scratch0) (Memref.isWhole_whole _) = selectProg (Memref.whole cc1_stg0_0) (Memref.whole cc1_stg1_0) (Memref.whole cc1_stg2_0)
        (Memref.whole cc1_stg3_0) (Memref.whole cc1_stg4_0) (Memref.whole cc1_scratch0) from select_text ..]
  exact select_run hr c idx x pr bg r T E Q

theorem obligation0 : BodyObligation (dat0 V c) (defs₀ (F := F)) Variants.none () Set.univ := fun t => by
  obtain rfl := fin_N0 t
  rw [bigSep_W0, bigSep_W0]
  simp only [owns_whole_eq]
  rw [show (dat0 V c).Φ t0_0.succ = (dat0 V c).Φ t0_0.castSucc from rfl,
    show (dat0 V c).owesAt () t0_0.succ = (dat0 V c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before0_0] at hf0
  rw [before0_1] at hf1
  rw [before0_2] at hf2
  rw [before0_3] at hf3
  subst hf0 hf1 hf2 hf3
  iapply (corr_body c (V c main_v0) (V c main_v1) (V c main_cst) (V c main_cst_0) f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  iexists _; isplitr; swap; (· iexact H4); ipureintro; dsimp only [dat0]; rfl

theorem obligation1 (hr : InRange F) : BodyObligation (dat1 V c) (defs₀ (F := F)) Variants.none () Set.univ := fun t => by
  obtain rfl := fin_N1 t
  rw [bigSep_W1, bigSep_W1]
  simp only [owns_whole_eq]
  rw [show (dat1 V c).Φ t1_0.castSucc = Pipeline.scopedRest (Ix := Unit) (Name := ℕ) (U := UU) (Lvl := ℕ) (Val := Elt F) spec1 c from rfl,
    show (dat1 V c).Φ t1_0.succ = Pipeline.scopedRest (Ix := Unit) (Name := ℕ) (U := UU) (Lvl := ℕ) (Val := Elt F) spec1 c from rfl,
    show (dat1 V c).owesAt () t1_0.succ = (dat1 V c).owesAt () t1_0.castSucc from rfl, scopedRest1_eq]
  iintro ⟨⟨G0, G1, G2, G3, G4, ⟨%T, H5⟩⟩, Howes, ⟨%d0, %f0, %hf0, H0⟩, ⟨%d1, %f1, %hf1, H1⟩, ⟨%d2, %f2, %hf2, H2⟩, ⟨%d3, %f3, %hf3, H3⟩, ⟨%d4, %f4, -, H4⟩⟩
  rw [before1_0] at hf0
  rw [before1_1] at hf1
  rw [before1_2] at hf2
  rw [before1_3] at hf3
  subst hf0 hf1 hf2 hf3
  iapply (select_body c hr (V c main_v3) (V c main_v0) (V c main_v1) (V c main_v2) f4 T Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [G0 G1 G2 G3 G4 H5]
  · isplitl [G0]; · iexact G0
    isplitl [G1]; · iexact G1
    isplitl [G2]; · iexact G2
    isplitl [G3]; · iexact G3
    isplitl [G4]; · iexact G4
    iexists _; iexact H5
  isplitl [Howes]; · iexact Howes
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  iexists _; isplitr; swap; (· iexact H4); ipureintro; dsimp only [dat1]; rfl

end Cert.Proof.Kern

end
-- ==== Proof.WholeRun.lean ====
/-
  The whole program's run: it ends, nothing faults, the arguments stay, every semaphore counter is zero, and the result
  array holds the selection of the peaks, as one function of the three arguments.
-/
module

public import proofs.«01_k».proof.Proof.Launches
public import Idealize.ShloMosaic.Lib.Pipeline.RegionsLoop

@[expose] public section

noncomputable section

namespace Cert.Proof.Kern

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ UU ℕ

variable (m : (ℓ : Loc nD τ sig) → Buf (Elt F) ℓ)

/-! ## The contents between the items -/

/-- When the first launch is entered. -/
abbrev W1 (c : Dev nD) : Valuation τ sig (Elt F) := V1 m c
abbrev C1 : Contents F := fun c b => W1 m c b
/-- When the second is entered: the peaks are there. -/
abbrev W2 (c : Dev nD) : Valuation τ sig (Elt F) := Function.update (W1 m c) main_v3 (peaksOf (C1 m) c)
abbrev C2 : Contents F := fun c b => W2 m c b
/-- When it has ended: the selection is there. -/
abbrev W3 (c : Dev nD) : Valuation τ sig (Elt F) := Function.update (W2 m c) main_v4 (selectOf (C2 m) c)
abbrev C3 : Contents F := fun c b => W3 m c b
/-- At the end. -/
abbrev W4 (c : Dev nD) : Valuation τ sig (Elt F) := StableHlo.after hostOps2 (W3 m c)

theorem W2_of (c : Dev nD) (r : Ref sig .tc) (h : r ≠ main_v3) : W2 m c r = W1 m c r :=
  Function.update_of_ne (StableHlo.devRef_ne_of_ne h) _ _
theorem W3_of (c : Dev nD) (r : Ref sig .tc) (h : r ≠ main_v4) : W3 m c r = W2 m c r :=
  Function.update_of_ne (StableHlo.devRef_ne_of_ne h) _ _
theorem W2_peaks (c : Dev nD) : W2 m c main_v3 = peaksOf (C1 m) c := Function.update_self ..
theorem W3_select (c : Dev nD) : W3 m c main_v4 = selectOf (C2 m) c := Function.update_self ..

theorem W4_arg (c : Dev nD) (r : Ref sig .tc) (h5 : r ∉ hostOps2_W) (h4 : r ≠ main_v4) (h3 : r ≠ main_v3) (h0 : r ∉ hostOps0_W) :
    W4 m c r = m ((c : Thread nD τ).loc r) :=
  (StableHlo.after_of_writes_sub hostOps2 _ hostOps2_writes h5).trans <| (W3_of m c r h4).trans <| (W2_of m c r h3).trans <| (V1_of m c r h0).trans rfl

/-! ## The launches as segments -/

abbrev L : GSem nD τ sig → Finset Unit := fun _ => ∅
abbrev lv : GSem nD τ sig → Unit → ℕ := fun _ _ => 0

/-- The data of the two launches. -/
def pdats : (p : Fin 2) → (c : Dev nD) → Dat τ (Elt F) Unit ℕ UU ℕ (cfgs p) c
  | ⟨0, _⟩ => fun c => dat0 (C1 m) c
  | ⟨1, _⟩ => fun c => dat1 (C2 m) c

/-- What rides beside the arrays: nothing owed. -/
abbrev R (c : Dev nD) : sProp 𝕄 := iprop(∃ W, owes (c : Thread nD τ) (0 : CellTallies nD τ sig Unit) W)

set_option backward.isDefEq.respectTransparency.types false in
/-- The first launch. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (C1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := BI.emp
  Y _ := BI.emp
  Z c := Pipeline.unscopedRest (Ix := Unit) (Name := ℕ) (U := UU) (Lvl := ℕ) spec0 c (C1 m c)
  hentry c := by
    rw [Pipeline.ownSems0_none, ← Pipeline.unscopedBufs_held (Ix := Unit) (Name := ℕ) (U := UU) (Lvl := ℕ) c (W1 m c)]
    have hsplit := Pipeline.arrays_of_unscopedBufs (p := 0) (pcfgs (F := F)) adm (pdats m) launch0.win launch0.arr_whole c
      ((pdats m 0 c).share_full fun _ => rfl) (C1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none,
      show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    rw [← Pipeline.unscopedBufs_held (Ix := Unit) (Name := ℕ) (U := UU) (Lvl := ℕ) c (W2 m c)]
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (C1 m c) (C2 m c) ((pdats m 0 c).arrAt · cfg0.N)
      (fun w => by
        fin_cases w
        · exact ((pdats m 0 c).arrAt_in 0 rfl _).trans (W2_of m c main_v0 (by decide)).symm
        · exact ((pdats m 0 c).arrAt_in 1 rfl _).trans (W2_of m c main_v1 (by decide)).symm
        · exact ((pdats m 0 c).arrAt_in 2 rfl _).trans (W2_of m c main_cst (by decide)).symm
        · exact ((pdats m 0 c).arrAt_in 3 rfl _).trans (W2_of m c main_cst_0 (by decide)).symm
        · exact (final0 (C1 m) c).trans (W2_peaks m c).symm)
      (fun b hb => W2_of m c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second launch. -/
def reg1 (hr : InRange F) : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (obligation1 (C2 m) c hr).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X _ := BI.emp
  Y _ := BI.emp
  Z c := Pipeline.unscopedRest (Ix := Unit) (Name := ℕ) (U := UU) (Lvl := ℕ) spec1 c (C2 m c)
  hentry c := by
    rw [Pipeline.ownSems0_none, ← Pipeline.unscopedBufs_held (Ix := Unit) (Name := ℕ) (U := UU) (Lvl := ℕ) c (W2 m c)]
    have hsplit := Pipeline.arrays_of_unscopedBufs (p := 1) (pcfgs (F := F)) adm (pdats m) launch1.win launch1.arr_whole c
      ((pdats m 1 c).share_full fun _ => rfl) (C2 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none,
      show (pdats m 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    rw [← Pipeline.unscopedBufs_held (Ix := Unit) (Name := ℕ) (U := UU) (Lvl := ℕ) c (W3 m c)]
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (C2 m c) (C3 m c) ((pdats m 1 c).arrAt · cfg1.N)
      (fun w => by
        fin_cases w
        · exact ((pdats m 1 c).arrAt_in 0 rfl _).trans (W3_of m c main_v3 (by decide)).symm
        · exact ((pdats m 1 c).arrAt_in 1 rfl _).trans (W3_of m c main_v0 (by decide)).symm
        · exact ((pdats m 1 c).arrAt_in 2 rfl _).trans (W3_of m c main_v1 (by decide)).symm
        · exact ((pdats m 1 c).arrAt_in 3 rfl _).trans (W3_of m c main_v2 (by decide)).symm
        · exact (final1 (C2 m) c).trans (W3_select m c).symm)
      (fun b hb => W3_of m c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- The last reshape. -/
def lastSeg : HostSeg (Ix := Unit) (Name := ℕ) (U := UU) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

/-- The program's items. -/
abbrev items (hr : InRange F) (_ : Dev nD) : List (Seg (pcfgs (F := F)) adm (pdats m) () defs₀ Variants.none L lv) :=
  [.host (seg0 m Variants.none L lv fun _ => R), .region (reg0 m), .region (reg1 m hr), .host (lastSeg m)]

abbrev EP : Emb (UR sig nD τ) 𝕄 := embL

/-- The element the run starts from. -/
def u₀ : UU := (initOf (Pipeline.cells cfgs cellOf_inj) (Pipeline.launchToks cfgs cellOf_inj), 1)

set_option backward.isDefEq.respectTransparency.types false in
/-- The run of the whole program. -/
theorem run_whole (hr : InRange F) (ρ : Dev nD → PrngReg) :
    θ_run defs (onTc (τ := τ) (main (F := F))) ⟨m, fun _ => 0, ρ⟩ (fun r => (∀ c : Dev nD,
      r.2.mem ((c.tc : Thread nD τ).loc main_v5) = W4 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj EP defs₀ Variants.none L lv m ρ main
    (items m hr)
    (fun c Q => by
      rewrite [main_chain c, Seg.run_eq_chain,
        show (items m hr c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [items, Seg.pipes_host, Seg.pipes_region, Seg.pipes_nil]; decide) (O₀ := 0) (hL := fun _ _ => rfl) (G := fun _ => iprop(emp)) (u₀ := u₀)
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (W4 m c))
    (hch := fun c => ⟨.rfl, .rfl, .rfl, .rfl, .rfl⟩)
    (hinit := ?_)
    (QY := fun c s => s.mem ((c.tc : Thread nD τ).loc main_v5) = W4 m c main_v5
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans
          (W4_arg m c main_arg0 (by decide) (by decide) (by decide) (by decide)),
        (h (Proc.devRef .tc main_arg1) (Finset.mem_filter.mpr ⟨StableHlo.devRef_mem_tcRefs main_arg1, by decide⟩)).trans
          (W4_arg m c main_arg1 (by decide) (by decide) (by decide) (by decide)),
        (h (Proc.devRef .tc main_arg2) (Finset.mem_filter.mpr ⟨StableHlo.devRef_mem_tcRefs main_arg2, by decide⟩)).trans
          (W4_arg m c main_arg2 (by decide) (by decide) (by decide) (by decide))⟩
    · iexact HSI

/-! ## The result as a function of the arguments -/

/-- The two tables of cosines and sines. -/
def cosT : FVec F S64x64 .f32 := fun i => FloatOps.ofBits .f32 (lit0 (S64x64.rowMajor i))
def sinT : FVec F S64x64 .f32 := fun i => FloatOps.ofBits .f32 (lit1 (S64x64.rowMajor i))

/-- The kernel's result from the images, the prototypes and the background. -/
def kernelOut (x : FVec F S16x1x64x64 .f32) (p : FVec F S6x1x64x64 .f32) (bg : FVec F S1x1x64x64 .f32) : FVec F S16x1x64x64 .f32 :=
  let x' := shapeCast S16x64x64 x shapeCasts_S16x1x64x64_S16x64x64
  let p' := shapeCast S6x64x64 p shapeCasts_S6x1x64x64_S6x64x64
  let b' := shapeCast S64x64 bg shapeCasts_S1x1x64x64_S64x64
  shapeCast S16x1x64x64 (selectOut (peaks (corr x' p' cosT sinT)) x' p' b') shapeCasts_S16x64x64_S16x1x64x64

theorem W4_out (c : Dev nD) :
    W4 m c main_v5 = kernelOut (m ((c : Thread nD τ).loc main_arg0)) (m ((c : Thread nD τ).loc main_arg1)) (m ((c : Thread nD τ).loc main_arg2)) := by
  have e0 : W1 m c main_v0 = shapeCast S16x64x64 (m ((c : Thread nD τ).loc main_arg0)) shapeCasts_S16x1x64x64_S16x64x64 := rfl
  have e1 : W1 m c main_v1 = shapeCast S6x64x64 (m ((c : Thread nD τ).loc main_arg1)) shapeCasts_S6x1x64x64_S6x64x64 := rfl
  have e2 : W1 m c main_v2 = shapeCast S64x64 (m ((c : Thread nD τ).loc main_arg2)) shapeCasts_S1x1x64x64_S64x64 := rfl
  have ec : W1 m c main_cst = (cosT (F := F) : FVec F S64x64 .f32) := rfl
  have es : W1 m c main_cst_0 = (sinT (F := F) : FVec F S64x64 .f32) := rfl
  have h : W4 m c main_v5 = shapeCast S16x1x64x64 (W3 m c main_v4) shapeCasts_S16x64x64_S16x1x64x64 := rfl
  rw [h, W3_select]
  unfold selectOf kernelOut
  dsimp only
  rw [show C2 m c main_v3 = peaksOf (C1 m) c from W2_peaks m c, show C2 m c main_v0 = _ from (W2_of m c main_v0 (by decide)).trans e0,
    show C2 m c main_v1 = _ from (W2_of m c main_v1 (by decide)).trans e1, show C2 m c main_v2 = _ from (W2_of m c main_v2 (by decide)).trans e2]
  unfold peaksOf
  rw [show C1 m c main_v0 = _ from e0, show C1 m c main_v1 = _ from e1, show C1 m c main_cst = _ from ec, show C1 m c main_cst_0 = _ from es]

end Cert.Proof.Kern

end
-- ==== Proof.Firsts.lean ====
/-
  The first position of an extreme value, in the two spellings the programs use: a kernel's minimum over the positions
  that attain the extreme, and the host's stable sort by value. Both are the position that comes first when positions
  are ordered by value, greatest first, and equal values by position.
-/
module

public import Idealize.ShloMosaic.Lib.Pointwise
public import Idealize.ShloMosaic.Lib.SortFacts

@[expose] public section

noncomputable section

namespace Cert.Proof

open Idealize.ShloMosaic

/-! ## Folds by maximum and minimum -/

theorem fold_max_eq {ι : Type} [Fintype ι] (f : ι → EReal) (g : ι) (hg : ∀ j, f j ≤ f g) :
    Finset.univ.fold max ⊥ f = f g := by
  refine le_antisymm ?_ ?_
  · rw [Finset.fold_max_le]; exact ⟨bot_le, fun x _ => hg x⟩
  · rw [Finset.le_fold_max]; exact .inr ⟨g, Finset.mem_univ g, le_refl _⟩

theorem fold_min_eq {ι : Type} [Fintype ι] (f : ι → EReal) (g : ι) (hg : ∀ j, f g ≤ f j) :
    Finset.univ.fold min ⊤ f = f g := by
  refine le_antisymm ?_ ?_
  · rw [Finset.fold_min_le]; exact .inr ⟨g, Finset.mem_univ g, le_refl _⟩
  · rw [Finset.le_fold_min]; exact ⟨le_top, fun x _ => hg x⟩

theorem toInt_minsi (x y : BitVec 32) : (IntOp.minsi x y).toInt = min x.toInt y.toInt := by
  unfold IntOp.minsi
  simp only [BitVec.slt, decide_eq_true_eq]
  split <;> omega

theorem toInt_fold_minsi {ι : Type} (s : Finset ι) (a : BitVec 32) (f : ι → BitVec 32) :
    (s.fold IntOp.minsi a f).toInt = s.fold min a.toInt fun x => (f x).toInt :=
  (Finset.fold_hom (op := IntOp.minsi) (op' := min) (m := BitVec.toInt) toInt_minsi).symm

theorem toInt_ofNat_small (n : Nat) (h : n < 2 ^ 31) : (BitVec.ofNat 32 n).toInt = n := by
  rw [BitVec.toInt_eq_toNat_cond, BitVec.toNat_ofNat]; omega

/-- The least number among the positions with a property, every other position standing as a greater number. -/
theorem first_number {ι : Type} [Fintype ι] (P : ι → Prop) [DecidablePred P] (n : ι → Nat) (c : Nat) (hc : c < 2 ^ 31) (hn : ∀ x, n x < c)
    (g : ι) (hg : P g) (hfirst : ∀ j, P j → n g ≤ n j) :
    Finset.univ.fold IntOp.minsi 2147483647#32 (fun x => if P x then BitVec.ofNat 32 (n x) else BitVec.ofNat 32 c) = BitVec.ofNat 32 (n g) := by
  apply BitVec.eq_of_toInt_eq
  rw [toInt_fold_minsi, toInt_ofNat_small _ ((hn g).trans hc)]
  refine le_antisymm ?_ ?_
  · rw [Finset.fold_min_le]
    refine .inr ⟨g, Finset.mem_univ g, ?_⟩
    rw [if_pos hg, toInt_ofNat_small _ ((hn g).trans hc)]
  · rw [Finset.le_fold_min]
    refine ⟨?_, fun x _ => ?_⟩
    · have := hn g
      show (n g : Int) ≤ 2147483647
      omega
    · split
      · rename_i hx
        rw [toInt_ofNat_small _ ((hn x).trans hc)]
        exact_mod_cast hfirst x hx
      · rw [toInt_ofNat_small _ hc]
        exact_mod_cast (hn g).le

/-- There is a first position of the greatest value. -/
theorem exists_first_max {ι : Type} [Fintype ι] [Nonempty ι] (f : ι → EReal) (n : ι → Nat) :
    ∃ g, (∀ j, f j ≤ f g) ∧ ∀ j, f j = f g → n g ≤ n j := by
  classical
  obtain ⟨m, -, hm⟩ := Finset.exists_max_image Finset.univ f Finset.univ_nonempty
  obtain ⟨g, hg, hmin⟩ := Finset.exists_min_image (Finset.univ.filter fun j => f j = f m) n ⟨m, by simp⟩
  have hgm : f g = f m := (Finset.mem_filter.mp hg).2
  refine ⟨g, fun j => hgm ▸ hm j (Finset.mem_univ j), fun j hj => hmin j ?_⟩
  simp [hj, hgm]

/-- There is a first position of the least value. -/
theorem exists_first_min {ι : Type} [Fintype ι] [Nonempty ι] (f : ι → EReal) (n : ι → Nat) :
    ∃ g, (∀ j, f g ≤ f j) ∧ ∀ j, f j = f g → n g ≤ n j := by
  obtain ⟨g, h1, h2⟩ := exists_first_max (fun j => -f j) n
  exact ⟨g, fun j => EReal.neg_le_neg_iff.mp (h1 j), fun j hj => h2 j (congrArg _ hj)⟩

/-! ## The stable sort by value -/

/-- `i` comes before `j`: by value, greatest first, equal values by position. -/
def Ahead {N : Nat} (f : Fin N → EReal) (i j : Fin N) : Prop := f j < f i ∨ (f i = f j ∧ i < j)

theorem Ahead.total {N : Nat} (f : Fin N → EReal) {i j : Fin N} (h : ¬ Ahead f j i) (hij : i ≠ j) : Ahead f i j := by
  unfold Ahead at *
  push Not at h
  rcases lt_trichotomy (f i) (f j) with h1 | h1 | h1
  · exact absurd h1 (not_lt.mpr h.1)
  · exact .inr ⟨h1, lt_of_le_of_ne (h.2 h1.symm) hij⟩
  · exact .inl h1

theorem Ahead.asymm {N : Nat} (f : Fin N → EReal) {i j : Fin N} (h : Ahead f i j) : ¬ Ahead f j i := by
  rintro (h' | ⟨h', h''⟩)
  · rcases h with h | ⟨h, _⟩
    · exact lt_asymm h h'
    · exact (ne_of_gt h') h.symm
  · rcases h with h | ⟨_, h⟩
    · exact (ne_of_gt h) h'.symm
    · exact lt_asymm h h''

theorem not_ahead_trans {N : Nat} (f : Fin N → EReal) {a b c : Fin N} (h1 : ¬ Ahead f a b) (h2 : ¬ Ahead f b c) : ¬ Ahead f a c := by
  unfold Ahead at *
  push Not at *
  refine ⟨h1.1.trans h2.1, fun h => ?_⟩
  have hab : f a = f b := le_antisymm h1.1 (h ▸ h2.1)
  exact (h2.2 (hab ▸ h)).trans (h1.2 hab)

theorem stableSort_ordered {N : Nat} (R R' : Fin N → Fin N → Bool) (h : ∀ a b, a < b → R b a = R' b a) (l : List (Fin N))
    (hl : l.Pairwise (· < ·)) : stableSort R l = stableSort R' l := by
  induction l with
  | nil => rfl
  | cons a l ih =>
    rw [List.pairwise_cons] at hl
    unfold stableSort
    rw [ih hl.2]
    exact insertBefore_congr _ _ _ _ fun b hb => h a b (hl.1 b ((perm_stableSort R' l).mem_iff.mp hb))

open Classical in
/-- The stable sort by a comparison that is the order of values puts positions in the order of `Ahead`. -/
theorem sorted_ahead {N : Nat} (f : Fin N → EReal) (R : Fin N → Fin N → Bool) (hR : ∀ a b, R a b = decide (f b < f a)) (i j : Fin N)
    (hij : i < j) : Ahead f (sortedFrom R i) (sortedFrom R j) := by
  have hs : sortedFrom R = sortedFrom (fun a b => decide (Ahead f a b)) := by
    funext k
    unfold sortedFrom
    rw [List.get_of_eq (show sortPositions N R = sortPositions N _ from
      stableSort_ordered R (fun a b => decide (Ahead f a b)) (fun a b hab => by
        rw [hR, decide_eq_decide]
        unfold Ahead
        constructor
        · exact .inl
        · rintro (h | ⟨_, h⟩)
          · exact h
          · exact absurd h (lt_asymm hab)) (List.finRange N) (List.pairwise_lt_finRange N))]
    rfl
  rw [hs]
  refine Ahead.total f ?_ fun h => absurd (sortedFrom_injective _ h) (ne_of_lt hij)
  have := sortedFrom_noInversion (fun a b => decide (Ahead f a b)) (fun a b => decide (Ahead f a b))
    (fun a b h => decide_eq_false (Ahead.asymm f (of_decide_eq_true h))) (fun _ _ h => h)
    (fun a b c h1 h2 => decide_eq_false (not_ahead_trans f (of_decide_eq_false h1) (of_decide_eq_false h2))) i j hij
  exact of_decide_eq_false this

/-- The positions in an order: each is ahead of every position that is neither it nor earlier. -/
theorem sorted_first {N : Nat} (f : Fin N → EReal) (R : Fin N → Fin N → Bool) (hR : ∀ a b, R a b = decide (f b < f a)) (t : Fin N)
    (g : Fin N) (hg : ∀ s, s < t → sortedFrom R s ≠ g) (hfirst : ∀ j, (∀ s, s < t → sortedFrom R s ≠ j) → ¬ Ahead f j g) :
    sortedFrom R t = g := by
  obtain ⟨s, rfl⟩ := sortedFrom_surjective R g
  have hts : t ≤ s := by
    by_contra h
    exact hg s (not_le.mp h) rfl
  rcases eq_or_lt_of_le hts with rfl | hlt
  · rfl
  · exact absurd (sorted_ahead f R hR t s hlt) (hfirst _ fun s' hs' he => absurd (sortedFrom_injective R he) (ne_of_lt hs'))

/-- The first position of the greatest value is the first in the sorted order. -/
theorem sorted_zero {N : Nat} (f : Fin N → EReal) (R : Fin N → Fin N → Bool) (hR : ∀ a b, R a b = decide (f b < f a)) (hN : 0 < N)
    (g : Fin N) (h1 : ∀ j, f j ≤ f g) (h2 : ∀ j, f j = f g → g ≤ j) : sortedFrom R ⟨0, hN⟩ = g := by
  refine sorted_first f R hR _ g (fun s hs => absurd hs (Nat.not_lt_zero _)) fun j _ h => ?_
  rcases h with h | ⟨h, h'⟩
  · exact absurd h (not_lt.mpr (h1 j))
  · exact absurd h' (not_lt.mpr (h2 j h))

/-! ## Repeated maxima, the taken positions struck out -/

/-- The values with the positions in `S` at a value below all. -/
def struck {N : Nat} (f : Fin N → EReal) (low : EReal) (S : Fin N → Prop) (j : Fin N) : EReal := by
  classical exact if S j then low else f j

theorem struck_first {N : Nat} (f : Fin N → EReal) (R : Fin N → Fin N → Bool) (hR : ∀ a b, R a b = decide (f b < f a)) (low : EReal)
    (hlow : ∀ j, low < f j) (t : Fin N) (g : Fin N)
    (h1 : ∀ j, struck f low (fun j => ∃ s, s < t ∧ sortedFrom R s = j) j ≤ struck f low (fun j => ∃ s, s < t ∧ sortedFrom R s = j) g)
    (h2 : ∀ j, struck f low (fun j => ∃ s, s < t ∧ sortedFrom R s = j) j = struck f low (fun j => ∃ s, s < t ∧ sortedFrom R s = j) g → g ≤ j) :
    sortedFrom R t = g := by
  have hg : ¬ ∃ s, s < t ∧ sortedFrom R s = g := by
    intro hS
    have := h1 (sortedFrom R t)
    unfold struck at this
    rw [if_pos hS, if_neg fun ⟨s, hs, he⟩ => absurd (sortedFrom_injective R he) (ne_of_lt hs)] at this
    exact absurd this (not_le.mpr (hlow _))
  refine sorted_first f R hR t g (fun s hs he => hg ⟨s, hs, he⟩) fun j hj h => ?_
  have hj' : ¬ ∃ s, s < t ∧ sortedFrom R s = j := fun ⟨s, hs, he⟩ => hj s hs he
  have a1 := h1 j
  have a2 := h2 j
  unfold struck at a1 a2
  rw [if_neg hj', if_neg hg] at a1 a2
  rcases h with h | ⟨h, h'⟩
  · exact absurd h (not_lt.mpr a1)
  · exact absurd h' (not_lt.mpr (a2 h))

end Cert.Proof

end
-- ==== Proof.Choices.lean ====
/-
  The kernels' searches, as positions: the candidate of least error, and the pair's highest positions.
-/
module

public import proofs.«01_k».proof.Proof.WholeRun
public import proofs.«01_k».proof.Proof.Firsts

@[expose] public section

set_option maxRecDepth 16384

noncomputable section

namespace Cert.Proof.Kern

open Cert.KernelIdeal Cert.KernelIdeal.Gen
open Idealize.ShloMosaic Idealize.SL.Sem

theorem posInf : Ideal.ofBits FTy.f32 2139095040#32 = (⊤ : EReal) := by
  simp [Ideal.ofBits, Ideal.ieee]
theorem negInf : Ideal.ofBits FTy.f32 4286578688#32 = (⊥ : EReal) := by
  simp [Ideal.ofBits, Ideal.ieee]

/-- The candidate chosen is the first of least error. -/
theorem best_eq (em : FVec Ideal S16x25 .f32) (b : Fin 16) (g : Fin 25) (h1 : ∀ j, em (ix2 b g) ≤ em (ix2 b j))
    (h2 : ∀ j, em (ix2 b j) = em (ix2 b g) → g.val ≤ j.val) : best em (ix2 b 0) = BitVec.ofNat 32 g.val := by
  pointwise [best, cands]
  rw [posInf, fold_min_eq (fun x => em (ix2 b x)) g h1]
  exact first_number (fun x => em (ix2 b x) = em (ix2 b g)) (fun x : Fin 25 => x.val) 25 (by norm_num) (fun x => x.isLt) g rfl h2

theorem selAt_eq (sel : IVec S16x1 32) (b : Nat) (hb : b < 16) : selAt sel b hb = sel (ix2 ⟨b, hb⟩ 0) := by
  pointwise [selAt]

/-- The candidate chosen is one of the twenty-five. -/
theorem inRange : InRange Ideal := by
  intro em b hb
  obtain ⟨g, h1, h2⟩ := exists_first_min (fun x : Fin 25 => em (ix2 ⟨b, hb⟩ x)) (fun x => x.val)
  rw [selAt_eq, best_eq em ⟨b, hb⟩ g h1 h2, BitVec.toNat_ofNat, Nat.mod_eq_of_lt (by have := g.isLt; omega)]
  exact g.isLt

end Cert.Proof.Kern

end
-- ==== Proof.Frames.lean ====
/-
  Both programs run and leave their arguments and every semaphore as they were.
-/
module

public import proofs.«01_k».proof.Defs
public import proofs.«01_k».proof.Proof.Choices
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

instance : Cert.KernelIdeal.Facts := Cert.KernelIdeal.Gen.facts
instance : Cert.ReferenceIdeal.Facts := Cert.ReferenceIdeal.Gen.facts

theorem frame_pi : Cert.quiescent_KernelIdeal := fun m ρ _ =>
  (θ_run Cert.KernelIdeal.defs _ _).mono (fun _ h => ⟨fun c => (h.1 c).2, h.2⟩) (Kern.run_whole m Kern.inRange ρ)

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.RefText.lean ====
/-
  The reference as a few functions of arrays: its correlation, its templates, a greedy round and the composition. The
  printed reference is these functions applied to its three arguments.
-/
module

public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.SL.Sem

variable {F : FTy → Type} [FloatOps F]

/-! ## The correlation -/

/-- The table of cosines. -/
def cosT : FVec F S64x64 .f32 := fun i => FloatOps.ofBits .f32 (lit0 (S64x64.rowMajor i))
/-- The table of sines. -/
def sinT : FVec F S64x64 .f32 := fun i => FloatOps.ofBits .f32 (lit1 (S64x64.rowMajor i))

/-- Sixteen arrays' columns against a table. -/
def cols16 (v : FVec F S16x64x64 .f32) (t : FVec F S64x64 .f32) : FVec F S16x64x64 .f32 :=
  Host.dotGeneral dot_S16x64x64_S64x64_S16x64x64_2_1_01_0_n_n (some .fp32) v t
/-- Sixteen arrays' rows against a table. -/
def rows16 (v : FVec F S16x64x64 .f32) (t : FVec F S64x64 .f32) : FVec F S16x64x64 .f32 :=
  transpose S16x64x64 [0, 2, 1] (Host.dotGeneral dot_S16x64x64_S64x64_S16x64x64_1_1_02_0_n_n (some .fp32) v t) transposes_S16x64x64_S16x64x64_0_2_1
/-- The images' transform, real part. -/
def imgRe (x : FVec F S16x64x64 .f32) (c s : FVec F S64x64 .f32) : FVec F S16x64x64 .f32 := subf (rows16 (cols16 x c) c) (rows16 (cols16 x s) s)
/-- The images' transform, imaginary part. -/
def imgIm (x : FVec F S16x64x64 .f32) (c s : FVec F S64x64 .f32) : FVec F S16x64x64 .f32 := addf (rows16 (cols16 x c) s) (rows16 (cols16 x s) c)

/-- Six arrays' columns against a table. -/
def cols6 (v : FVec F S6x64x64 .f32) (t : FVec F S64x64 .f32) : FVec F S6x64x64 .f32 :=
  Host.dotGeneral dot_S6x64x64_S64x64_S6x64x64_2_1_01_0_n_n (some .fp32) v t
/-- Six arrays' rows against a table. -/
def rows6 (v : FVec F S6x64x64 .f32) (t : FVec F S64x64 .f32) : FVec F S6x64x64 .f32 :=
  transpose S6x64x64 [0, 2, 1] (Host.dotGeneral dot_S6x64x64_S64x64_S6x64x64_1_1_02_0_n_n (some .fp32) v t) transposes_S6x64x64_S6x64x64_0_2_1
/-- The prototypes' transform, real part. -/
def protoRe (p : FVec F S6x64x64 .f32) (c s : FVec F S64x64 .f32) : FVec F S6x64x64 .f32 := subf (rows6 (cols6 p c) c) (rows6 (cols6 p s) s)
/-- The prototypes' transform, imaginary part. -/
def protoIm (p : FVec F S6x64x64 .f32) (c s : FVec F S64x64 .f32) : FVec F S6x64x64 .f32 := addf (rows6 (cols6 p c) s) (rows6 (cols6 p s) c)

/-- Once per pair: an image's array. -/
def ofImage (v : FVec F S16x64x64 .f32) : FVec F S16x6x64x64 .f32 :=
  broadcastInDim S16x6x64x64 ![0, 1, 2, 3] bcast_S16x1x64x64_S16x6x64x64_0_1_2_3 (broadcastInDim S16x1x64x64 ![0, 2, 3] bcast_S16x64x64_S16x1x64x64_0_2_3 v)
/-- Once per pair: a prototype's array. -/
def ofProto (v : FVec F S6x64x64 .f32) : FVec F S16x6x64x64 .f32 :=
  broadcastInDim S16x6x64x64 ![0, 1, 2, 3] bcast_S1x6x64x64_S16x6x64x64_0_1_2_3 (broadcastInDim S1x6x64x64 ![1, 2, 3] bcast_S6x64x64_S1x6x64x64_1_2_3 v)

/-- Real part of the cross spectrum. -/
def crossRe (xr xi : FVec F S16x64x64 .f32) (pr pi : FVec F S6x64x64 .f32) : FVec F S16x6x64x64 .f32 :=
  addf (mulf (ofImage xr) (ofProto pr)) (mulf (ofImage xi) (ofProto pi))
/-- Its imaginary part. -/
def crossIm (xr xi : FVec F S16x64x64 .f32) (pr pi : FVec F S6x64x64 .f32) : FVec F S16x6x64x64 .f32 :=
  subf (mulf (ofImage xi) (ofProto pr)) (mulf (ofImage xr) (ofProto pi))
/-- Its modulus plus the small constant. -/
def modulus (cr ci : FVec F S16x6x64x64 .f32) : FVec F S16x6x64x64 .f32 :=
  addf (Host.sqrt (addf (mulf cr cr) (mulf ci ci))) (broadcastInDim S16x6x64x64 ![] bcast_S_S16x6x64x64 (constant S_ .f32 0x322BCC77#32))
/-- A part of the cross spectrum normalised. -/
def unit (cr ci v : FVec F S16x6x64x64 .f32) : FVec F S96x64x64 .f32 :=
  shapeCast S96x64x64 (Host.divf v (modulus cr ci)) shapeCasts_S16x6x64x64_S96x64x64

/-- Every pair's columns against a table. -/
def cols96 (v : FVec F S96x64x64 .f32) (t : FVec F S64x64 .f32) : FVec F S96x64x64 .f32 :=
  Host.dotGeneral dot_S96x64x64_S64x64_S96x64x64_2_1_01_0_n_n (some .fp32) v t
/-- Every pair's rows against a table. -/
def rows96 (v : FVec F S96x64x64 .f32) (t : FVec F S64x64 .f32) : FVec F S96x64x64 .f32 :=
  transpose S96x64x64 [0, 2, 1] (Host.dotGeneral dot_S96x64x64_S64x64_S96x64x64_1_1_02_0_n_n (some .fp32) v t) transposes_S96x64x64_S96x64x64_0_2_1
/-- The inverse transform's real part. -/
def inverse (ar ai : FVec F S96x64x64 .f32) (c s : FVec F S64x64 .f32) : FVec F S96x64x64 .f32 :=
  Host.divf (addf (cols96 (addf (rows96 ar c) (rows96 ai s)) c) (cols96 (subf (rows96 ai c) (rows96 ar s)) s))
    (broadcastInDim S96x64x64 ![] bcast_S_S96x64x64 (constant S_ .f32 0x45800000#32))

/-- The correlation from the cross spectrum. -/
def corrFrom (cr ci : FVec F S16x6x64x64 .f32) (c s : FVec F S64x64 .f32) : FVec F S96x64x64 .f32 := inverse (unit cr ci cr) (unit cr ci ci) c s

/-- The correlation of every pair. -/
def corr (x : FVec F S16x64x64 .f32) (p : FVec F S6x64x64 .f32) (c s : FVec F S64x64 .f32) : FVec F S96x64x64 .f32 :=
  corrFrom (crossRe (imgRe x c s) (imgIm x c s) (protoRe p c s) (protoIm p c s)) (crossIm (imgRe x c s) (imgIm x c s) (protoRe p c s) (protoIm p c s)) c s

/-- Every pair's four highest positions. -/
def peaks (v : FVec F S96x64x64 .f32) : IVec S16x6x4 32 :=
  (Host.topK S16x6x4 2 (FloatOps.cmpfTotal .gt) (shapeCast S16x6x4096 v shapeCasts_S96x64x64_S16x6x4096) sliceFits_S16x6x4096_S16x6x4).2

/-! ## The templates -/

/-- The prototypes' numbers. -/
def protoNo : IVec S1x6x1x1x1 32 := broadcastInDim S1x6x1x1x1 ![1] bcast_S6_S1x6x1x1x1_1 (iotaInDim S6 32 0)
/-- The source rows of every roll. -/
def rowNo (idx : IVec S16x6x4 32) : IVec S16x6x4x64x1 32 :=
  Host.remsi (subi (broadcastInDim S16x6x4x64x1 ![0, 1, 2, 3, 4] bcast_S1x1x1x64x1_S16x6x4x64x1_0_1_2_3_4 (broadcastInDim S1x1x1x64x1 ![3, 4] bcast_S64x1_S1x1x1x64x1_3_4 (addi (broadcastInDim S64x1 ![0] bcast_S64_S64x1_0 (iotaInDim S64 32 0)) (broadcastInDim S64x1 ![] bcast_S_S64x1 (constantI S_ 32 64#32))))) (broadcastInDim S16x6x4x64x1 ![0, 1, 2, 3, 4] bcast_S16x6x4x1x1_S16x6x4x64x1_0_1_2_3_4 (broadcastInDim S16x6x4x1x1 ![0, 1, 2] bcast_S16x6x4_S16x6x4x1x1_0_1_2 (Host.divsi idx (broadcastInDim S16x6x4 ![] bcast_S_S16x6x4 (constantI S_ 32 64#32)))))) (broadcastInDim S16x6x4x64x1 ![] bcast_S_S16x6x4x64x1 (constantI S_ 32 64#32))
/-- The source columns of every roll. -/
def colNo (idx : IVec S16x6x4 32) : IVec S16x6x4x1x64 32 :=
  Host.remsi (subi (broadcastInDim S16x6x4x1x64 ![0, 1, 2, 3, 4] bcast_S1x1x1x1x64_S16x6x4x1x64_0_1_2_3_4 (broadcastInDim S1x1x1x1x64 ![3, 4] bcast_S1x64_S1x1x1x1x64_3_4 (addi (broadcastInDim S1x64 ![1] bcast_S64_S1x64_1 (iotaInDim S64 32 0)) (broadcastInDim S1x64 ![] bcast_S_S1x64 (constantI S_ 32 64#32))))) (broadcastInDim S16x6x4x1x64 ![0, 1, 2, 3, 4] bcast_S16x6x4x1x1_S16x6x4x1x64_0_1_2_3_4 (broadcastInDim S16x6x4x1x1 ![0, 1, 2] bcast_S16x6x4_S16x6x4x1x1_0_1_2 (Host.remsi idx (broadcastInDim S16x6x4 ![] bcast_S_S16x6x4 (constantI S_ 32 64#32)))))) (broadcastInDim S16x6x4x1x64 ![] bcast_S_S16x6x4x1x64 (constantI S_ 32 64#32))

/-- Where each rolled pixel comes from. -/
def source (idx : IVec S16x6x4 32) : IVec S16x6x4x64x64x3 32 :=
  concatenate S16x6x4x64x64x3 5 [⟨S16x6x4x64x64x1, (broadcastInDim S16x6x4x64x64x1 ![0, 1, 2, 3, 4] bcast_S16x6x4x64x64_S16x6x4x64x64x1_0_1_2_3_4 (broadcastInDim S16x6x4x64x64 ![0, 1, 2, 3, 4] bcast_S1x6x1x1x1_S16x6x4x64x64_0_1_2_3_4 (select (cmpi .slt protoNo (broadcastInDim S1x6x1x1x1 ![] bcast_S_S1x6x1x1x1 (constantI S_ 32 0#32))) (addi protoNo (broadcastInDim S1x6x1x1x1 ![] bcast_S_S1x6x1x1x1 (constantI S_ 32 6#32))) protoNo)))⟩,
    ⟨S16x6x4x64x64x1, (broadcastInDim S16x6x4x64x64x1 ![0, 1, 2, 3, 4] bcast_S16x6x4x64x64_S16x6x4x64x64x1_0_1_2_3_4 (broadcastInDim S16x6x4x64x64 ![0, 1, 2, 3, 4] bcast_S16x6x4x64x1_S16x6x4x64x64_0_1_2_3_4 (select (cmpi .slt (rowNo idx) (broadcastInDim S16x6x4x64x1 ![] bcast_S_S16x6x4x64x1 (constantI S_ 32 0#32))) (addi (rowNo idx) (broadcastInDim S16x6x4x64x1 ![] bcast_S_S16x6x4x64x1 (constantI S_ 32 64#32))) (rowNo idx))))⟩,
    ⟨S16x6x4x64x64x1, (broadcastInDim S16x6x4x64x64x1 ![0, 1, 2, 3, 4] bcast_S16x6x4x64x64_S16x6x4x64x64x1_0_1_2_3_4 (broadcastInDim S16x6x4x64x64 ![0, 1, 2, 3, 4] bcast_S16x6x4x1x64_S16x6x4x64x64_0_1_2_3_4 (select (cmpi .slt (colNo idx) (broadcastInDim S16x6x4x1x64 ![] bcast_S_S16x6x4x1x64 (constantI S_ 32 0#32))) (addi (colNo idx) (broadcastInDim S16x6x4x1x64 ![] bcast_S_S16x6x4x1x64 (constantI S_ 32 64#32))) (colNo idx))))⟩]
    concatenates_S16x6x4x64x64x1_S16x6x4x64x64x1_S16x6x4x64x64x1_S16x6x4x64x64x3_d5

/-- The prototypes rolled. -/
def rolledAll (p : FVec F S6x64x64 .f32) (idx : IVec S16x6x4 32) : FVec F S16x6x4x64x64 .f32 :=
  Host.gather gather_S6x64x64_S16x6x4x64x64x3_S16x6x4x64x64_n_012_n_n_012_5_111 p (source idx)

/-- The empty template and the rolled prototypes. -/
def temps (p : FVec F S6x64x64 .f32) (idx : IVec S16x6x4 32) : FVec F S16x25x64x64 .f32 :=
  concatenate S16x25x64x64 1 [⟨S16x1x64x64, broadcastInDim S16x1x64x64 ![] bcast_S_S16x1x64x64 (constant S_ .f32 0x00000000#32)⟩,
    ⟨S16x24x64x64, shapeCast S16x24x64x64 (rolledAll p idx) shapeCasts_S16x6x4x64x64_S16x24x64x64⟩] concatenates_S16x1x64x64_S16x24x64x64_S16x25x64x64_d1

/-! ## The greedy rounds -/

/-- Where the templates cover, as ones and zeros. -/
def tmask (T : FVec F S16x25x64x64 .f32) : FVec F S16x25x64x64 .f32 :=
  uitofp .f32 (cmpf .ogt T (broadcastInDim S16x25x64x64 ![] bcast_S_S16x25x64x64 (constant S_ .f32 0x3DCCCCCD#32)))
/-- Each candidate over the background. -/
def base (bg : FVec F S64x64 .f32) (T : FVec F S16x25x64x64 .f32) : FVec F S16x25x64x64 .f32 :=
  addf (mulf (broadcastInDim S16x25x64x64 ![0, 1, 2, 3] bcast_S1x1x64x64_S16x25x64x64_0_1_2_3 (broadcastInDim S1x1x64x64 ![2, 3] bcast_S64x64_S1x1x64x64_2_3 bg))
    (subf (broadcastInDim S16x25x64x64 ![] bcast_S_S16x25x64x64 (constant S_ .f32 0x3F800000#32)) (tmask T))) (mulf T (tmask T))
/-- A chosen template, with a candidate axis. -/
def lift1 (ch : FVec F S16x64x64 .f32) : FVec F S16x1x64x64 .f32 := broadcastInDim S16x1x64x64 ![0, 2, 3] bcast_S16x64x64_S16x1x64x64_0_2_3 ch
/-- Where it covers. -/
def cmask (ch : FVec F S16x64x64 .f32) : FVec F S16x1x64x64 .f32 :=
  uitofp .f32 (cmpf .ogt (lift1 ch) (broadcastInDim S16x1x64x64 ![] bcast_S_S16x1x64x64 (constant S_ .f32 0x3DCCCCCD#32)))
/-- A chosen template over a reconstruction of every candidate. -/
def layer (ch : FVec F S16x64x64 .f32) (rec : FVec F S16x25x64x64 .f32) : FVec F S16x25x64x64 .f32 :=
  addf (mulf rec (broadcastInDim S16x25x64x64 ![0, 1, 2, 3] bcast_S16x1x64x64_S16x25x64x64_0_1_2_3 (subf (broadcastInDim S16x1x64x64 ![] bcast_S_S16x1x64x64 (constant S_ .f32 0x3F800000#32)) (cmask ch))))
    (broadcastInDim S16x25x64x64 ![0, 1, 2, 3] bcast_S16x1x64x64_S16x25x64x64_0_1_2_3 (mulf (lift1 ch) (cmask ch)))
/-- The difference to the images. -/
def diff (x : FVec F S16x64x64 .f32) (rec : FVec F S16x25x64x64 .f32) : FVec F S16x25x64x64 .f32 :=
  subf (broadcastInDim S16x25x64x64 ![0, 1, 2, 3] bcast_S16x1x64x64_S16x25x64x64_0_1_2_3 (broadcastInDim S16x1x64x64 ![0, 2, 3] bcast_S16x64x64_S16x1x64x64_0_2_3 x)) rec
/-- The mean squared differences. -/
def mean (d : FVec F S16x25x64x64 .f32) : FVec F S16x25 .f32 :=
  Host.divf (Host.reduceAdd (mulf d d) (constant S_ .f32 0x00000000#32) reducesTo_S16x25x64x64_S16x25_d2_3 h_S_) (broadcastInDim S16x25 ![] bcast_S_S16x25 (constant S_ .f32 0x45800000#32))
/-- The errors with the used candidates out of reach. -/
def reach (used e : FVec F S16x25 .f32) : FVec F S16x25 .f32 :=
  select (cmpf .ogt used (broadcastInDim S16x25 ![] bcast_S_S16x25 (constant S_ .f32 0x00000000#32))) (broadcastInDim S16x25 ![] bcast_S_S16x25 (constant S_ .f32 0x4CBEBC20#32)) e
/-- The first candidate of least error. -/
def best (em : FVec F S16x25 .f32) : IVec S16 32 :=
  shapeCast S16 ((Host.topK S16x1 1 (FloatOps.cmpfTotal .gt) (Host.negf em) sliceFits_S16x25_S16x1).2) shapeCasts_S16x1_S16
/-- The candidates used after it. -/
def useAlso (used : FVec F S16x25 .f32) (sel : IVec S16 32) : FVec F S16x25 .f32 :=
  addf used (select (andi (cmpi .eq (broadcastInDim S16x25 ![0, 1] bcast_S1x25_S16x25_0_1 (broadcastInDim S1x25 ![1] bcast_S25_S1x25_1 (iotaInDim S25 32 0))) (broadcastInDim S16x25 ![0, 1] bcast_S16x1_S16x25_0_1 (broadcastInDim S16x1 ![0] bcast_S16_S16x1_0 sel)))
      (broadcastInDim S16x25 ![0, 1] bcast_S16x1_S16x25_0_1 (cmpi .ne (broadcastInDim S16x1 ![0] bcast_S16_S16x1_0 sel) (broadcastInDim S16x1 ![] bcast_S_S16x1 (constantI S_ 32 0#32)))))
    (broadcastInDim S16x25 ![] bcast_S_S16x25 (constant S_ .f32 0x3F800000#32)) (broadcastInDim S16x25 ![] bcast_S_S16x25 (constant S_ .f32 0x00000000#32)))
/-- The templates chosen. -/
def chosen (T : FVec F S16x25x64x64 .f32) (sel : IVec S16 32) : FVec F S16x64x64 .f32 :=
  Host.gather gather_S16x25x64x64_S16x2_S16x64x64_12_01_n_n_01_1_116464 T (concatenate S16x2 1
    [⟨S16x1, broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0))⟩,
     ⟨S16x1, broadcastInDim S16x1 ![0] bcast_S16_S16x1_0 (select (cmpi .slt sel (broadcastInDim S16 ![] bcast_S_S16 (constantI S_ 32 0#32))) (addi sel (broadcastInDim S16 ![] bcast_S_S16 (constantI S_ 32 25#32))) sel)⟩] concatenates_S16x1_S16x1_S16x2_d1)

/-- Where a chosen template covers its image. -/
def omask (ch : FVec F S16x64x64 .f32) : FVec F S16x64x64 .f32 :=
  uitofp .f32 (cmpf .ogt ch (broadcastInDim S16x64x64 ![] bcast_S_S16x64x64 (constant S_ .f32 0x3DCCCCCD#32)))
/-- A chosen template over the images' reconstruction. -/
def over (ch rec : FVec F S16x64x64 .f32) : FVec F S16x64x64 .f32 :=
  addf (mulf rec (subf (broadcastInDim S16x64x64 ![] bcast_S_S16x64x64 (constant S_ .f32 0x3F800000#32)) (omask ch))) (mulf ch (omask ch))
/-- The background of every image. -/
def backs (bg : FVec F S64x64 .f32) : FVec F S16x64x64 .f32 :=
  broadcastInDim S16x64x64 ![0, 1, 2] bcast_S1x64x64_S16x64x64_0_1_2 (broadcastInDim S1x64x64 ![1, 2] bcast_S64x64_S1x64x64_1_2 bg)

/-- The templates chosen so far, first to last. -/
structure Chosen (F : FTy → Type) [FloatOps F] where
  used : FVec F S16x25 .f32
  list : List (FVec F S16x64x64 .f32)

/-- What every candidate would show: the chosen templates over it, the first on top. -/
def shown (bg : FVec F S64x64 .f32) (T : FVec F S16x25x64x64 .f32) (l : List (FVec F S16x64x64 .f32)) : FVec F S16x25x64x64 .f32 :=
  l.foldr layer (base bg T)
/-- The next choice. -/
def Chosen.sel (x : FVec F S16x64x64 .f32) (bg : FVec F S64x64 .f32) (T : FVec F S16x25x64x64 .f32) (s : Chosen F) : IVec S16 32 :=
  best (reach s.used (mean (diff x (shown bg T s.list))))
/-- One greedy round. -/
def Chosen.step (x : FVec F S16x64x64 .f32) (bg : FVec F S64x64 .f32) (T : FVec F S16x25x64x64 .f32) (s : Chosen F) : Chosen F :=
  ⟨useAlso s.used (s.sel x bg T), s.list ++ [chosen T (s.sel x bg T)]⟩
/-- Before the first round. -/
def Chosen.start : Chosen F := ⟨broadcastInDim S16x25 ![] bcast_S_S16x25 (constant S_ .f32 0x00000000#32), []⟩

/-- Four rounds and the composition. -/
def greedyOut (T : FVec F S16x25x64x64 .f32) (x : FVec F S16x64x64 .f32) (bg : FVec F S64x64 .f32) : FVec F S16x64x64 .f32 :=
  (Chosen.step x bg T (Chosen.step x bg T (Chosen.step x bg T (Chosen.step x bg T Chosen.start)))).list.foldr over (backs bg)

/-- The reference of its three arguments. -/
def refOut (x : FVec F S16x1x64x64 .f32) (p : FVec F S6x1x64x64 .f32) (bg : FVec F S1x1x64x64 .f32) : FVec F S16x1x64x64 .f32 :=
  shapeCast S16x1x64x64 (greedyOut (temps (shapeCast S6x64x64 p shapeCasts_S6x1x64x64_S6x64x64)
      (peaks (corr (shapeCast S16x64x64 x shapeCasts_S16x1x64x64_S16x64x64) (shapeCast S6x64x64 p shapeCasts_S6x1x64x64_S6x64x64) cosT sinT)))
    (shapeCast S16x64x64 x shapeCasts_S16x1x64x64_S16x64x64) (shapeCast S64x64 bg shapeCasts_S1x1x64x64_S64x64)) shapeCasts_S16x64x64_S16x1x64x64

/-! ## The printed reference is those functions -/

variable (V : Valuation τ sig (Elt F))

theorem text_corr : res_main_v70 V = shapeCast S16x6x4096 (corr (res_main_v0 V) (res_main_v1 V) cosT sinT) shapeCasts_S96x64x64_S16x6x4096 := rfl
theorem text_temps : res_main_v124 V = temps (res_main_v1 V) (res_main_indices V) := rfl

theorem text_sel1 : res_main_v147 V = Chosen.sel (res_main_v0 V) (res_main_v2 V) (res_main_v124 V) Chosen.start := rfl
theorem text_round1 : Chosen.step (res_main_v0 V) (res_main_v2 V) (res_main_v124 V) Chosen.start = ⟨res_main_v161 V, [res_main_v176 V]⟩ := rfl
theorem text_sel2 : res_main_v209 V = Chosen.sel (res_main_v0 V) (res_main_v2 V) (res_main_v124 V) ⟨res_main_v161 V, [res_main_v176 V]⟩ := rfl
theorem text_round2 : Chosen.step (res_main_v0 V) (res_main_v2 V) (res_main_v124 V) ⟨res_main_v161 V, [res_main_v176 V]⟩
    = ⟨res_main_v223 V, [res_main_v176 V, res_main_v238 V]⟩ := rfl
theorem text_sel3 : res_main_v282 V = Chosen.sel (res_main_v0 V) (res_main_v2 V) (res_main_v124 V) ⟨res_main_v223 V, [res_main_v176 V, res_main_v238 V]⟩ := rfl
theorem text_round3 : Chosen.step (res_main_v0 V) (res_main_v2 V) (res_main_v124 V) ⟨res_main_v223 V, [res_main_v176 V, res_main_v238 V]⟩
    = ⟨res_main_v296 V, [res_main_v176 V, res_main_v238 V, res_main_v311 V]⟩ := rfl
theorem text_sel4 : res_main_v366 V = Chosen.sel (res_main_v0 V) (res_main_v2 V) (res_main_v124 V) ⟨res_main_v296 V, [res_main_v176 V, res_main_v238 V, res_main_v311 V]⟩ := rfl
theorem text_chosen4 : chosen (res_main_v124 V) (res_main_v366 V) = res_main_v395 V := rfl

/-- The printed result. -/
def printed : FVec F S16x1x64x64 .f32 := shapeCast S16x1x64x64
  ([res_main_v176 V, res_main_v238 V, res_main_v311 V, res_main_v395 V].foldr over (backs (res_main_v2 V))) shapeCasts_S16x64x64_S16x1x64x64

theorem printed_eq : printed V = refOut (V (Proc.devRef .tc main_arg0)) (V (Proc.devRef .tc main_arg1)) (V (Proc.devRef .tc main_arg2)) := by
  have h : greedyOut (res_main_v124 V) (res_main_v0 V) (res_main_v2 V)
      = [res_main_v176 V, res_main_v238 V, res_main_v311 V, res_main_v395 V].foldr over (backs (res_main_v2 V)) := by
    unfold greedyOut
    rw [text_round1, text_round2, text_round3, ← text_chosen4, text_sel4]
    rfl
  unfold printed
  rw [← h, text_temps]
  rfl

end Cert.Proof.Ref

end
-- ==== Proof.Constants.lean ====
/-
  The printed constants as real numbers.
-/
module

public import Idealize.ShloMosaic.Lib.Pointwise

@[expose] public section

noncomputable section

namespace Cert.Proof

open Idealize.ShloMosaic

/-- A word whose exponent is at most 127 denotes a real number of absolute value at most two. -/
theorem small_word (w : BitVec 32) (h : (w.extractLsb' 23 8).toNat ≤ 127) : ∃ r : ℝ, Ideal.ofBits .f32 w = (r : EReal) ∧ |r| ≤ 2 := by
  have hf : (w.extractLsb' 0 23).toNat < 2 ^ 23 := (w.extractLsb' 0 23).isLt
  have hs : ∀ b : Bool, |(if b then (-1 : ℝ) else 1)| = 1 := by intro b; cases b <;> simp
  have hfr : ((w.extractLsb' 0 23).toNat : ℝ) ≤ 2 ^ 23 := by exact_mod_cast hf.le
  unfold Ideal.ofBits Ideal.ieee
  simp only
  rw [if_neg (Nat.ne_of_lt (lt_of_le_of_lt h (by norm_num)))]
  split
  · refine ⟨_, rfl, ?_⟩
    rw [abs_mul, abs_mul, hs, one_mul, Nat.abs_cast, abs_of_pos (by positivity)]
    calc ((w.extractLsb' 0 23).toNat : ℝ) * (2 : ℝ) ^ (1 - (2 ^ (8 - 1) - 1 : Int) - (23 : Nat) : Int)
        ≤ 2 ^ 23 * (2 : ℝ) ^ (1 - (2 ^ (8 - 1) - 1 : Int) - (23 : Nat) : Int) := by gcongr
      _ ≤ 2 := by norm_num
  · refine ⟨_, rfl, ?_⟩
    rw [abs_mul, abs_mul, hs, one_mul, Nat.abs_cast, abs_of_pos (by positivity)]
    have he : (2 : ℝ) ^ (((w.extractLsb' 23 8).toNat : Int) - (2 ^ (8 - 1) - 1 : Int) - (23 : Nat)) ≤ (2 : ℝ) ^ (-23 : Int) := by
      apply zpow_le_zpow_right₀ (by norm_num)
      have : (((w.extractLsb' 23 8).toNat : Nat) : Int) ≤ 127 := by exact_mod_cast h
      have e : (2 ^ (8 - 1) - 1 : Int) = 127 := by norm_num
      rw [e]
      push_cast
      linarith
    calc (((2 ^ 23 + (w.extractLsb' 0 23).toNat : Nat)) : ℝ) * (2 : ℝ) ^ (((w.extractLsb' 23 8).toNat : Int) - (2 ^ (8 - 1) - 1 : Int) - (23 : Nat))
        ≤ (2 ^ 24 : ℝ) * (2 : ℝ) ^ (-23 : Int) := by
          have h1 : (((2 ^ 23 + (w.extractLsb' 0 23).toNat : Nat)) : ℝ) ≤ 2 ^ 24 := by push_cast; linarith
          gcongr
      _ ≤ 2 := by norm_num

/-! ## Constants -/

theorem word_small : ∃ e : ℝ, Ideal.ofBits .f32 0x322BCC77#32 = (e : EReal) ∧ 0 < e := by
  refine ⟨(11258999 : ℝ) * 2 ^ (-50 : ℤ), ?_, by positivity⟩
  simp [Ideal.ofBits, Ideal.ieee]

theorem word_4096 : Ideal.ofBits .f32 0x45800000#32 = ((4096 : ℝ) : EReal) := by
  simp [Ideal.ofBits, Ideal.ieee]
  rw [← EReal.coe_mul]
  norm_num
theorem word_inv64 : Ideal.ofBits .f32 0x3C800000#32 = ((1 / 64 : ℝ) : EReal) := by
  simp [Ideal.ofBits, Ideal.ieee]
  rw [← EReal.coe_mul]
  norm_num
theorem word_neg_inv64 : Ideal.ofBits .f32 0xBC800000#32 = ((-(1 / 64) : ℝ) : EReal) := by
  simp [Ideal.ofBits, Ideal.ieee]
  rw [← EReal.coe_mul]
  norm_num
theorem word_inv4096 : Ideal.ofBits .f32 0x39800000#32 = ((1 / 4096 : ℝ) : EReal) := by
  simp [Ideal.ofBits, Ideal.ieee]
  rw [← EReal.coe_mul]
  norm_num
theorem word_1e8 : Ideal.ofBits .f32 0x4CBEBC20#32 = ((100000000 : ℝ) : EReal) := by
  simp [Ideal.ofBits, Ideal.ieee]
  rw [← EReal.coe_pow, ← EReal.coe_mul]
  norm_num
theorem word_low : ∃ r : ℝ, Ideal.ofBits .f32 0xFF61B1E6#32 = (r : EReal) ∧ r < -1000 := by
  refine ⟨-(14791142 : ℝ) * 2 ^ (104 : ℤ), ?_, by norm_num⟩
  simp [Ideal.ofBits, Ideal.ieee]

theorem word_tenth : ∃ r : ℝ, Ideal.ofBits .f32 0x3DCCCCCD#32 = (r : EReal) ∧ 0 < r := by
  refine ⟨(13421773 : ℝ) * 2 ^ (-27 : ℤ), ?_, by positivity⟩
  simp [Ideal.ofBits, Ideal.ieee]

end Cert.Proof

end
-- ==== Proof.Tables.lean ====
/-
  The transform tables as real numbers: both programs print the same tables, whose entries are at
  most two in absolute value.
-/
module

public import proofs.«01_k».proof.Proof.WholeRun
public import proofs.«01_k».proof.Proof.RefText
public import proofs.«01_k».proof.Proof.Constants
public import Idealize.ShloMosaic.Lib.Pointwise

@[expose] public section

set_option maxRecDepth 16384

noncomputable section

namespace Cert.Proof

open Idealize.ShloMosaic

theorem cos_words : ∀ i : Fin 4096, Cert.KernelIdeal.lit0 i = Cert.ReferenceIdeal.lit0 i ∧ ((Cert.KernelIdeal.lit0 i).extractLsb' 23 8).toNat ≤ 127 := by
  decide +kernel

theorem sin_words : ∀ i : Fin 4096, Cert.KernelIdeal.lit1 i = Cert.ReferenceIdeal.lit1 i ∧ ((Cert.KernelIdeal.lit1 i).extractLsb' 23 8).toNat ≤ 127 := by
  decide +kernel

/-- Both programs' cosines. -/
theorem cos_eq : Kern.cosT (F := Ideal) = Ref.cosT := by
  funext i
  exact congrArg (FloatOps.ofBits (F := Ideal) .f32) (cos_words _).1

/-- Both programs' sines. -/
theorem sin_eq : Kern.sinT (F := Ideal) = Ref.sinT := by
  funext i
  exact congrArg (FloatOps.ofBits (F := Ideal) .f32) (sin_words _).1

/-- The cosines are real and small. -/
theorem cos_real : ∃ C : Fin 64 → Fin 64 → ℝ, (∀ h k, Kern.cosT (F := Ideal) (ix2 h k) = (C h k : EReal)) ∧ ∀ h k, |C h k| ≤ 2 := by
  have h := fun h k : Fin 64 => small_word _ (cos_words (Cert.KernelIdeal.S64x64.rowMajor (ix2 h k))).2
  choose C hC using h
  exact ⟨C, fun h k => (hC h k).1, fun h k => (hC h k).2⟩

/-- The sines are real and small. -/
theorem sin_real : ∃ S : Fin 64 → Fin 64 → ℝ, (∀ h k, Kern.sinT (F := Ideal) (ix2 h k) = (S h k : EReal)) ∧ ∀ h k, |S h k| ≤ 2 := by
  have h := fun h k : Fin 64 => small_word _ (sin_words (Cert.KernelIdeal.S64x64.rowMajor (ix2 h k))).2
  choose S hS using h
  exact ⟨S, fun h k => (hS h k).1, fun h k => (hS h k).2⟩

end Cert.Proof

end
-- ==== Proof.TopRead.lean ====
/-
  The host's top-k read at a position: the sorted order of the values along the last axis.
-/
module

public import proofs.«01_k».proof.Proof.RefText
public import proofs.«01_k».proof.Proof.Firsts

@[expose] public section

set_option maxRecDepth 16384

noncomputable section

namespace Cert.Proof

open Idealize.ShloMosaic
open Cert.ReferenceIdeal Cert.ReferenceIdeal.Gen

/-- The order of the values of `f`, greatest first. -/
def byValue {N : Nat} (f : Fin N → EReal) (a b : Fin N) : Bool := decide (f b < f a)

theorem cmp_total_gt (x y : EReal) : (FloatOps.cmpfTotal (F := Ideal) (φ := .f32) CmpDirection.gt x y == 1#1) = decide (y < x) := by
  have e : FloatOps.cmpfTotal (F := Ideal) (φ := .f32) CmpDirection.gt x y = BitVec.ofBool (decide (y < x)) := rfl
  rw [e]
  by_cases h : y < x <;> simp [h]

/-- The positions a top-k reports, whatever the shape. -/
theorem top_word {α : Type} {s t : Shape} (d : Nat) (hd : d < s.rank) (gt : α → α → BitVec 1) (x : s.Idx → α) (h : s.Slices (fun _ => 0) t)
    (j : t.Idx) (i : s.Idx) (hi : ∀ a, (i a).val = (j (a.cast h.1.symm)).val) :
    (Host.topK t d gt x h).2 j
      = BitVec.ofNat 32 (sortedFrom (fun k k' => gt (x (i.along ⟨d, hd⟩ k)) (x (i.along ⟨d, hd⟩ k')) == 1#1) (i ⟨d, hd⟩)).val := by
  unfold Host.topK
  simp only
  unfold extractStridedSlice Host.sort2
  rw [dif_pos hd]
  have e : (fun a => (⟨0 + (j (a.cast h.1.symm)).val, Nat.lt_of_lt_of_le (Nat.add_lt_add_left (j _).isLt _) (h.2 a)⟩ : Fin (s.size a))) = i := by
    funext a; exact Fin.ext (by rw [hi a]; exact Nat.zero_add _)
  simp only [e]
  rw [dif_pos hd]
  unfold iotaInDim Shape.Idx.along
  rw [Function.update_self]
  exact congrArg (fun z => BitVec.ofNat 32 (sortedFrom _ z).val) (congrFun e ⟨d, hd⟩)

/-- The first of the top one of 25. -/
theorem top_one (x : FVec Ideal S16x25 .f32) (b : Fin 16) :
    (Host.topK S16x1 1 (FloatOps.cmpfTotal (F := Ideal) (φ := .f32) CmpDirection.gt) x sliceFits_S16x25_S16x1).2 (ix2 b 0)
      = BitVec.ofNat 32 (sortedFrom (byValue fun k : Fin 25 => x (ix2 b k)) ⟨0, by norm_num⟩).val := by
  have hd : 1 < S16x25.rank := by decide
  have ha : ∀ k : Fin (S16x25.size ⟨1, hd⟩), (ix2 b (0 : Fin 25) : S16x25.Idx).along ⟨1, hd⟩ k = ix2 b k := by
    intro k; funext a; fin_cases a <;> rfl
  refine (top_word 1 hd _ x _ (ix2 b 0) (ix2 b 0) (fun a => by fin_cases a <;> rfl)).trans ?_
  have hR : (fun k k' : Fin (S16x25.size ⟨1, hd⟩) => FloatOps.cmpfTotal (F := Ideal) (φ := .f32) CmpDirection.gt
        (x ((ix2 b (0 : Fin 25) : S16x25.Idx).along ⟨1, hd⟩ k)) (x ((ix2 b (0 : Fin 25) : S16x25.Idx).along ⟨1, hd⟩ k')) == 1#1)
      = fun k k' => byValue (fun k : Fin 25 => x (ix2 b k)) k k' := by
    funext k k'
    rw [ha, ha, cmp_total_gt]; rfl
  rw [hR]
  rfl

/-- The positions of the top four of 4096. -/
theorem top_four (x : FVec Ideal S16x6x4096 .f32) (b : Fin 16) (q : Fin 6) (t : Fin 4) :
    (Host.topK S16x6x4 2 (FloatOps.cmpfTotal (F := Ideal) (φ := .f32) CmpDirection.gt) x sliceFits_S16x6x4096_S16x6x4).2 (ix3 b q t)
      = BitVec.ofNat 32 (sortedFrom (byValue fun k : Fin 4096 => x (ix3 b q k)) ⟨t.val, by omega⟩).val := by
  have hd : 2 < S16x6x4096.rank := by decide
  have ht : t.val < 4096 := by omega
  have ha : ∀ k : Fin (S16x6x4096.size ⟨2, hd⟩), (ix3 b q (⟨t.val, ht⟩ : Fin 4096) : S16x6x4096.Idx).along ⟨2, hd⟩ k = ix3 b q k := by
    intro k; funext a; fin_cases a <;> rfl
  refine (top_word 2 hd _ x _ (ix3 b q t) (ix3 b q (⟨t.val, ht⟩ : Fin 4096)) (fun a => by fin_cases a <;> rfl)).trans ?_
  have hR : (fun k k' : Fin (S16x6x4096.size ⟨2, hd⟩) => FloatOps.cmpfTotal (F := Ideal) (φ := .f32) CmpDirection.gt
        (x ((ix3 b q (⟨t.val, ht⟩ : Fin 4096) : S16x6x4096.Idx).along ⟨2, hd⟩ k))
        (x ((ix3 b q (⟨t.val, ht⟩ : Fin 4096) : S16x6x4096.Idx).along ⟨2, hd⟩ k')) == 1#1)
      = fun k k' => byValue (fun k : Fin 4096 => x (ix3 b q k)) k k' := by
    funext k k'
    rw [ha, ha, cmp_total_gt]; rfl
  rw [hR]
  rfl

end Cert.Proof

end
-- ==== Proof.Heights.lean ====
/-
  The four highest positions of a pair: the kernel finds the first highest and strikes it out, four times; the reference
  sorts. Both take the same positions.
-/
module

public import proofs.«01_k».proof.Proof.Choices
public import proofs.«01_k».proof.Proof.TopRead

@[expose] public section

set_option maxRecDepth 16384

noncomputable section

namespace Cert.Proof

open Idealize.ShloMosaic

/-- A pair's value at a flat position. -/
def flat (v : FVec Ideal Cert.KernelIdeal.S96x64x64 .f32) (n : Fin 96) (p : Fin 4096) : EReal := v (ix3 n ⟨p.val / 64, by omega⟩ ⟨p.val % 64, by omega⟩)

/-- The value struck positions have. -/
abbrev low : EReal := Ideal.ofBits .f32 4284592614#32

/-- A pair's positions, highest first. -/
def ranked (v : FVec Ideal Cert.KernelIdeal.S96x64x64 .f32) (n : Fin 96) : Fin 4096 → Fin 4096 := sortedFrom (byValue (flat v n))

section Kernel

open Cert.KernelIdeal Cert.KernelIdeal.Gen

theorem word_pos (h k : Fin 64) : IntOp.addi (IntOp.muli (BitVec.ofNat 32 h.val) 64#32) (BitVec.ofNat 32 k.val) = BitVec.ofNat 32 (64 * h.val + k.val) := by
  apply BitVec.eq_of_toNat_eq
  show ((BitVec.ofNat 32 h.val * 64#32) + BitVec.ofNat 32 k.val).toNat = _
  simp only [BitVec.toNat_add, BitVec.toNat_mul, BitVec.toNat_ofNat]
  omega

theorem flat_pair (v : FVec Ideal S96x64x64 .f32) (n : Fin 96) (h k : Fin 64) : v (ix3 n h k) = flat v n ⟨64 * h.val + k.val, by omega⟩ := by
  unfold flat
  congr 2 <;> refine Fin.ext ?_
  · show h.val = (64 * h.val + k.val) / 64
    omega
  · show k.val = (64 * h.val + k.val) % 64
    omega

/-- The kernel's peak is the first highest position. -/
theorem peak_eq (w : FVec Ideal S96x64x64 .f32) (n : Fin 96) (g : Fin 4096) (h1 : ∀ j, flat w n j ≤ flat w n g)
    (h2 : ∀ j, flat w n j = flat w n g → g ≤ j) : Kern.peak w (ix3 n 0 0) = BitVec.ofNat 32 g.val := by
  pointwise [Kern.peak, Kern.lin]
  simp only [word_pos, flat_pair]
  have hg : (⟨64 * (g.val / 64) + g.val % 64, by omega⟩ : Fin 4096) = g := Fin.ext (Nat.div_add_mod _ _)
  have hm := fold_max_eq (fun x : Fin 64 × Fin 64 => flat w n ⟨64 * x.1.val + x.2.val, by omega⟩) (⟨g.val / 64, by omega⟩, ⟨g.val % 64, by omega⟩)
    (fun j => by simp only [hg]; exact h1 _)
  simp only [hg] at hm
  rw [Kern.negInf, hm]
  have hf := first_number (fun x : Fin 64 × Fin 64 => flat w n ⟨64 * x.1.val + x.2.val, by omega⟩ = flat w n g) (fun x => 64 * x.1.val + x.2.val)
    1073741824 (by norm_num) (fun x => by have := x.1.isLt; have := x.2.isLt; show 64 * x.1.val + x.2.val < _; omega)
    (⟨g.val / 64, by omega⟩, ⟨g.val % 64, by omega⟩) (by simp only [hg]) (fun j hj => by
      have := h2 _ hj
      show 64 * (g.val / 64) + g.val % 64 ≤ _
      rw [Nat.div_add_mod]; exact this)
  have hn : 64 * (g.val / 64) + g.val % 64 = g.val := Nat.div_add_mod _ _
  simp only [hn] at hf
  exact hf

theorem strike_eq (w : FVec Ideal S96x64x64 .f32) (n : Fin 96) (g : Fin 4096) (hp : Kern.peak w (ix3 n 0 0) = BitVec.ofNat 32 g.val) (j : Fin 4096) :
    flat (Kern.strike w) n j = if j = g then low else flat w n j := by
  unfold flat
  pointwise [Kern.strike, Kern.lin]
  have hwp := word_pos ⟨j.val / 64, by omega⟩ ⟨j.val % 64, by omega⟩
  simp only at hwp
  rw [hp, hwp]
  have hj : 64 * (⟨j.val / 64, by omega⟩ : Fin 64).val + (⟨j.val % 64, by omega⟩ : Fin 64).val = j.val := Nat.div_add_mod _ _
  simp only at hj
  rw [hj]
  have hc : IntOp.cmpi .eq (BitVec.ofNat 32 j.val) (BitVec.ofNat 32 g.val) = 1#1 ↔ j = g := by
    have e : IntOp.cmpi .eq (BitVec.ofNat 32 j.val) (BitVec.ofNat 32 g.val) = BitVec.ofBool (decide (BitVec.ofNat 32 j.val = BitVec.ofNat 32 g.val)) := rfl
    rw [e]
    have hi : BitVec.ofNat 32 j.val = BitVec.ofNat 32 g.val ↔ j = g := by
      refine ⟨fun h => Fin.ext ?_, fun h => by rw [h]⟩
      have := congrArg BitVec.toNat h
      simp only [BitVec.toNat_ofNat] at this
      omega
    by_cases h : j = g
    · simp [h]
    · simp [h, hi]
  exact if_congr hc rfl rfl

/-- The values after `t` strikes, and the next peak. -/
theorem struck_eq (v : FVec Ideal S96x64x64 .f32) (n : Fin 96) (hlow : ∀ j, low < flat v n j) (w : FVec Ideal S96x64x64 .f32) (t : Fin 4096)
    (hw : flat w n = struck (flat v n) low fun j => ∃ s, s < t ∧ ranked v n s = j) : Kern.peak w (ix3 n 0 0) = BitVec.ofNat 32 (ranked v n t).val := by
  obtain ⟨g, h1, h2⟩ := exists_first_max (flat w n) fun j => j.val
  have h2' : ∀ j, flat w n j = flat w n g → g ≤ j := fun j hj => h2 j hj
  rw [peak_eq w n g h1 h2']
  rw [hw] at h1 h2'
  rw [show ranked v n t = g from struck_first (flat v n) (byValue (flat v n)) (fun _ _ => rfl) low hlow t g h1 h2']

theorem struck_next (v : FVec Ideal S96x64x64 .f32) (n : Fin 96) (hlow : ∀ j, low < flat v n j) (w : FVec Ideal S96x64x64 .f32) (t u : Fin 4096)
    (hu : u.val = t.val + 1) (hw : flat w n = struck (flat v n) low fun j => ∃ s, s < t ∧ ranked v n s = j) :
    flat (Kern.strike w) n = struck (flat v n) low fun j => ∃ s, s < u ∧ ranked v n s = j := by
  funext j
  rw [strike_eq w n _ (struck_eq v n hlow w t hw), hw]
  unfold struck
  have hiff : (∃ s, s < u ∧ ranked v n s = j) ↔ j = ranked v n t ∨ ∃ s, s < t ∧ ranked v n s = j := by
    constructor
    · rintro ⟨s, hs, he⟩
      have hs' : s.val < u.val := hs
      by_cases hst : s = t
      · exact .inl (by rw [← hst, he])
      · exact .inr ⟨s, by
          have : s.val ≠ t.val := fun h => hst (Fin.ext h)
          show s.val < t.val
          omega, he⟩
    · rintro (he | ⟨s, hs, he⟩)
      · exact ⟨t, by show t.val < u.val; omega, he.symm⟩
      · have hs' : s.val < t.val := hs
        exact ⟨s, by show s.val < u.val; omega, he⟩
  classical
  by_cases hj : j = ranked v n t
  · rw [if_pos hj, if_pos (hiff.mpr (.inl hj))]
  · rw [if_neg hj]
    by_cases hs : ∃ s, s < t ∧ ranked v n s = j
    · rw [if_pos hs, if_pos (hiff.mpr (.inr hs))]
    · rw [if_neg hs, if_neg fun h => (hiff.mp h).elim hj hs]

/-- The kernel's positions. -/
theorem kern_peaks (v : FVec Ideal S96x64x64 .f32) (n : Fin 96) (hlow : ∀ j, low < flat v n j) (t : Fin 4) :
    Kern.peaks v (ix2 n t) = BitVec.ofNat 32 (ranked v n ⟨t.val, by omega⟩).val := by
  have h0 : flat v n = struck (flat v n) low fun j => ∃ s, s < (0 : Fin 4096) ∧ ranked v n s = j := by
    funext j
    unfold struck
    rw [if_neg]
    rintro ⟨s, hs, _⟩
    exact absurd hs (Nat.not_lt_zero _)
  have h1 := struck_next v n hlow v 0 1 rfl h0
  have h2 := struck_next v n hlow _ 1 2 rfl h1
  have h3 := struck_next v n hlow _ 2 3 rfl h2
  have p0 := struck_eq v n hlow _ 0 h0
  have p1 := struck_eq v n hlow _ 1 h1
  have p2 := struck_eq v n hlow _ 2 h2
  have p3 := struck_eq v n hlow _ 3 h3
  pointwise [Kern.peaks]
  fin_cases t
  · exact p0
  · exact p1
  · exact p2
  · exact p3

end Kernel

section Reference

open Cert.ReferenceIdeal Cert.ReferenceIdeal.Gen

/-- The reference's positions. -/
theorem ref_peaks (v : FVec Ideal S96x64x64 .f32) (b : Fin 16) (q : Fin 6) (t : Fin 4) :
    Ref.peaks v (ix3 b q t) = BitVec.ofNat 32 (ranked v ⟨b.val * 6 + q.val, by omega⟩ ⟨t.val, by omega⟩).val := by
  unfold Ref.peaks
  refine (top_four _ b q t).trans ?_
  have hf : (fun k : Fin 4096 => shapeCast S16x6x4096 v shapeCasts_S96x64x64_S16x6x4096 (ix3 b q k)) = flat v ⟨b.val * 6 + q.val, by omega⟩ := by
    funext k
    pointwise []
    rfl
  rw [hf]
  rfl

end Reference

end Cert.Proof

end
-- ==== Proof.Spectrum.lean ====
/-
  The phase correlation over the real numbers, and that both programs compute it.
-/
module

public import proofs.«01_k».proof.Proof.Tables

@[expose] public section

set_option maxRecDepth 16384

noncomputable section

namespace Cert.Proof

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A 64 by 64 array of real numbers. -/
abbrev Grid := Fin 64 → Fin 64 → ℝ

/-- The columns against a table. -/
def colsBy (A T : Grid) (r k : Fin 64) : ℝ := ∑ w, A r w * T k w
/-- The transform's real part. -/
def fwdRe (C S A : Grid) (h k : Fin 64) : ℝ := ∑ r, colsBy A C r k * C h r - ∑ r, colsBy A S r k * S h r
/-- The transform's imaginary part. -/
def fwdIm (C S A : Grid) (h k : Fin 64) : ℝ := ∑ r, colsBy A C r k * S h r + ∑ r, colsBy A S r k * C h r
/-- The cross spectrum, real part. -/
def specRe (C S A P : Grid) (h k : Fin 64) : ℝ := fwdRe C S A h k * fwdRe C S P h k + fwdIm C S A h k * fwdIm C S P h k
/-- The cross spectrum, imaginary part. -/
def specIm (C S A P : Grid) (h k : Fin 64) : ℝ := fwdIm C S A h k * fwdRe C S P h k - fwdRe C S A h k * fwdIm C S P h k
/-- The small constant that keeps the modulus from zero. -/
def small : ℝ := word_small.choose
theorem small_word_eq : Ideal.ofBits .f32 0x322BCC77#32 = (small : EReal) := word_small.choose_spec.1
theorem small_pos : 0 < small := word_small.choose_spec.2
/-- The modulus plus that constant. -/
def size (a b : ℝ) : ℝ := Real.sqrt (a * a + b * b) + small
theorem size_pos (a b : ℝ) : 0 < size a b := add_pos_of_nonneg_of_pos (Real.sqrt_nonneg _) small_pos
/-- The inverse transform's real part. -/
def inv (C S U V : Grid) (h w : Fin 64) : ℝ :=
  (∑ k, (∑ r, U r k * C h r + ∑ r, V r k * S h r) * C w k + ∑ k, (∑ r, V r k * C h r - ∑ r, U r k * S h r) * S w k) / 4096
/-- The normalised cross spectrum, real part. -/
def unitRe (C S A P : Grid) (h k : Fin 64) : ℝ := specRe C S A P h k / size (specRe C S A P h k) (specIm C S A P h k)
/-- The normalised cross spectrum, imaginary part. -/
def unitIm (C S A P : Grid) (h k : Fin 64) : ℝ := specIm C S A P h k / size (specRe C S A P h k) (specIm C S A P h k)
/-- The phase correlation. -/
def phase (C S A P : Grid) : Grid := inv C S (unitRe C S A P) (unitIm C S A P)

/-! ## It is bounded -/

theorem le_size (a b : ℝ) : |a| ≤ size a b := by
  have : |a| ≤ Real.sqrt (a * a + b * b) := Real.abs_le_sqrt (by nlinarith [sq_nonneg b])
  have := small_pos
  unfold size; linarith
theorem le_size' (a b : ℝ) : |b| ≤ size a b := by
  have : |b| ≤ Real.sqrt (a * a + b * b) := Real.abs_le_sqrt (by nlinarith [sq_nonneg a])
  have := small_pos
  unfold size; linarith

theorem abs_unitRe (C S A P : Grid) (h k : Fin 64) : |unitRe C S A P h k| ≤ 1 := by
  unfold unitRe
  rw [abs_div, abs_of_pos (size_pos _ _)]
  exact (div_le_one (size_pos _ _)).mpr (le_size _ _)
theorem abs_unitIm (C S A P : Grid) (h k : Fin 64) : |unitIm C S A P h k| ≤ 1 := by
  unfold unitIm
  rw [abs_div, abs_of_pos (size_pos _ _)]
  exact (div_le_one (size_pos _ _)).mpr (le_size' _ _)

theorem abs_sum64 (f : Fin 64 → ℝ) (c : ℝ) (h : ∀ i, |f i| ≤ c) : |∑ i, f i| ≤ 64 * c := by
  refine (Finset.abs_sum_le_sum_abs _ _).trans ?_
  refine (Finset.sum_le_sum fun i _ => h i).trans ?_
  simp

theorem abs_mul_le {a b c d : ℝ} (h1 : |a| ≤ c) (h2 : |b| ≤ d) : |a * b| ≤ c * d := by
  rw [abs_mul]
  exact mul_le_mul h1 h2 (abs_nonneg _) ((abs_nonneg _).trans h1)

theorem abs_inv (C S U V : Grid) (hC : ∀ h k, |C h k| ≤ 2) (hS : ∀ h k, |S h k| ≤ 2) (hU : ∀ h k, |U h k| ≤ 1) (hV : ∀ h k, |V h k| ≤ 1)
    (h w : Fin 64) : |inv C S U V h w| ≤ 16 := by
  have ht : ∀ (T W : Grid), (∀ h k, |T h k| ≤ 2) → (∀ h k, |W h k| ≤ 1) → ∀ k, |∑ r, W r k * T h r| ≤ 64 * (1 * 2) := fun T W hT hW k =>
    abs_sum64 _ _ fun r => abs_mul_le (hW r k) (hT h r)
  have a1 : ∀ k, |∑ r, U r k * C h r + ∑ r, V r k * S h r| ≤ 256 := fun k =>
    (abs_add_le _ _).trans (by linarith [ht C U hC hU k, ht S V hS hV k])
  have a2 : ∀ k, |∑ r, V r k * C h r - ∑ r, U r k * S h r| ≤ 256 := fun k =>
    (abs_sub _ _).trans (by linarith [ht C V hC hV k, ht S U hS hU k])
  have b1 := abs_sum64 (fun k => (∑ r, U r k * C h r + ∑ r, V r k * S h r) * C w k) _ fun k => abs_mul_le (a1 k) (hC w k)
  have b2 := abs_sum64 (fun k => (∑ r, V r k * C h r - ∑ r, U r k * S h r) * S w k) _ fun k => abs_mul_le (a2 k) (hS w k)
  unfold inv
  rw [abs_div, abs_of_pos (by norm_num : (0 : ℝ) < 4096), div_le_iff₀ (by norm_num)]
  exact (abs_add_le _ _).trans (by linarith)

theorem abs_phase (C S A P : Grid) (hC : ∀ h k, |C h k| ≤ 2) (hS : ∀ h k, |S h k| ≤ 2) (h w : Fin 64) : |phase C S A P h w| ≤ 16 :=
  abs_inv C S _ _ hC hS (abs_unitRe C S A P) (abs_unitIm C S A P) h w

/-! ## The scalars -/

theorem div_real (a : ℝ) {b : ℝ} (hb : b ≠ 0) : Ideal.div (a : EReal) (b : EReal) = ((a / b : ℝ) : EReal) := by
  rw [Ideal.div_coe hb, ← EReal.coe_mul, mul_one_div]

theorem size_real (a b : ℝ) : Ideal.sqrt ((a : EReal) * a + (b : EReal) * b) + Ideal.ofBits .f32 0x322BCC77#32 = (size a b : EReal) := by
  rw [← EReal.coe_mul, ← EReal.coe_mul, ← EReal.coe_add, Ideal.sqrt_coe, if_neg (not_lt.mpr (by nlinarith [sq_nonneg a, sq_nonneg b])),
    small_word_eq, ← EReal.coe_add]
  rfl

/-! ## The reference computes it -/

section Reference

open Cert.ReferenceIdeal Cert.ReferenceIdeal.Gen

variable {C S : Grid} {c s : FVec Ideal S64x64 .f32} (hc : ∀ h k, c (ix2 h k) = (C h k : EReal)) (hs : ∀ h k, s (ix2 h k) = (S h k : EReal))
include hc hs

theorem imgRe_real (x : FVec Ideal S16x64x64 .f32) (X : Fin 16 → Grid) (hx : ∀ b h w, x (ix3 b h w) = (X b h w : EReal)) (b : Fin 16) (h k : Fin 64) :
    Ref.imgRe x c s (ix3 b h k) = (fwdRe C S (X b) h k : EReal) := by
  pointwise [Ref.imgRe, Ref.rows16, Ref.cols16]
  simp only [hc, hs, hx, ← EReal.coe_mul, ← coe_sum, ← EReal.coe_sub]
  rfl
theorem imgIm_real (x : FVec Ideal S16x64x64 .f32) (X : Fin 16 → Grid) (hx : ∀ b h w, x (ix3 b h w) = (X b h w : EReal)) (b : Fin 16) (h k : Fin 64) :
    Ref.imgIm x c s (ix3 b h k) = (fwdIm C S (X b) h k : EReal) := by
  pointwise [Ref.imgIm, Ref.rows16, Ref.cols16]
  simp only [hc, hs, hx, ← EReal.coe_mul, ← coe_sum, ← EReal.coe_add]
  rfl
theorem protoRe_real (p : FVec Ideal S6x64x64 .f32) (P : Fin 6 → Grid) (hp : ∀ b h w, p (ix3 b h w) = (P b h w : EReal)) (b : Fin 6) (h k : Fin 64) :
    Ref.protoRe p c s (ix3 b h k) = (fwdRe C S (P b) h k : EReal) := by
  pointwise [Ref.protoRe, Ref.rows6, Ref.cols6]
  simp only [hc, hs, hp, ← EReal.coe_mul, ← coe_sum, ← EReal.coe_sub]
  rfl
theorem protoIm_real (p : FVec Ideal S6x64x64 .f32) (P : Fin 6 → Grid) (hp : ∀ b h w, p (ix3 b h w) = (P b h w : EReal)) (b : Fin 6) (h k : Fin 64) :
    Ref.protoIm p c s (ix3 b h k) = (fwdIm C S (P b) h k : EReal) := by
  pointwise [Ref.protoIm, Ref.rows6, Ref.cols6]
  simp only [hc, hs, hp, ← EReal.coe_mul, ← coe_sum, ← EReal.coe_add]
  rfl

theorem ref_crossRe (x : FVec Ideal S16x64x64 .f32) (X : Fin 16 → Grid) (hx : ∀ b h w, x (ix3 b h w) = (X b h w : EReal))
    (p : FVec Ideal S6x64x64 .f32) (P : Fin 6 → Grid) (hp : ∀ b h w, p (ix3 b h w) = (P b h w : EReal)) (b : Fin 16) (q : Fin 6) (h k : Fin 64) :
    Ref.crossRe (Ref.imgRe x c s) (Ref.imgIm x c s) (Ref.protoRe p c s) (Ref.protoIm p c s) (ix4 b q h k) = (specRe C S (X b) (P q) h k : EReal) := by
  pointwise [Ref.crossRe, Ref.ofImage, Ref.ofProto]
  rw [imgRe_real hc hs x X hx, imgIm_real hc hs x X hx, protoRe_real hc hs p P hp, protoIm_real hc hs p P hp]
  simp only [← EReal.coe_mul, ← EReal.coe_add]
  rfl
theorem ref_crossIm (x : FVec Ideal S16x64x64 .f32) (X : Fin 16 → Grid) (hx : ∀ b h w, x (ix3 b h w) = (X b h w : EReal))
    (p : FVec Ideal S6x64x64 .f32) (P : Fin 6 → Grid) (hp : ∀ b h w, p (ix3 b h w) = (P b h w : EReal)) (b : Fin 16) (q : Fin 6) (h k : Fin 64) :
    Ref.crossIm (Ref.imgRe x c s) (Ref.imgIm x c s) (Ref.protoRe p c s) (Ref.protoIm p c s) (ix4 b q h k) = (specIm C S (X b) (P q) h k : EReal) := by
  pointwise [Ref.crossIm, Ref.ofImage, Ref.ofProto]
  rw [imgRe_real hc hs x X hx, imgIm_real hc hs x X hx, protoRe_real hc hs p P hp, protoIm_real hc hs p P hp]
  simp only [← EReal.coe_mul, ← EReal.coe_sub]
  rfl

theorem ref_inverse (ar ai : FVec Ideal S96x64x64 .f32) (U V : Fin 96 → Grid) (hu : ∀ n h k, ar (ix3 n h k) = (U n h k : EReal))
    (hv : ∀ n h k, ai (ix3 n h k) = (V n h k : EReal)) (n : Fin 96) (h w : Fin 64) :
    Ref.inverse ar ai c s (ix3 n h w) = (inv C S (U n) (V n) h w : EReal) := by
  pointwise [Ref.inverse, Ref.rows96, Ref.cols96]
  rw [word_4096]
  simp only [hc, hs, hu, hv, ← EReal.coe_mul, ← coe_sum, ← EReal.coe_sub, ← EReal.coe_add]
  rw [div_real _ (by norm_num)]
  rfl

/-- The reference's correlation. -/
theorem ref_corr (x : FVec Ideal S16x64x64 .f32) (X : Fin 16 → Grid) (hx : ∀ b h w, x (ix3 b h w) = (X b h w : EReal))
    (p : FVec Ideal S6x64x64 .f32) (P : Fin 6 → Grid) (hp : ∀ b h w, p (ix3 b h w) = (P b h w : EReal)) (n : Fin 96) (h w : Fin 64) :
    Ref.corr x p c s (ix3 n h w) = (phase C S (X ⟨n.val / 6, by omega⟩) (P ⟨n.val % 6, by omega⟩) h w : EReal) := by
  refine ref_inverse hc hs _ _ (fun n => unitRe C S (X ⟨n.val / 6, by omega⟩) (P ⟨n.val % 6, by omega⟩))
    (fun n => unitIm C S (X ⟨n.val / 6, by omega⟩) (P ⟨n.val % 6, by omega⟩)) ?_ ?_ n h w
  · intro n h k
    pointwise [Ref.unit, Ref.modulus]
    rw [ref_crossRe hc hs x X hx p P hp, ref_crossIm hc hs x X hx p P hp, size_real, div_real _ (size_pos _ _).ne']
    rfl
  · intro n h k
    pointwise [Ref.unit, Ref.modulus]
    rw [ref_crossRe hc hs x X hx p P hp, ref_crossIm hc hs x X hx p P hp, size_real, div_real _ (size_pos _ _).ne']
    rfl

end Reference

/-! ## The kernel computes it -/

section Kernel

open Cert.KernelIdeal Cert.KernelIdeal.Gen

/-- The tables' negative. -/
theorem neg64_apply (t : FVec Ideal S64x64 .f32) (h k : Fin 64) : Kern.neg64 t (ix2 h k) = 0 - t (ix2 h k) := by
  pointwise [Kern.neg64]

theorem rowsBy_apply (imgs : FVec Ideal S22x64x64 .f32) (t : FVec Ideal S64x64 .f32) (n : Fin 22) (r k : Fin 64) (i : Fin 1408)
    (hi : i.val = n.val * 64 + k.val) : Kern.rowsBy imgs t (ix2 r i) = ∑ x, imgs (ix3 n r x) * t (ix2 k x) := by
  have h1 : i.val / 64 = n.val := by omega
  have h2 : i.val % 64 = k.val := by omega
  pointwise [Kern.rowsBy]
  refine Finset.sum_congr rfl fun x _ => ?_
  congr 2
  · congr 1
    exact Fin.ext (by show (i.val / 64 * 64 + r.val) / 64 = n.val; omega)
  · congr 1
    exact Fin.ext h2

/-- All twenty-two arrays. -/
def both (X : Fin 16 → Grid) (P : Fin 6 → Grid) (n : Fin 22) : Grid := if h : n.val < 16 then X ⟨n.val, h⟩ else P ⟨n.val - 16, by omega⟩

theorem allImgs_real (x : FVec Ideal S16x64x64 .f32) (X : Fin 16 → Grid) (hx : ∀ b h w, x (ix3 b h w) = (X b h w : EReal))
    (p : FVec Ideal S6x64x64 .f32) (P : Fin 6 → Grid) (hp : ∀ b h w, p (ix3 b h w) = (P b h w : EReal)) (n : Fin 22) (h w : Fin 64) :
    Kern.allImgs x p (ix3 n h w) = (both X P n h w : EReal) := by
  pointwise [Kern.allImgs]
  unfold both
  split <;> simp only [hx, hp]

variable {C S : Grid} {c s : FVec Ideal S64x64 .f32} (hc : ∀ h k, c (ix2 h k) = (C h k : EReal)) (hs : ∀ h k, s (ix2 h k) = (S h k : EReal))
include hc hs

theorem fwdRe_real (imgs : FVec Ideal S22x64x64 .f32) (Z : Fin 22 → Grid) (hz : ∀ n h w, imgs (ix3 n h w) = (Z n h w : EReal))
    (n : Fin 22) (h k : Fin 64) (i : Fin 1408) (hi : i.val = n.val * 64 + k.val) :
    Kern.forward imgs c s c (Kern.neg64 s) (ix2 h i) = (fwdRe C S (Z n) h k : EReal) := by
  pointwise [Kern.forward, Kern.beside]
  simp only [rowsBy_apply imgs _ n _ k i hi, neg64_apply, hc, hs, hz, ← EReal.coe_zero, ← EReal.coe_sub, ← EReal.coe_mul, ← coe_sum, ← EReal.coe_add]
  congr 1
  unfold fwdRe colsBy
  rw [sub_eq_add_neg, ← Finset.sum_neg_distrib]
  congr 1 <;> exact Finset.sum_congr rfl fun r _ => by ring
theorem fwdIm_real (imgs : FVec Ideal S22x64x64 .f32) (Z : Fin 22 → Grid) (hz : ∀ n h w, imgs (ix3 n h w) = (Z n h w : EReal))
    (n : Fin 22) (h k : Fin 64) (i : Fin 1408) (hi : i.val = n.val * 64 + k.val) :
    Kern.forward imgs c s s c (ix2 h i) = (fwdIm C S (Z n) h k : EReal) := by
  pointwise [Kern.forward, Kern.beside]
  simp only [rowsBy_apply imgs _ n _ k i hi, hc, hs, hz, ← EReal.coe_mul, ← coe_sum, ← EReal.coe_add]
  congr 1
  unfold fwdIm colsBy
  congr 1 <;> exact Finset.sum_congr rfl fun r _ => by ring

/-- The scaled inverse, from real factors. -/
theorem back_real (cr ci : FVec Ideal S64x6144 .f32) (U V : Fin 96 → Grid)
    (hu : ∀ (n : Fin 96) h k (i : Fin 6144), i.val = n.val * 64 + k.val → cr (ix2 h i) = (U n h k : EReal))
    (hv : ∀ (n : Fin 96) h k (i : Fin 6144), i.val = n.val * 64 + k.val → ci (ix2 h i) = (V n h k : EReal)) (n : Fin 96) (h w : Fin 64) :
    Kern.back cr ci (mulf c (broadcast S64x64 (Scalar.ofBits .f32 0x3C800000#32))) (mulf s (broadcast S64x64 (Scalar.ofBits .f32 0xBC800000#32))) (ix3 n h w)
      = (inv C S (U n) (V n) h w : EReal) := by
  have hr : ∀ (a b : FVec Ideal S64x64 .f32) (k : Fin 64) (i : Fin 6144), i.val = n.val * 64 + h.val →
      Kern.backRows cr ci a b (ix2 i k) = ∑ r, a (ix2 h r) * (U n r k : EReal) + ∑ r, b (ix2 h r) * (V n r k : EReal) := by
    intro a b k i hi
    have h1 : i.val / 64 = n.val := by omega
    have h2 : i.val % 64 = h.val := by omega
    pointwise [Kern.backRows, Kern.beside]
    have e : (⟨i.val % 64, by omega⟩ : Fin 64) = h := Fin.ext h2
    congr 1 <;> refine Finset.sum_congr rfl fun r _ => ?_
    · rw [e, hu n r k ⟨i.val / 64 * 64 + k.val, by omega⟩ (by show i.val / 64 * 64 + k.val = _; rw [h1])]
    · rw [e, hv n r k ⟨i.val / 64 * 64 + k.val, by omega⟩ (by show i.val / 64 * 64 + k.val = _; rw [h1])]
  have ec : ∀ h k, mulf c (broadcast S64x64 (Scalar.ofBits .f32 0x3C800000#32)) (ix2 h k) = ((C h k * (1 / 64) : ℝ) : EReal) := by
    intro h k
    pointwise []
    rw [word_inv64, hc, EReal.coe_mul]
  have es : ∀ h k, mulf s (broadcast S64x64 (Scalar.ofBits .f32 0xBC800000#32)) (ix2 h k) = ((S h k * (-(1 / 64)) : ℝ) : EReal) := by
    intro h k
    pointwise []
    rw [word_neg_inv64, hs, EReal.coe_mul]
  generalize mulf c (broadcast S64x64 (Scalar.ofBits .f32 0x3C800000#32)) = er at *
  generalize mulf s (broadcast S64x64 (Scalar.ofBits .f32 0xBC800000#32)) = ei at *
  have hn := neg64_apply ei
  unfold Kern.back
  generalize hne : Kern.neg64 ei = nei at *
  pointwise [Kern.neg64]
  simp only [hr _ _ _ ⟨n.val * 64 + h.val, by omega⟩ rfl, hn, ec, es, ← EReal.coe_zero, ← EReal.coe_sub, ← EReal.coe_mul, ← coe_sum, ← EReal.coe_add]
  congr 1
  unfold inv
  rw [add_div, Finset.sum_div, Finset.sum_div]
  congr 1 <;> refine Finset.sum_congr rfl fun k _ => ?_
  · have e1 : ∑ r, C h r * (1 / 64) * U n r k = (∑ r, U n r k * C h r) / 64 := by
      rw [Finset.sum_div]; exact Finset.sum_congr rfl fun r _ => by ring
    have e2 : ∑ r, (0 - S h r * -(1 / 64)) * V n r k = (∑ r, V n r k * S h r) / 64 := by
      rw [Finset.sum_div]; exact Finset.sum_congr rfl fun r _ => by ring
    rw [e1, e2]; ring
  · have e1 : ∑ r, S h r * -(1 / 64) * U n r k = -((∑ r, U n r k * S h r) / 64) := by
      rw [Finset.sum_div, ← Finset.sum_neg_distrib]; exact Finset.sum_congr rfl fun r _ => by ring
    have e2 : ∑ r, C h r * (1 / 64) * V n r k = (∑ r, V n r k * C h r) / 64 := by
      rw [Finset.sum_div]; exact Finset.sum_congr rfl fun r _ => by ring
    rw [e1, e2]; ring

/-- The kernel's correlation. -/
theorem kern_corr (x : FVec Ideal S16x64x64 .f32) (X : Fin 16 → Grid) (hx : ∀ b h w, x (ix3 b h w) = (X b h w : EReal))
    (p : FVec Ideal S6x64x64 .f32) (P : Fin 6 → Grid) (hp : ∀ b h w, p (ix3 b h w) = (P b h w : EReal)) (n : Fin 96) (h w : Fin 64) :
    Kern.corr x p c s (ix3 n h w) = (phase C S (X ⟨n.val / 6, by omega⟩) (P ⟨n.val % 6, by omega⟩) h w : EReal) := by
  have hz := allImgs_real x X hx p P hp
  have him : ∀ (f : FVec Ideal S64x1408 .f32) (G : Fin 22 → Grid), (∀ (n : Fin 22) h k (i : Fin 1408), i.val = n.val * 64 + k.val → f (ix2 h i) = (G n h k : EReal)) →
      ∀ (n : Fin 96) h k (i : Fin 6144), i.val = n.val * 64 + k.val → Kern.perImage f (ix2 h i) = (G ⟨n.val / 6, by omega⟩ h k : EReal) := by
    intro f G hf n h k i hi
    pointwise [Kern.perImage]
    exact hf _ _ _ _ (by show i.val / 384 * 64 + i.val % 64 = n.val / 6 * 64 + k.val; omega)
  have hpr : ∀ (f : FVec Ideal S64x1408 .f32) (G : Fin 22 → Grid), (∀ (n : Fin 22) h k (i : Fin 1408), i.val = n.val * 64 + k.val → f (ix2 h i) = (G n h k : EReal)) →
      ∀ (n : Fin 96) h k (i : Fin 6144), i.val = n.val * 64 + k.val → Kern.perProto f (ix2 h i) = (G ⟨16 + n.val % 6, by omega⟩ h k : EReal) := by
    intro f G hf n h k i hi
    pointwise [Kern.perProto]
    exact hf _ _ _ _ (by show 1024 + (i.val / 64 % 6 * 64 + i.val % 64) = (16 + n.val % 6) * 64 + k.val; omega)
  have hX : ∀ n : Fin 96, both X P ⟨n.val / 6, by omega⟩ = X ⟨n.val / 6, by omega⟩ := fun n => dif_pos (by show n.val / 6 < 16; omega)
  have hP : ∀ n : Fin 96, both X P ⟨16 + n.val % 6, by omega⟩ = P ⟨n.val % 6, by omega⟩ := fun n => by
    unfold both
    rw [dif_neg (by show ¬ 16 + n.val % 6 < 16; omega)]
    congr 1
    exact Fin.ext (by show 16 + n.val % 6 - 16 = n.val % 6; omega)
  have f1 := fwdRe_real hc hs _ _ hz
  have f2 := fwdIm_real hc hs _ _ hz
  unfold Kern.corr Kern.corrFrom
  have g1 := him _ (fun n => fwdRe C S (both X P n)) f1
  have g2 := him _ (fun n => fwdIm C S (both X P n)) f2
  have g3 := hpr _ (fun n => fwdRe C S (both X P n)) f1
  have g4 := hpr _ (fun n => fwdIm C S (both X P n)) f2
  simp only [hX, hP] at g1 g2 g3 g4
  generalize Kern.perImage (Kern.forward (Kern.allImgs x p) c s c (Kern.neg64 s)) = exr at *
  generalize Kern.perImage (Kern.forward (Kern.allImgs x p) c s s c) = exi at *
  generalize Kern.perProto (Kern.forward (Kern.allImgs x p) c s c (Kern.neg64 s)) = epr at *
  generalize Kern.perProto (Kern.forward (Kern.allImgs x p) c s s c) = epi at *
  have hre : ∀ (n : Fin 96) h k (i : Fin 6144), i.val = n.val * 64 + k.val →
      Kern.crossRe exr exi epr epi (ix2 h i) = (specRe C S (X ⟨n.val / 6, by omega⟩) (P ⟨n.val % 6, by omega⟩) h k : EReal) := by
    intro n h k i hi
    pointwise [Kern.crossRe]
    rw [g1 n h k i hi, g2 n h k i hi, g3 n h k i hi, g4 n h k i hi]
    simp only [← EReal.coe_mul, ← EReal.coe_add]
    rfl
  have him' : ∀ (n : Fin 96) h k (i : Fin 6144), i.val = n.val * 64 + k.val →
      Kern.crossIm exr exi epr epi (ix2 h i) = (specIm C S (X ⟨n.val / 6, by omega⟩) (P ⟨n.val % 6, by omega⟩) h k : EReal) := by
    intro n h k i hi
    pointwise [Kern.crossIm]
    rw [g1 n h k i hi, g2 n h k i hi, g3 n h k i hi, g4 n h k i hi]
    simp only [← EReal.coe_mul, ← EReal.coe_sub]
    rfl
  generalize Kern.crossRe exr exi epr epi = cr at *
  generalize Kern.crossIm exr exi epr epi = ci at *
  refine back_real hc hs _ _ (fun n => unitRe C S (X ⟨n.val / 6, by omega⟩) (P ⟨n.val % 6, by omega⟩))
    (fun n => unitIm C S (X ⟨n.val / 6, by omega⟩) (P ⟨n.val % 6, by omega⟩)) ?_ ?_ n h w
  · intro n h k i hi
    pointwise [Kern.modulus]
    rw [hre n h k i hi, him' n h k i hi, size_real, div_real _ (size_pos _ _).ne']
    rfl
  · intro n h k i hi
    pointwise [Kern.modulus]
    rw [hre n h k i hi, him' n h k i hi, size_real, div_real _ (size_pos _ _).ne']
    rfl

end Kernel

end Cert.Proof

end
-- ==== Proof.Greedy.lean ====
/-
  The greedy rounds: the kernel's state — errors over the uncovered pixels, shown values, covered pixels — against the
  reference's list of chosen templates. Both choose the same candidates, since their errors differ by what the covered
  pixels contribute, which is the same for every candidate.
-/
module

public import proofs.«01_k».proof.Proof.Spectrum
public import proofs.«01_k».proof.Proof.Choices

@[expose] public section

set_option maxRecDepth 16384

noncomputable section

namespace Cert.Proof

open Idealize.ShloMosaic

/-! ## The values shown at a pixel -/

/-- A template's value above which it covers. -/
def tau : ℝ := word_tenth.choose
theorem tau_eq : Ideal.ofBits .f32 1036831949#32 = (tau : EReal) := word_tenth.choose_spec.1

/-- What a list of values over `z` shows: the first that covers, on top. -/
def shownAt (l : List ℝ) (z : ℝ) : ℝ := l.foldr (fun a r => if tau < a then a else r) z

/-- One of the values covers. -/
def Covered (l : List ℝ) : Prop := ∃ a ∈ l, tau < a

theorem shownAt_cons (a : ℝ) (l : List ℝ) (z : ℝ) : shownAt (a :: l) z = if tau < a then a else shownAt l z := rfl

theorem shownAt_covered (l : List ℝ) (h : Covered l) (z z' : ℝ) : shownAt l z = shownAt l z' := by
  induction l with
  | nil => obtain ⟨a, ha, _⟩ := h; simp at ha
  | cons a l ih =>
    rw [shownAt_cons, shownAt_cons]
    split
    · rfl
    · rename_i hn
      obtain ⟨c, hc, ht⟩ := h
      rcases List.mem_cons.mp hc with rfl | hc
      · exact absurd ht hn
      · exact ih ⟨c, hc, ht⟩

theorem shownAt_uncovered (l : List ℝ) (h : ¬ Covered l) (z : ℝ) : shownAt l z = z := by
  induction l with
  | nil => rfl
  | cons a l ih =>
    rw [shownAt_cons, if_neg fun ht => h ⟨a, by simp, ht⟩]
    exact ih fun ⟨c, hc, ht⟩ => h ⟨c, by simp [hc], ht⟩

theorem shownAt_append (l : List ℝ) (a z : ℝ) : shownAt (l ++ [a]) z = shownAt l (if tau < a then a else z) := by
  unfold shownAt; rw [List.foldr_append]; rfl

theorem covered_append (l : List ℝ) (a : ℝ) : Covered (l ++ [a]) ↔ Covered l ∨ tau < a := by
  unfold Covered
  constructor
  · rintro ⟨c, hc, ht⟩
    rcases List.mem_append.mp hc with h | h
    · exact .inl ⟨c, h, ht⟩
    · rw [List.mem_singleton.mp h] at ht; exact .inr ht
  · rintro (⟨c, hc, ht⟩ | h)
    · exact ⟨c, by simp [hc], ht⟩
    · exact ⟨a, by simp, h⟩

theorem shownAt_mem (l : List ℝ) (z : ℝ) : shownAt l z = z ∨ shownAt l z ∈ l := by
  induction l with
  | nil => exact .inl rfl
  | cons a l ih =>
    rw [shownAt_cons]
    split
    · exact .inr (by simp)
    · rcases ih with h | h
      · exact .inl h
      · exact .inr (by simp [h])

/-! ## The errors -/

/-- The bound on every value. -/
def Bd (v : ℝ) : Prop := |v| ≤ 4096

/-- The number of pixels that a value at every pixel is averaged over. -/
def avg (f : Fin 64 → Fin 64 → ℝ) : ℝ := (∑ h, ∑ w, f h w) * (1 / 4096)

theorem avg_add (f g : Fin 64 → Fin 64 → ℝ) : avg f + avg g = avg fun h w => f h w + g h w := by
  unfold avg
  rw [← add_mul, ← Finset.sum_add_distrib]
  simp only [Finset.sum_add_distrib]

theorem avg_sub (f g : Fin 64 → Fin 64 → ℝ) : avg f - avg g = avg fun h w => f h w - g h w := by
  unfold avg
  rw [← sub_mul, ← Finset.sum_sub_distrib]
  simp only [Finset.sum_sub_distrib]

theorem avg_le (f : Fin 64 → Fin 64 → ℝ) (c : ℝ) (h : ∀ a b, f a b ≤ c) : avg f ≤ c := by
  unfold avg
  have : ∑ a, ∑ b, f a b ≤ 4096 * c := by
    refine (Finset.sum_le_sum fun a _ => Finset.sum_le_sum fun b _ => h a b).trans ?_
    simp
    linarith
  linarith

theorem sq_lt (a b : ℝ) (ha : Bd a) (hb : Bd b) : (a - b) * (a - b) ≤ 67108864 := by
  unfold Bd at *
  have h1 := abs_le.mp ha
  have h2 := abs_le.mp hb
  nlinarith

/-- The squared difference a candidate makes over the background. -/
def sqDiff (X T B : ℝ) : ℝ := if tau < T then (X - T) * (X - T) else (X - B) * (X - B)

theorem sqDiff_shown (X T B : ℝ) : (X - shownAt [T] B) * (X - shownAt [T] B) = sqDiff X T B := by
  unfold sqDiff; rw [shownAt_cons]; split <;> rfl

theorem sqDiff_le (X T B : ℝ) (hX : Bd X) (hT : Bd T) (hB : Bd B) : sqDiff X T B ≤ 67108864 := by
  unfold sqDiff; split <;> exact sq_lt _ _ (by assumption) (by assumption)

open Classical in
/-- The error over the uncovered pixels. -/
def openErr (X T B : Grid) (L : List Grid) : ℝ := avg fun h w => if Covered (L.map fun A => A h w) then 0 else sqDiff (X h w) (T h w) (B h w)

/-- The error over every pixel. -/
def fullErr (X T B : Grid) (L : List Grid) : ℝ :=
  avg fun h w => (X h w - shownAt (L.map fun A => A h w) (shownAt [T h w] (B h w))) * (X h w - shownAt (L.map fun A => A h w) (shownAt [T h w] (B h w)))

open Classical in
/-- What the covered pixels contribute. -/
def shutErr (X : Grid) (L : List Grid) : ℝ :=
  avg fun h w => if Covered (L.map fun A => A h w) then (X h w - shownAt (L.map fun A => A h w) 0) * (X h w - shownAt (L.map fun A => A h w) 0) else 0

theorem fullErr_eq (X T B : Grid) (L : List Grid) : fullErr X T B L = openErr X T B L + shutErr X L := by
  classical
  unfold openErr shutErr fullErr
  rw [avg_add]
  congr 1
  funext h w
  by_cases hc : Covered (L.map fun A => A h w)
  · rw [if_pos hc, if_pos hc, zero_add, shownAt_covered _ hc _ 0]
  · rw [if_neg hc, if_neg hc, add_zero, shownAt_uncovered _ hc, sqDiff_shown]

theorem openErr_le (X T B : Grid) (L : List Grid) (hX : ∀ h w, Bd (X h w)) (hT : ∀ h w, Bd (T h w)) (hB : ∀ h w, Bd (B h w)) :
    openErr X T B L ≤ 67108864 := by
  classical
  refine avg_le _ _ fun h w => ?_
  split
  · norm_num
  · exact sqDiff_le _ _ _ (hX h w) (hT h w) (hB h w)

theorem fullErr_le (X T B : Grid) (L : List Grid) (hX : ∀ h w, Bd (X h w)) (hT : ∀ h w, Bd (T h w)) (hB : ∀ h w, Bd (B h w))
    (hL : ∀ A ∈ L, ∀ h w, Bd (A h w)) : fullErr X T B L ≤ 67108864 := by
  refine avg_le _ _ fun h w => sq_lt _ _ (hX h w) ?_
  rcases shownAt_mem (L.map fun A => A h w) (shownAt [T h w] (B h w)) with e | e
  · rw [e, shownAt_cons]
    split
    · exact hT h w
    · exact hB h w
  · obtain ⟨A, hA, e⟩ := List.mem_map.mp e
    rw [← e]; exact hL A hA h w

open Classical in
theorem openErr_append (X T B A : Grid) (L : List Grid) :
    openErr X T B (L ++ [A]) = openErr X T B L
      - avg fun h w => sqDiff (X h w) (T h w) (B h w) * if tau < A h w ∧ ¬ Covered (L.map fun A => A h w) then 1 else 0 := by
  unfold openErr
  rw [avg_sub]
  congr 1
  funext h w
  rw [List.map_append, List.map_cons, List.map_nil, if_congr (covered_append _ _) rfl rfl]
  by_cases hc : Covered (L.map fun A => A h w) <;> by_cases ht : tau < A h w <;> simp [hc, ht]

/-! ## The choice -/

open Classical in
/-- An error, out of reach when used. -/
def outOf (u : Prop) (e : ℝ) : ℝ := if u then 100000000 else e

/-- Errors that differ by one constant, used candidates out of reach, have the same first least. -/
theorem same_first (U : Fin 25 → Prop) (h0 : ¬ U 0) (e f : Fin 25 → ℝ) (K : ℝ) (hf : ∀ k, f k = e k + K) (he : ∀ k, e k ≤ 67108864)
    (hf' : ∀ k, f k ≤ 67108864) (g : Fin 25) (h1 : ∀ j, outOf (U g) (e g) ≤ outOf (U j) (e j))
    (h2 : ∀ j, outOf (U j) (e j) = outOf (U g) (e g) → g.val ≤ j.val) :
    (∀ j, outOf (U g) (f g) ≤ outOf (U j) (f j)) ∧ ∀ j, outOf (U j) (f j) = outOf (U g) (f g) → g.val ≤ j.val := by
  classical
  have hg : ¬ U g := by
    intro hg
    have := h1 0
    unfold outOf at this
    rw [if_pos hg, if_neg h0] at this
    have := he 0
    linarith
  have eg : ∀ e : ℝ, outOf (U g) e = e := fun e => if_neg hg
  rw [eg] at h1 h2
  rw [eg]
  refine ⟨fun j => ?_, fun j hj => ?_⟩
  · by_cases hj : U j
    · unfold outOf; rw [if_pos hj]; have := hf' g; linarith
    · have := h1 j
      unfold outOf at this ⊢; rw [if_neg hj] at this ⊢; rw [hf, hf]; linarith
  · have hu : ¬ U j := by
      intro hu
      unfold outOf at hj; rw [if_pos hu] at hj; have := hf' g; linarith
    refine h2 j ?_
    unfold outOf at hj ⊢; rw [if_neg hu] at hj ⊢; rw [hf, hf] at hj; linarith

end Cert.Proof

end
-- ==== Proof.Picks.lean ====
/-
  The chosen templates and the rolled prototypes, read at an index.
-/
module

public import proofs.«01_k».proof.Proof.RefText
public import proofs.«01_k».proof.Proof.Choices

@[expose] public section

set_option maxRecDepth 16384

noncomputable section

namespace Cert.Proof

open Idealize.ShloMosaic

section Reference

open Cert.ReferenceIdeal Cert.ReferenceIdeal.Gen

/-- The templates read by image and candidate. -/
theorem pick_gather (x : FVec Ideal S16x25x64x64 .f32) (idx : IVec S16x2 32) (b : Fin 16) (h w : Fin 64) (n : Fin 16) (k : Fin 25)
    (h0 : idx (ix2 b 0) = BitVec.ofNat 32 n.val) (h1 : idx (ix2 b 1) = BitVec.ofNat 32 k.val) :
    Host.gather gather_S16x25x64x64_S16x2_S16x64x64_12_01_n_n_01_1_116464 x idx (ix3 b h w) = x (ix4 n k h w) := by
  unfold Host.gather
  refine congrArg x (funext fun a => Fin.ext ?_)
  have hs0 : gather_S16x25x64x64_S16x2_S16x64x64_12_01_n_n_01_1_116464.siIdx (ix3 b h w) ⟨0, by decide⟩ = ix2 b 0 := by
    funext c; fin_cases c <;> rfl
  have hs1 : gather_S16x25x64x64_S16x2_S16x64x64_12_01_n_n_01_1_116464.siIdx (ix3 b h w) ⟨1, by decide⟩ = ix2 b 1 := by
    funext c; fin_cases c <;> rfl
  rw [← hs0] at h0
  rw [← hs1] at h1
  fin_cases a
  · show min (idx _).toInt.toNat 15 + 0 + 0 = n.val
    refine (congrArg (fun v : BitVec 32 => min v.toInt.toNat 15 + 0 + 0) h0).trans ?_
    simp only [toInt_ofNat_small n.val (by omega)]
    omega
  · show min (idx _).toInt.toNat 24 + 0 + 0 = k.val
    refine (congrArg (fun v : BitVec 32 => min v.toInt.toNat 24 + 0 + 0) h1).trans ?_
    simp only [toInt_ofNat_small k.val (by omega)]
    omega
  · show 0 + 0 + h.val = h.val
    omega
  · show 0 + 0 + w.val = w.val
    omega

/-- The prototypes read by number, row and column. -/
theorem roll_gather (x : FVec Ideal S6x64x64 .f32) (idx : IVec S16x6x4x64x64x3 32) (b : Fin 16) (q : Fin 6) (t : Fin 4) (h w : Fin 64)
    (n : Fin 6) (r c : Fin 64) (h0 : idx (ix6 b q t h w 0) = BitVec.ofNat 32 n.val) (h1 : idx (ix6 b q t h w 1) = BitVec.ofNat 32 r.val)
    (h2 : idx (ix6 b q t h w 2) = BitVec.ofNat 32 c.val) :
    Host.gather gather_S6x64x64_S16x6x4x64x64x3_S16x6x4x64x64_n_012_n_n_012_5_111 x idx (ix5 b q t h w) = x (ix3 n r c) := by
  unfold Host.gather
  refine congrArg x (funext fun a => Fin.ext ?_)
  have hs0 : gather_S6x64x64_S16x6x4x64x64x3_S16x6x4x64x64_n_012_n_n_012_5_111.siIdx (ix5 b q t h w) ⟨0, by decide⟩ = ix6 b q t h w 0 := by
    funext c; fin_cases c <;> rfl
  have hs1 : gather_S6x64x64_S16x6x4x64x64x3_S16x6x4x64x64_n_012_n_n_012_5_111.siIdx (ix5 b q t h w) ⟨1, by decide⟩ = ix6 b q t h w 1 := by
    funext c; fin_cases c <;> rfl
  have hs2 : gather_S6x64x64_S16x6x4x64x64x3_S16x6x4x64x64_n_012_n_n_012_5_111.siIdx (ix5 b q t h w) ⟨2, by decide⟩ = ix6 b q t h w 2 := by
    funext c; fin_cases c <;> rfl
  rw [← hs0] at h0
  rw [← hs1] at h1
  rw [← hs2] at h2
  fin_cases a
  · show min (idx _).toInt.toNat 5 + 0 + 0 = n.val
    refine (congrArg (fun v : BitVec 32 => min v.toInt.toNat 5 + 0 + 0) h0).trans ?_
    simp only [toInt_ofNat_small n.val (by omega)]
    omega
  · show min (idx _).toInt.toNat 63 + 0 + 0 = r.val
    refine (congrArg (fun v : BitVec 32 => min v.toInt.toNat 63 + 0 + 0) h1).trans ?_
    simp only [toInt_ofNat_small r.val (by omega)]
    omega
  · show min (idx _).toInt.toNat 63 + 0 + 0 = c.val
    refine (congrArg (fun v : BitVec 32 => min v.toInt.toNat 63 + 0 + 0) h2).trans ?_
    simp only [toInt_ofNat_small c.val (by omega)]
    omega

theorem wrap16 : ∀ b : Fin 16, Scalar.select (IntOp.cmpi CmpIPredicate.slt (BitVec.ofNat 32 b.val) 0#32) (IntOp.addi (BitVec.ofNat 32 b.val) 16#32)
    (BitVec.ofNat 32 b.val) = BitVec.ofNat 32 b.val := by
  decide
theorem wrap25 : ∀ b : Fin 25, Scalar.select (IntOp.cmpi CmpIPredicate.slt (BitVec.ofNat 32 b.val) 0#32) (IntOp.addi (BitVec.ofNat 32 b.val) 25#32)
    (BitVec.ofNat 32 b.val) = BitVec.ofNat 32 b.val := by
  decide

/-- The reference's chosen templates. -/
theorem ref_chosen (T : FVec Ideal S16x25x64x64 .f32) (sel : IVec S16 32) (b : Fin 16) (h w : Fin 64) (k : Fin 25)
    (hk : sel (ix1 b) = BitVec.ofNat 32 k.val) : Ref.chosen T sel (ix3 b h w) = T (ix4 b k h w) := by
  refine pick_gather T _ b h w b k ?_ ?_
  · pointwise []
    exact wrap16 b
  · pointwise []
    rw [hk]
    exact wrap25 k

/-- A row or column counted back from another, cyclically. -/
theorem wrapped : ∀ h r : Fin 64, Scalar.select (IntOp.cmpi CmpIPredicate.slt (IntOp.remsi ArithUnit.host (IntOp.subi (IntOp.addi (BitVec.ofNat 32 h.val) 64#32) (BitVec.ofNat 32 r.val)) 64#32) 0#32)
    (IntOp.addi (IntOp.remsi ArithUnit.host (IntOp.subi (IntOp.addi (BitVec.ofNat 32 h.val) 64#32) (BitVec.ofNat 32 r.val)) 64#32) 64#32)
    (IntOp.remsi ArithUnit.host (IntOp.subi (IntOp.addi (BitVec.ofNat 32 h.val) 64#32) (BitVec.ofNat 32 r.val)) 64#32) = BitVec.ofNat 32 ((h.val + 64 - r.val) % 64) := by
  decide +kernel

/-- A position's row and column, as the reference computes them. -/
theorem host_parts : ∀ p : Fin 4096, IntOp.divsi ArithUnit.host (BitVec.ofNat 32 p.val) 64#32 = BitVec.ofNat 32 (p.val / 64)
    ∧ IntOp.remsi ArithUnit.host (BitVec.ofNat 32 p.val) 64#32 = BitVec.ofNat 32 (p.val % 64) := by
  decide +kernel

/-- The reference's templates. -/
theorem ref_temps (p : FVec Ideal S6x64x64 .f32) (idx : IVec S16x6x4 32) (pos : Fin 16 → Fin 6 → Fin 4 → Fin 4096)
    (hpos : ∀ b q t, idx (ix3 b q t) = BitVec.ofNat 32 (pos b q t).val) (b : Fin 16) (q : Fin 6) (t : Fin 4) (h w : Fin 64) :
    Ref.rolledAll p idx (ix5 b q t h w) = p (ix3 q ⟨(h.val + 64 - (pos b q t).val / 64) % 64, by omega⟩ ⟨(w.val + 64 - (pos b q t).val % 64) % 64, by omega⟩) := by
  refine roll_gather p _ b q t h w _ _ _ ?_ ?_ ?_
  · pointwise [Ref.source, Ref.protoNo]
    revert q; decide
  · pointwise [Ref.source, Ref.rowNo]
    rw [hpos, (host_parts _).1]
    exact wrapped h ⟨(pos b q t).val / 64, by omega⟩
  · pointwise [Ref.source, Ref.colNo]
    rw [hpos, (host_parts _).2]
    exact wrapped w ⟨(pos b q t).val % 64, by omega⟩

end Reference

section Kernel

open Cert.KernelIdeal Cert.KernelIdeal.Gen

set_option maxHeartbeats 4000000 in
theorem stack_apply (v : Fin 16 → FVec Ideal S1x64x64 .f32)  (b : Fin 16) (h w : Fin 64) : Kern.stack v (ix3 b h w) = v b (ix3 0 h w) := by
  fin_cases b <;> pointwise [Kern.stack]

/-- A position's row and column, as the kernel computes them. -/
theorem kern_parts : ∀ p : Fin 4096, (Kern.rowOf (BitVec.ofNat 32 p.val)).toNat = p.val / 64 ∧ (Kern.colOf (BitVec.ofNat 32 p.val)).toNat = p.val % 64 := by
  decide +kernel

/-- The kernel's chosen templates. -/
theorem kern_chosen (T : FVec Ideal S16x25x64x64 .f32) (sel : IVec S16x1 32) (b : Fin 16) (h w : Fin 64) (k : Fin 25)
    (hk : sel (ix2 b 0) = BitVec.ofNat 32 k.val) : Kern.chosen T sel (ix3 b h w) = T (ix4 b k h w) := by
  unfold Kern.chosen
  rw [stack_apply, Kern.selAt_eq, hk]
  show T (ix4 b ⟨(BitVec.ofNat 32 k.val).toNat % 25, _⟩ h w) = _
  congr 2
  refine Fin.ext ?_
  show (BitVec.ofNat 32 k.val).toNat % 25 = k.val
  rw [BitVec.toNat_ofNat]; omega

/-- Both programs' templates, the positions alike. -/
theorem temps_eq (p : FVec Ideal S6x64x64 .f32) (idx : IVec S96x4 32) (idx' : IVec Cert.ReferenceIdeal.S16x6x4 32) (pos : Fin 16 → Fin 6 → Fin 4 → Fin 4096)
    (hpos : ∀ (b : Fin 16) (q : Fin 6) t, idx (ix2 ⟨b.val * 6 + q.val, by omega⟩ t) = BitVec.ofNat 32 (pos b q t).val)
    (hpos' : ∀ b q t, idx' (ix3 b q t) = BitVec.ofNat 32 (pos b q t).val) (b : Fin 16) (k : Fin 25) (h w : Fin 64) :
    Kern.temps idx p (ix4 b k h w) = Ref.temps p idx' (ix4 b k h w) := by
  pointwise [Kern.temps, Kern.rolled, Kern.protoAt, Ref.temps]
  by_cases hk : k.val = 0
  · rw [dif_pos hk, dif_pos (by omega)]
  · rw [dif_neg hk, dif_neg (by omega), ref_temps p idx' pos hpos']
    have e := hpos b ⟨(k.val - 1) / 4, by omega⟩ ⟨(k.val - 1) % 4, by omega⟩
    have e1 : (⟨(k.val - 1) / 4, by omega⟩ : Fin 6).val = (k.val - 1) / 4 := rfl
    simp only at e
    simp only [e, kern_parts]
    have hp := (pos b ⟨(k.val - 1) / 4, by omega⟩ ⟨(k.val - 1) % 4, by omega⟩).isLt
    congr 2 <;> refine Fin.ext ?_
    · show (h.val + 64 - _ % 64) % 64 = (h.val + 64 - _) % 64
      omega
    · show (w.val + 64 - _ % 64) % 64 = (w.val + 64 - _) % 64
      omega

end Kernel
end Cert.Proof

end
-- ==== Proof.Rounds.lean ====
/-
  The greedy rounds of both programs in step: after every round the kernel's errors, shown values and covered pixels are
  those of the templates the reference has chosen.
-/
module

public import proofs.«01_k».proof.Proof.Greedy
public import proofs.«01_k».proof.Proof.Picks
public import proofs.«01_k».proof.Proof.TopRead

@[expose] public section

set_option maxRecDepth 16384

noncomputable section

namespace Cert.Proof

open Idealize.ShloMosaic

/-! ## One-bit words -/

theorem ofBool_one (P : Prop) [Decidable P] : BitVec.ofBool (decide P) = 1#1 ↔ P := by
  by_cases h : P <;> simp [h]
theorem ori_one : ∀ a b : BitVec 1, IntOp.ori a b = 1#1 ↔ a = 1#1 ∨ b = 1#1 := by decide
theorem andi_one : ∀ a b : BitVec 1, IntOp.andi a b = 1#1 ↔ a = 1#1 ∧ b = 1#1 := by decide
theorem xori_one : ∀ a : BitVec 1, IntOp.xori a 1#1 = 1#1 ↔ ¬ a = 1#1 := by decide
theorem cmp_eq_one : ∀ a b : Fin 25, IntOp.cmpi .eq (BitVec.ofNat 32 a.val) (BitVec.ofNat 32 b.val) = 1#1 ↔ a = b := by decide
theorem cmp_ne_one : ∀ a : Fin 25, IntOp.cmpi .ne (BitVec.ofNat 32 a.val) 0#32 = 1#1 ↔ ¬ a = 0 := by decide
theorem cmp_sgt_one : ∀ a : Fin 25, IntOp.cmpi .sgt (BitVec.ofNat 32 a.val) 0#32 = 1#1 ↔ ¬ a = 0 := by decide
theorem select_one {α : Type} (c : BitVec 1) (a b : α) : Scalar.select c a b = if c = 1#1 then a else b := rfl
theorem ones_or (c : BitVec 1) : c = 1#1 ∨ c = 0#1 := by revert c; decide

open Classical in
theorem bit_real (c : BitVec 1) : FloatOps.sitofp (F := Ideal) FTy.f32 (BitVec.setWidth 32 c) = ((if c = 1#1 then 1 else 0 : ℝ) : EReal) := by
  rcases ones_or c with rfl | rfl
  · rw [if_pos rfl]
    show (((BitVec.setWidth 32 1#1).toInt : ℝ) : EReal) = _
    have : (BitVec.setWidth 32 1#1).toInt = 1 := by decide
    rw [this]; simp
  · rw [if_neg (by decide)]
    show (((BitVec.setWidth 32 0#1).toInt : ℝ) : EReal) = _
    have : (BitVec.setWidth 32 0#1).toInt = 0 := by decide
    rw [this]; simp

theorem above (a : ℝ) : Ideal.ofBits .f32 1036831949#32 < (a : EReal) ↔ tau < a := by
  rw [tau_eq, EReal.coe_lt_coe_iff]

/-- A value over another by its mask. -/
theorem masked (r a : ℝ) [Decidable (Ideal.ofBits .f32 1036831949#32 < (a : EReal))] :
    (r : EReal) * (1 - FloatOps.uitofp (F := Ideal) FTy.f32 (BitVec.ofBool (decide (Ideal.ofBits FTy.f32 1036831949#32 < (a : EReal)))))
      + (a : EReal) * FloatOps.uitofp (F := Ideal) FTy.f32 (BitVec.ofBool (decide (Ideal.ofBits FTy.f32 1036831949#32 < (a : EReal))))
      = ((if tau < a then a else r : ℝ) : EReal) := by
  have e1 : FloatOps.uitofp (F := Ideal) FTy.f32 1#1 = ((1 : ℝ) : EReal) := by
    show (((1#1 : BitVec 1).toNat : ℝ) : EReal) = _
    simp
  have e0 : FloatOps.uitofp (F := Ideal) FTy.f32 0#1 = ((0 : ℝ) : EReal) := by
    show (((0#1 : BitVec 1).toNat : ℝ) : EReal) = _
    simp
  have eo : (1 : EReal) = ((1 : ℝ) : EReal) := rfl
  by_cases h : tau < a
  · rw [decide_eq_true ((above a).mpr h), if_pos h]
    show _ * (1 - FloatOps.uitofp (F := Ideal) FTy.f32 1#1) + _ * FloatOps.uitofp (F := Ideal) FTy.f32 1#1 = _
    rw [e1, eo, ← EReal.coe_sub, ← EReal.coe_mul, ← EReal.coe_mul, ← EReal.coe_add]
    congr 1; ring
  · rw [decide_eq_false fun h' => h ((above a).mp h'), if_neg h]
    show _ * (1 - FloatOps.uitofp (F := Ideal) FTy.f32 0#1) + _ * FloatOps.uitofp (F := Ideal) FTy.f32 0#1 = _
    rw [e0, eo, ← EReal.coe_sub, ← EReal.coe_mul, ← EReal.coe_mul, ← EReal.coe_add]
    congr 1; ring

theorem avg_coe (f : Fin 64 → Fin 64 → ℝ) : (∑ h, ∑ w, ((f h w : ℝ) : EReal)) * Ideal.ofBits .f32 964689920#32 = (avg f : EReal) := by
  rw [word_inv4096]
  simp only [← coe_sum, ← EReal.coe_mul]
  rfl

theorem avg_coe_div (f : Fin 64 → Fin 64 → ℝ) : Ideal.div (∑ h, ∑ w, ((f h w : ℝ) : EReal)) (Ideal.ofBits .f32 1166016512#32) = (avg f : EReal) := by
  rw [word_4096]
  simp only [← coe_sum]
  rw [div_real _ (by norm_num)]
  unfold avg
  congr 1; ring

/-! ## The rounds -/

section Rounds

variable {x : FVec Ideal Cert.KernelIdeal.S16x64x64 .f32} {X : Fin 16 → Grid} (hx : ∀ b h w, x (ix3 b h w) = (X b h w : EReal))
variable {bg : FVec Ideal Cert.KernelIdeal.S64x64 .f32} {B : Grid} (hb : ∀ h w, bg (ix2 h w) = (B h w : EReal))
variable {T : FVec Ideal Cert.KernelIdeal.S16x25x64x64 .f32} {Z : Fin 16 → Fin 25 → Grid} (hT : ∀ b k h w, T (ix4 b k h w) = (Z b k h w : EReal))
variable (bX : ∀ b h w, Bd (X b h w)) (bB : ∀ h w, Bd (B h w)) (bZ : ∀ b k h w, Bd (Z b k h w))

/-- The values image `b`'s chosen templates have at a pixel. -/
def atPixel (L : List (Fin 16 → Grid)) (b : Fin 16) (h w : Fin 64) : List ℝ := (L.map fun A => A b).map fun A => A h w

/-- The kernel's state and the reference's, the templates `L` chosen and the candidates `U` used. -/
structure Agrees (X : Fin 16 → Grid) (B : Grid) (Z : Fin 16 → Fin 25 → Grid) (L : List (Fin 16 → Grid)) (U : Fin 16 → Fin 25 → Prop)
    (s : Kern.RoundState Ideal) (r : Ref.Chosen Ideal) : Prop where
  e : ∀ b k, s.e (ix2 b k) = (openErr (X b) (Z b k) B (L.map fun A => A b) : EReal)
  used : ∀ b k, s.used (ix2 b k) = 1#1 ↔ U b k
  used' : ∀ b k, ∃ n : ℝ, 0 ≤ n ∧ r.used (ix2 b k) = (n : EReal) ∧ (0 < n ↔ U b k)
  empty : ∀ b, ¬ U b 0
  cov : ∀ b h w, s.cov (ix3 b h w) = 1#1 ↔ Covered (atPixel L b h w)
  vals : ∀ b h w, s.vals (ix3 b h w) = (shownAt (atPixel L b h w) 0 : EReal)
  list : List.Forall₂ (fun (v : FVec Ideal Cert.ReferenceIdeal.S16x64x64 .f32) (A : Fin 16 → Grid) => ∀ b h w, v (ix3 b h w) = (A b h w : EReal)) r.list L
  bd : ∀ A ∈ L, ∀ b h w, Bd (A b h w)

include hx hb hT

theorem diffs_real (b : Fin 16) (k : Fin 25) (h w : Fin 64) : Kern.diffs x bg T (ix4 b k h w) = (sqDiff (X b h w) (Z b k h w) (B h w) : EReal) := by
  pointwise [Kern.diffs]
  rw [hx, hb, hT]
  unfold sqDiff
  simp only [above, ← EReal.coe_sub, ← EReal.coe_mul]
  split <;> rfl

theorem start_agrees : Agrees X B Z [] (fun _ _ => False) (Kern.RoundState.start (Kern.diffs x bg T)) Ref.Chosen.start where
  e := by
    intro b k
    show Kern.meanOver (Kern.diffs x bg T) (ix2 b k) = _
    pointwise [Kern.meanOver]
    simp only [diffs_real hx hb hT]
    rw [avg_coe]
    congr 1
    unfold openErr
    congr 1
    funext h w
    rw [if_neg (by rintro ⟨a, ha, _⟩; simp at ha)]
  used := by
    intro b k
    show (0#1 : BitVec 1) = 1#1 ↔ False
    simp
  used' := by
    intro b k
    refine ⟨0, le_refl _, ?_, by simp⟩
    show (Ref.Chosen.start (F := Ideal)).used (ix2 b k) = _
    unfold Ref.Chosen.start
    pointwise []
    rfl
  empty := fun _ h => h
  cov := by
    intro b h w
    show (0#1 : BitVec 1) = 1#1 ↔ _
    constructor
    · intro h; exact absurd h (by decide)
    · rintro ⟨a, ha, _⟩; simp [atPixel] at ha
  vals := by
    intro b h w
    unfold Kern.RoundState.start
    pointwise []
    rfl
  list := .nil
  bd := by simp

omit hx hb hT in
theorem layer_real (v : FVec Ideal Cert.ReferenceIdeal.S16x64x64 .f32) (A : Fin 16 → Grid) (hv : ∀ b h w, v (ix3 b h w) = (A b h w : EReal))
    (rec : FVec Ideal Cert.ReferenceIdeal.S16x25x64x64 .f32) (b : Fin 16) (k : Fin 25) (h w : Fin 64) (z : ℝ) (hz : rec (ix4 b k h w) = (z : EReal)) :
    Ref.layer v rec (ix4 b k h w) = ((if tau < A b h w then A b h w else z : ℝ) : EReal) := by
  pointwise [Ref.layer, Ref.cmask, Ref.lift1]
  rw [hv, hz]
  exact masked _ _

omit hx hb hT in
theorem over_real (v : FVec Ideal Cert.ReferenceIdeal.S16x64x64 .f32) (A : Fin 16 → Grid) (hv : ∀ b h w, v (ix3 b h w) = (A b h w : EReal))
    (rec : FVec Ideal Cert.ReferenceIdeal.S16x64x64 .f32) (b : Fin 16) (h w : Fin 64) (z : ℝ) (hz : rec (ix3 b h w) = (z : EReal)) :
    Ref.over v rec (ix3 b h w) = ((if tau < A b h w then A b h w else z : ℝ) : EReal) := by
  pointwise [Ref.over, Ref.omask]
  rw [hv, hz]
  exact masked _ _

omit hx in
theorem shown_real (l : List (FVec Ideal Cert.ReferenceIdeal.S16x64x64 .f32)) (L : List (Fin 16 → Grid))
    (hl : List.Forall₂ (fun (v : FVec Ideal Cert.ReferenceIdeal.S16x64x64 .f32) (A : Fin 16 → Grid) => ∀ b h w, v (ix3 b h w) = (A b h w : EReal)) l L)
    (b : Fin 16) (k : Fin 25) (h w : Fin 64) :
    Ref.shown bg T l (ix4 b k h w) = (shownAt (atPixel L b h w) (shownAt [Z b k h w] (B h w)) : EReal) := by
  induction hl with
  | nil =>
    show Ref.base bg T (ix4 b k h w) = _
    pointwise [Ref.base, Ref.tmask]
    rw [hb, hT]
    exact masked _ _
  | cons hv _ ih =>
    exact layer_real _ _ hv _ b k h w _ ih

omit hx hT in
theorem overs_real (l : List (FVec Ideal Cert.ReferenceIdeal.S16x64x64 .f32)) (L : List (Fin 16 → Grid))
    (hl : List.Forall₂ (fun (v : FVec Ideal Cert.ReferenceIdeal.S16x64x64 .f32) (A : Fin 16 → Grid) => ∀ b h w, v (ix3 b h w) = (A b h w : EReal)) l L)
    (b : Fin 16) (h w : Fin 64) :
    l.foldr Ref.over (Ref.backs bg) (ix3 b h w) = (shownAt (atPixel L b h w) (B h w) : EReal) := by
  induction hl with
  | nil =>
    show Ref.backs bg (ix3 b h w) = _
    pointwise [Ref.backs]
    exact hb h w
  | cons hv _ ih =>
    exact over_real _ _ hv _ b h w _ ih

theorem err_real (l : List (FVec Ideal Cert.ReferenceIdeal.S16x64x64 .f32)) (L : List (Fin 16 → Grid))
    (hl : List.Forall₂ (fun (v : FVec Ideal Cert.ReferenceIdeal.S16x64x64 .f32) (A : Fin 16 → Grid) => ∀ b h w, v (ix3 b h w) = (A b h w : EReal)) l L)
    (b : Fin 16) (k : Fin 25) :
    Ref.mean (Ref.diff x (Ref.shown bg T l)) (ix2 b k) = (fullErr (X b) (Z b k) B (L.map fun A => A b) : EReal) := by
  pointwise [Ref.mean, Ref.diff]
  simp only [shown_real hb hT l L hl, hx, ← EReal.coe_sub, ← EReal.coe_mul]
  rw [avg_coe_div]
  rfl

omit hx hb hT in
/-- The reference's candidate is the first of least error. -/
theorem ref_best (em : FVec Ideal Cert.ReferenceIdeal.S16x25 .f32) (b : Fin 16) (g : Fin 25) (h1 : ∀ j, em (ix2 b g) ≤ em (ix2 b j))
    (h2 : ∀ j, em (ix2 b j) = em (ix2 b g) → g.val ≤ j.val) : Ref.best em (ix1 b) = BitVec.ofNat 32 g.val := by
  pointwise [Ref.best]
  refine (top_one _ b).trans ?_
  have hn : ∀ k : Fin 25, Host.negf em (ix2 b k) = -(em (ix2 b k)) := fun _ => rfl
  rw [sorted_zero (fun k : Fin 25 => Host.negf em (ix2 b k)) (byValue fun k : Fin 25 => Host.negf em (ix2 b k)) (fun _ _ => rfl) (by norm_num) g
    (fun j => by rw [hn, hn]; exact EReal.neg_le_neg_iff.mpr (h1 j)) (fun j h => by rw [hn, hn] at h; exact h2 j (neg_injective h))]

omit hx hb hT in
theorem kern_reach (used : IVec Cert.KernelIdeal.S16x25 1) (e : FVec Ideal Cert.KernelIdeal.S16x25 .f32) (b : Fin 16) (k : Fin 25) (u : Prop) (v : ℝ)
    (hu : used (ix2 b k) = 1#1 ↔ u) (he : e (ix2 b k) = (v : EReal)) : Kern.reach used e (ix2 b k) = (outOf u v : EReal) := by
  classical
  pointwise [Kern.reach]
  rw [select_one, word_1e8, he, if_congr hu rfl rfl]
  unfold outOf
  split <;> rfl

omit hx hb hT in
theorem ref_reach (used e : FVec Ideal Cert.ReferenceIdeal.S16x25 .f32) (b : Fin 16) (k : Fin 25) (u : Prop) (v n : ℝ)
    (hn : used (ix2 b k) = (n : EReal)) (hu : 0 < n ↔ u) (he : e (ix2 b k) = (v : EReal)) : Ref.reach used e (ix2 b k) = (outOf u v : EReal) := by
  classical
  pointwise [Ref.reach]
  have h0 : (0 : EReal) < used (ix2 b k) ↔ u := by rw [hn, ← hu, EReal.coe_pos]
  rw [word_1e8, he, if_congr h0 rfl rfl]
  unfold outOf
  split <;> rfl

omit hx hb hT in
/-- The kernel's choice. -/
theorem kern_choice (L : List (Fin 16 → Grid)) (U : Fin 16 → Fin 25 → Prop) (s : Kern.RoundState Ideal)
    (he : ∀ b k, s.e (ix2 b k) = (openErr (X b) (Z b k) B (L.map fun A => A b) : EReal)) (hu : ∀ b k, s.used (ix2 b k) = 1#1 ↔ U b k)
    (b : Fin 16) (g : Fin 25)
    (h1 : ∀ j, outOf (U b g) (openErr (X b) (Z b g) B (L.map fun A => A b)) ≤ outOf (U b j) (openErr (X b) (Z b j) B (L.map fun A => A b)))
    (h2 : ∀ j, outOf (U b j) (openErr (X b) (Z b j) B (L.map fun A => A b)) = outOf (U b g) (openErr (X b) (Z b g) B (L.map fun A => A b)) → g.val ≤ j.val) :
    Kern.best (Kern.reach s.used s.e) (ix2 b 0) = BitVec.ofNat 32 g.val := by
  have hr := fun j : Fin 25 => kern_reach s.used s.e b j _ _ (hu b j) (he b j)
  refine Kern.best_eq _ b g (fun j => ?_) fun j hj => ?_
  · rw [hr, hr]; exact EReal.coe_le_coe_iff.mpr (h1 j)
  · rw [hr, hr] at hj; exact h2 j (EReal.coe_injective hj)

/-- The reference's choice. -/
theorem ref_choice (L : List (Fin 16 → Grid)) (U : Fin 16 → Fin 25 → Prop) (r : Ref.Chosen Ideal)
    (hu : ∀ b k, ∃ n : ℝ, 0 ≤ n ∧ r.used (ix2 b k) = (n : EReal) ∧ (0 < n ↔ U b k))
    (hl : List.Forall₂ (fun (v : FVec Ideal Cert.ReferenceIdeal.S16x64x64 .f32) (A : Fin 16 → Grid) => ∀ b h w, v (ix3 b h w) = (A b h w : EReal)) r.list L)
    (b : Fin 16) (g : Fin 25)
    (h1 : ∀ j, outOf (U b g) (fullErr (X b) (Z b g) B (L.map fun A => A b)) ≤ outOf (U b j) (fullErr (X b) (Z b j) B (L.map fun A => A b)))
    (h2 : ∀ j, outOf (U b j) (fullErr (X b) (Z b j) B (L.map fun A => A b)) = outOf (U b g) (fullErr (X b) (Z b g) B (L.map fun A => A b)) → g.val ≤ j.val) :
    r.sel x bg T (ix1 b) = BitVec.ofNat 32 g.val := by
  have hr : ∀ j : Fin 25, Ref.reach r.used (Ref.mean (Ref.diff x (Ref.shown bg T r.list))) (ix2 b j)
      = (outOf (U b j) (fullErr (X b) (Z b j) B (L.map fun A => A b)) : EReal) := fun j => by
    obtain ⟨n, _, hn, hu⟩ := hu b j
    exact ref_reach _ _ b j _ _ n hn hu (err_real hx hb hT _ _ hl b j)
  unfold Ref.Chosen.sel
  generalize Ref.reach r.used (Ref.mean (Ref.diff x (Ref.shown bg T r.list))) = em at hr ⊢
  refine ref_best em b g (fun j => ?_) fun j hj => ?_
  · rw [hr, hr]; exact EReal.coe_le_coe_iff.mpr (h1 j)
  · rw [hr, hr] at hj; exact h2 j (EReal.coe_injective hj)

omit hx hb hT in
theorem atPixel_append (L : List (Fin 16 → Grid)) (A : Fin 16 → Grid) (b : Fin 16) (h w : Fin 64) :
    atPixel (L ++ [A]) b h w = atPixel L b h w ++ [A b h w] := by
  unfold atPixel; rw [List.map_append, List.map_append]; rfl

omit hx hb hT in
theorem fresh_iff (c : BitVec 1) (l : List ℝ) (a : ℝ) [Decidable (Ideal.ofBits FTy.f32 1036831949#32 < (a : EReal))] (hc : c = 1#1 ↔ Covered l) :
    IntOp.andi (BitVec.ofBool (decide (Ideal.ofBits FTy.f32 1036831949#32 < (a : EReal)))) (IntOp.xori c 1#1) = 1#1 ↔ tau < a ∧ ¬ Covered l := by
  rw [andi_one, xori_one, hc, ofBool_one, above]

/-- The errors after a round. -/
theorem settle_real (L : List (Fin 16 → Grid)) (A : Fin 16 → Grid) (ch : FVec Ideal Cert.KernelIdeal.S16x64x64 .f32)
    (hch : ∀ b h w, ch (ix3 b h w) = (A b h w : EReal)) (cov : IVec Cert.KernelIdeal.S16x64x64 1) (hc : ∀ b h w, cov (ix3 b h w) = 1#1 ↔ Covered (atPixel L b h w))
    (e : FVec Ideal Cert.KernelIdeal.S16x25 .f32) (he : ∀ b k, e (ix2 b k) = (openErr (X b) (Z b k) B (L.map fun A => A b) : EReal)) (b : Fin 16) (k : Fin 25) :
    Kern.settle (Kern.diffs x bg T) ch cov e (ix2 b k) = (openErr (X b) (Z b k) B ((L ++ [A]).map fun A => A b) : EReal) := by
  classical
  have hd := diffs_real hx hb hT
  generalize Kern.diffs x bg T = q at hd ⊢
  pointwise [Kern.settle, Kern.meanOver, Kern.fresh, Kern.covers]
  rw [he, List.map_append, List.map_cons, List.map_nil, openErr_append, EReal.coe_sub, ← avg_coe]
  congr 2
  refine Finset.sum_congr rfl fun h _ => Finset.sum_congr rfl fun w _ => ?_
  rw [hd, bit_real, EReal.coe_mul]
  congr 2
  rw [hch]
  exact if_congr (fresh_iff _ _ _ (hc b h w)) rfl rfl

omit hx hb hT in
/-- The values shown after a round. -/
theorem show_real (L : List (Fin 16 → Grid)) (A : Fin 16 → Grid) (ch : FVec Ideal Cert.KernelIdeal.S16x64x64 .f32)
    (hch : ∀ b h w, ch (ix3 b h w) = (A b h w : EReal)) (cov : IVec Cert.KernelIdeal.S16x64x64 1) (hc : ∀ b h w, cov (ix3 b h w) = 1#1 ↔ Covered (atPixel L b h w))
    (vals : FVec Ideal Cert.KernelIdeal.S16x64x64 .f32) (hv : ∀ b h w, vals (ix3 b h w) = (shownAt (atPixel L b h w) 0 : EReal)) (b : Fin 16) (h w : Fin 64) :
    Kern.showAlso ch cov vals (ix3 b h w) = (shownAt (atPixel (L ++ [A]) b h w) 0 : EReal) := by
  classical
  pointwise [Kern.showAlso, Kern.fresh, Kern.covers]
  rw [select_one, hch, hv, atPixel_append, shownAt_append, if_congr (fresh_iff _ _ _ (hc b h w)) rfl rfl]
  by_cases hc : Covered (atPixel L b h w)
  · rw [if_neg fun h => h.2 hc, shownAt_covered _ hc 0]
  · by_cases ht : tau < A b h w
    · rw [if_pos ⟨ht, hc⟩, if_pos ht, shownAt_uncovered _ hc]
    · rw [if_neg fun h => ht h.1, if_neg ht]

omit hx hb hT in
/-- The pixels covered after a round. -/
theorem cover_real (L : List (Fin 16 → Grid)) (A : Fin 16 → Grid) (ch : FVec Ideal Cert.KernelIdeal.S16x64x64 .f32)
    (hch : ∀ b h w, ch (ix3 b h w) = (A b h w : EReal)) (cov : IVec Cert.KernelIdeal.S16x64x64 1) (hc : ∀ b h w, cov (ix3 b h w) = 1#1 ↔ Covered (atPixel L b h w))
    (b : Fin 16) (h w : Fin 64) : Kern.coverAlso ch cov (ix3 b h w) = 1#1 ↔ Covered (atPixel (L ++ [A]) b h w) := by
  pointwise [Kern.coverAlso, Kern.covers]
  rw [ori_one, hc, atPixel_append, covered_append, hch, ofBool_one, above]

omit hx hb hT in
/-- The kernel's used candidates after a round. -/
theorem kern_used (used : IVec Cert.KernelIdeal.S16x25 1) (U : Fin 16 → Fin 25 → Prop) (hu : ∀ b k, used (ix2 b k) = 1#1 ↔ U b k)
    (sel : IVec Cert.KernelIdeal.S16x1 32) (g : Fin 16 → Fin 25) (hs : ∀ b, sel (ix2 b 0) = BitVec.ofNat 32 (g b).val) (b : Fin 16) (k : Fin 25) :
    Kern.useAlso used sel (ix2 b k) = 1#1 ↔ U b k ∨ (k = g b ∧ ¬ g b = 0) := by
  pointwise [Kern.useAlso, Kern.cands]
  rw [ori_one, andi_one, hs, cmp_eq_one, cmp_sgt_one, hu]

omit hx hb hT in
/-- The reference's used candidates after a round. -/
theorem ref_used (used : FVec Ideal Cert.ReferenceIdeal.S16x25 .f32) (U : Fin 16 → Fin 25 → Prop)
    (hu : ∀ b k, ∃ n : ℝ, 0 ≤ n ∧ used (ix2 b k) = (n : EReal) ∧ (0 < n ↔ U b k))
    (sel : IVec Cert.ReferenceIdeal.S16 32) (g : Fin 16 → Fin 25) (hs : ∀ b, sel (ix1 b) = BitVec.ofNat 32 (g b).val) (b : Fin 16) (k : Fin 25) :
    ∃ n : ℝ, 0 ≤ n ∧ Ref.useAlso used sel (ix2 b k) = (n : EReal) ∧ (0 < n ↔ U b k ∨ (k = g b ∧ ¬ g b = 0)) := by
  classical
  obtain ⟨n, h0, hn, hu⟩ := hu b k
  refine ⟨n + if k = g b ∧ ¬ g b = 0 then 1 else 0, ?_, ?_, ?_⟩
  · split <;> linarith
  · pointwise [Ref.useAlso]
    rw [hs, hn, select_one, EReal.coe_add]
    congr 1
    have hiff : IntOp.andi (IntOp.cmpi CmpIPredicate.eq (BitVec.ofNat 32 k.val) (BitVec.ofNat 32 (g b).val))
        (IntOp.cmpi CmpIPredicate.ne (BitVec.ofNat 32 (g b).val) 0#32) = 1#1 ↔ k = g b ∧ ¬ g b = 0 := by
      rw [andi_one, cmp_eq_one, cmp_ne_one]
    rw [if_congr hiff rfl rfl]
    split <;> rfl
  · rw [← hu]
    split
    · rename_i hc
      exact ⟨fun _ => .inr hc, fun _ => by linarith⟩
    · rename_i hc
      rw [add_zero]
      exact ⟨.inl, fun h => h.resolve_right hc⟩

omit hx hb hT in
/-- One candidate is the first of least error in both senses. -/
theorem first_both (X : Grid) (Z : Fin 25 → Grid) (B : Grid) (L : List Grid) (bX : ∀ h w, Bd (X h w)) (bZ : ∀ k h w, Bd (Z k h w)) (bB : ∀ h w, Bd (B h w))
    (bL : ∀ A ∈ L, ∀ h w, Bd (A h w)) (U : Fin 25 → Prop) (h0 : ¬ U 0) :
    ∃ g, ((∀ j, outOf (U g) (openErr X (Z g) B L) ≤ outOf (U j) (openErr X (Z j) B L))
        ∧ ∀ j, outOf (U j) (openErr X (Z j) B L) = outOf (U g) (openErr X (Z g) B L) → g.val ≤ j.val)
      ∧ (∀ j, outOf (U g) (fullErr X (Z g) B L) ≤ outOf (U j) (fullErr X (Z j) B L))
        ∧ ∀ j, outOf (U j) (fullErr X (Z j) B L) = outOf (U g) (fullErr X (Z g) B L) → g.val ≤ j.val := by
  have he : ∀ k, openErr X (Z k) B L ≤ 67108864 := fun k => openErr_le X (Z k) B L bX (bZ k) bB
  have hf : ∀ k, fullErr X (Z k) B L ≤ 67108864 := fun k => fullErr_le X (Z k) B L bX (bZ k) bB bL
  have hef : ∀ k, fullErr X (Z k) B L = openErr X (Z k) B L + shutErr X L := fun k => fullErr_eq X (Z k) B L
  generalize shutErr X L = K at hef
  generalize hO : (fun k => openErr X (Z k) B L) = o
  generalize hF : (fun k => fullErr X (Z k) B L) = f
  have hO' : ∀ k, openErr X (Z k) B L = o k := fun k => congrFun hO k
  have hF' : ∀ k, fullErr X (Z k) B L = f k := fun k => congrFun hF k
  simp only [hO', hF'] at he hf hef ⊢
  obtain ⟨g, h1, h2⟩ := exists_first_min (fun k : Fin 25 => ((outOf (U k) (o k) : ℝ) : EReal)) fun k => k.val
  have k1 : ∀ j, outOf (U g) (o g) ≤ outOf (U j) (o j) := fun j => by
    have := h1 j
    beta_reduce at this
    exact EReal.coe_le_coe_iff.mp this
  have k2 : ∀ j, outOf (U j) (o j) = outOf (U g) (o g) → g.val ≤ j.val := fun j hj => by
    have := h2 j
    beta_reduce at this
    exact this (by rw [hj])
  exact ⟨g, ⟨k1, k2⟩, same_first U h0 o f K hef he hf g k1 k2⟩

include bX bB bZ

/-- The candidates of one round, for every image. -/
theorem round_choice (L : List (Fin 16 → Grid)) (U : Fin 16 → Fin 25 → Prop) (s : Kern.RoundState Ideal) (r : Ref.Chosen Ideal)
    (ha : Agrees X B Z L U s r) :
    ∃ g : Fin 16 → Fin 25, (∀ b, Kern.best (Kern.reach s.used s.e) (ix2 b 0) = BitVec.ofNat 32 (g b).val) ∧ ∀ b, r.sel x bg T (ix1 b) = BitVec.ofNat 32 (g b).val := by
  choose g hk hr using fun b : Fin 16 => first_both (X b) (Z b) B (L.map fun A => A b) (bX b) (bZ b) bB (fun A hA => by
    obtain ⟨A', hA', e⟩ := List.mem_map.mp hA
    rw [← e]
    exact ha.bd A' hA' b) (U b) (ha.empty b)
  exact ⟨g, fun b => kern_choice L U s ha.e ha.used b (g b) (hk b).1 (hk b).2,
    fun b => ref_choice hx hb hT L U r ha.used' ha.list b (g b) (hr b).1 (hr b).2⟩

/-- One round keeps the two in step. -/
theorem step_agrees (L : List (Fin 16 → Grid)) (U : Fin 16 → Fin 25 → Prop) (s : Kern.RoundState Ideal) (r : Ref.Chosen Ideal)
    (ha : Agrees X B Z L U s r) :
    ∃ L' U', Agrees X B Z L' U' (s.step T (Kern.diffs x bg T)) (r.step x bg T) := by
  obtain ⟨g, hk, hr⟩ := round_choice hx hb hT bX bB bZ L U s r ha
  have hch : ∀ b h w, Kern.chosen T (Kern.best (Kern.reach s.used s.e)) (ix3 b h w) = (Z b (g b) h w : EReal) := fun b h w => by
    rw [kern_chosen T _ b h w (g b) (hk b), hT]
  have hch' : ∀ b h w, Ref.chosen T (r.sel x bg T) (ix3 b h w) = (Z b (g b) h w : EReal) := fun b h w => by
    rw [ref_chosen T _ b h w (g b) (hr b), hT]
  have f1 := settle_real hx hb hT L (fun b => Z b (g b)) _ hch s.cov ha.cov s.e ha.e
  have f2 := kern_used s.used U ha.used _ g hk
  have f3 := ref_used r.used U ha.used' _ g hr
  have f4 := cover_real L (fun b => Z b (g b)) _ hch s.cov ha.cov
  have f5 := show_real L (fun b => Z b (g b)) _ hch s.cov ha.cov s.vals ha.vals
  have f6 : List.Forall₂ (fun (v : FVec Ideal Cert.ReferenceIdeal.S16x64x64 .f32) (A : Fin 16 → Grid) => ∀ b h w, v (ix3 b h w) = (A b h w : EReal))
      (r.list ++ [Ref.chosen T (r.sel x bg T)]) (L ++ [fun b => Z b (g b)]) := List.rel_append ha.list (.cons hch' .nil)
  unfold Kern.RoundState.step Kern.RoundState.next Ref.Chosen.step
  refine ⟨L ++ [fun b => Z b (g b)], fun b k => U b k ∨ (k = g b ∧ ¬ g b = 0), ⟨f1, f2, f3, ?_, f4, f5, f6, ?_⟩⟩
  · rintro b (h | ⟨h, h'⟩)
    · exact ha.empty b h
    · exact h' h.symm
  · intro A hA b h w
    rcases List.mem_append.mp hA with hA | hA
    · exact ha.bd A hA b h w
    · rw [List.mem_singleton.mp hA]; exact bZ b _ h w

/-- Both programs' rounds give the same result. -/
theorem greedy_eq (b : Fin 16) (h w : Fin 64) : Kern.greedyOut T x bg (ix3 b h w) = Ref.greedyOut T x bg (ix3 b h w) := by
  obtain ⟨L1, U1, a1⟩ := step_agrees hx hb hT bX bB bZ _ _ _ _ (start_agrees hx hb hT)
  obtain ⟨L2, U2, a2⟩ := step_agrees hx hb hT bX bB bZ _ _ _ _ a1
  obtain ⟨L3, U3, a3⟩ := step_agrees hx hb hT bX bB bZ _ _ _ _ a2
  obtain ⟨L4, U4, a4⟩ := step_agrees hx hb hT bX bB bZ _ _ _ _ a3
  unfold Kern.greedyOut Ref.greedyOut
  rw [overs_real hb _ _ a4.list b h w]
  pointwise [Kern.compose]
  rw [select_one, a4.vals, hb]
  by_cases hc : Covered (atPixel L4 b h w)
  · rw [if_pos ((a4.cov b h w).mpr hc), shownAt_covered _ hc 0]
  · rw [if_neg fun hh => hc ((a4.cov b h w).mp hh), shownAt_uncovered _ hc]

end Rounds

end Cert.Proof

end
-- ==== Proof.Equal.lean ====
/-
  On arguments whose entries are real numbers of size at most 4096, the two programs' results are the same array.
-/
module

public import proofs.«01_k».proof.Proof.Tables
public import proofs.«01_k».proof.Proof.Heights
public import proofs.«01_k».proof.Proof.Spectrum
public import proofs.«01_k».proof.Proof.Rounds

@[expose] public section

set_option maxRecDepth 16384

noncomputable section

namespace Cert.Proof

open Idealize.ShloMosaic

/-- The correlations are one array: every entry is the same phase. -/
theorem corr_eq (x : FVec Ideal Cert.KernelIdeal.S16x64x64 .f32) (X : Fin 16 → Grid) (hx : ∀ b h w, x (ix3 b h w) = (X b h w : EReal))
    (p : FVec Ideal Cert.KernelIdeal.S6x64x64 .f32) (P : Fin 6 → Grid) (hp : ∀ b h w, p (ix3 b h w) = (P b h w : EReal)) :
    Kern.corr x p Kern.cosT Kern.sinT = Ref.corr x p Ref.cosT Ref.sinT := by
  obtain ⟨C, hC, _⟩ := cos_real
  obtain ⟨S, hS, _⟩ := sin_real
  funext i
  rw [eq_ix3 i]
  exact (kern_corr hC hS x X hx p P hp _ _ _).trans (ref_corr (cos_eq ▸ hC) (sin_eq ▸ hS) x X hx p P hp _ _ _).symm

/-- No correlation is as low as a struck position. -/
theorem corr_above (x : FVec Ideal Cert.KernelIdeal.S16x64x64 .f32) (X : Fin 16 → Grid) (hx : ∀ b h w, x (ix3 b h w) = (X b h w : EReal))
    (p : FVec Ideal Cert.KernelIdeal.S6x64x64 .f32) (P : Fin 6 → Grid) (hp : ∀ b h w, p (ix3 b h w) = (P b h w : EReal)) (n : Fin 96) (j : Fin 4096) :
    low < flat (Kern.corr x p Kern.cosT Kern.sinT) n j := by
  obtain ⟨C, hC, bC⟩ := cos_real
  obtain ⟨S, hS, bS⟩ := sin_real
  obtain ⟨r, hr, hr'⟩ := word_low
  unfold flat
  rw [kern_corr hC hS x X hx p P hp]
  show Ideal.ofBits .f32 0xFF61B1E6#32 < _
  rw [hr, EReal.coe_lt_coe_iff]
  have := (abs_le.mp (abs_phase C S (X ⟨n.val / 6, by omega⟩) (P ⟨n.val % 6, by omega⟩) bC bS ⟨j.val / 64, by omega⟩ ⟨j.val % 64, by omega⟩)).1
  linarith

/-- Where a pair's four highest correlations are. -/
def places (v : FVec Ideal Cert.KernelIdeal.S96x64x64 .f32) (b : Fin 16) (q : Fin 6) (t : Fin 4) : Fin 4096 :=
  ranked v ⟨b.val * 6 + q.val, by omega⟩ ⟨t.val, by omega⟩

/-- The templates are one array. -/
theorem templates_eq (v : FVec Ideal Cert.KernelIdeal.S96x64x64 .f32) (hlow : ∀ n j, low < flat v n j) (p : FVec Ideal Cert.KernelIdeal.S6x64x64 .f32) :
    Kern.temps (Kern.peaks v) p = Ref.temps p (Ref.peaks v) := by
  funext i
  rw [eq_ix4 i]
  exact temps_eq p _ _ (places v) (fun b q t => kern_peaks v _ (hlow _) t) (fun b q t => ref_peaks v b q t) _ _ _ _

/-- Every template's entries are real numbers of the prototypes' size. -/
theorem templates_real (v : FVec Ideal Cert.KernelIdeal.S96x64x64 .f32) (p : FVec Ideal Cert.KernelIdeal.S6x64x64 .f32) (P : Fin 6 → Grid)
    (hp : ∀ b h w, p (ix3 b h w) = (P b h w : EReal)) (bP : ∀ b h w, Bd (P b h w)) :
    ∃ Z : Fin 16 → Fin 25 → Grid, ∀ b k h w, Ref.temps p (Ref.peaks v) (ix4 b k h w) = (Z b k h w : EReal) ∧ Bd (Z b k h w) := by
  have : ∀ (b : Fin 16) (k : Fin 25) (h w : Fin 64), ∃ z : ℝ, Ref.temps p (Ref.peaks v) (ix4 b k h w) = (z : EReal) ∧ Bd z := by
    intro b k h w
    pointwise [Ref.temps]
    by_cases hk : k.val < 1
    · rw [dif_pos hk]
      refine ⟨0, ?_, by unfold Bd; norm_num⟩
      simp
    · rw [dif_neg hk, ref_temps p _ (places v) fun b q t => ref_peaks v b q t, hp]
      exact ⟨_, rfl, bP _ _ _⟩
  choose Z hZ using this
  exact ⟨Z, hZ⟩

/-- The selections are one array. -/
theorem select_eq (x : FVec Ideal Cert.KernelIdeal.S16x64x64 .f32) (X : Fin 16 → Grid) (hx : ∀ b h w, x (ix3 b h w) = (X b h w : EReal)) (bX : ∀ b h w, Bd (X b h w))
    (p : FVec Ideal Cert.KernelIdeal.S6x64x64 .f32) (P : Fin 6 → Grid) (hp : ∀ b h w, p (ix3 b h w) = (P b h w : EReal)) (bP : ∀ b h w, Bd (P b h w))
    (bg : FVec Ideal Cert.KernelIdeal.S64x64 .f32) (B : Grid) (hb : ∀ h w, bg (ix2 h w) = (B h w : EReal)) (bB : ∀ h w, Bd (B h w)) :
    Kern.selectOut (Kern.peaks (Kern.corr x p Kern.cosT Kern.sinT)) x p bg
      = Ref.greedyOut (Ref.temps p (Ref.peaks (Ref.corr x p Ref.cosT Ref.sinT))) x bg := by
  have hlow := corr_above x X hx p P hp
  rw [← corr_eq x X hx p P hp]
  generalize Kern.corr x p Kern.cosT Kern.sinT = v at hlow ⊢
  unfold Kern.selectOut
  rw [templates_eq v hlow p]
  obtain ⟨Z, hZ⟩ := templates_real v p P hp bP
  generalize Ref.temps p (Ref.peaks v) = T at hZ ⊢
  funext i
  rw [eq_ix3 i]
  exact greedy_eq hx hb (fun b k h w => (hZ b k h w).1) bX bB (fun b k h w => (hZ b k h w).2) _ _ _

/-- The results are one array. -/
theorem out_eq (x : FVec Ideal Cert.KernelIdeal.S16x1x64x64 .f32) (hx : ∀ i, ∃ r : ℝ, x i = (r : EReal) ∧ Bd r)
    (p : FVec Ideal Cert.KernelIdeal.S6x1x64x64 .f32) (hp : ∀ i, ∃ r : ℝ, p i = (r : EReal) ∧ Bd r)
    (bg : FVec Ideal Cert.KernelIdeal.S1x1x64x64 .f32) (hb : ∀ i, ∃ r : ℝ, bg i = (r : EReal) ∧ Bd r) :
    Kern.kernelOut x p bg = Ref.refOut x p bg := by
  choose X hX using hx
  choose P hP using hp
  choose B hB using hb
  have e := select_eq (shapeCast Cert.KernelIdeal.S16x64x64 x Cert.KernelIdeal.Gen.shapeCasts_S16x1x64x64_S16x64x64) (fun b h w => X (ix4 b 0 h w))
    (fun b h w => by pointwise []; exact (hX _).1) (fun b h w => (hX _).2)
    (shapeCast Cert.KernelIdeal.S6x64x64 p Cert.KernelIdeal.Gen.shapeCasts_S6x1x64x64_S6x64x64) (fun b h w => P (ix4 b 0 h w))
    (fun b h w => by pointwise []; exact (hP _).1) (fun b h w => (hP _).2)
    (shapeCast Cert.KernelIdeal.S64x64 bg Cert.KernelIdeal.Gen.shapeCasts_S1x1x64x64_S64x64) (fun h w => B (ix4 0 0 h w))
    (fun h w => by pointwise []; exact (hB _).1) (fun h w => (hB _).2)
  unfold Kern.kernelOut Ref.refOut
  exact congrArg (fun y => shapeCast Cert.KernelIdeal.S16x1x64x64 y Cert.KernelIdeal.Gen.shapeCasts_S16x64x64_S16x1x64x64) e

end Cert.Proof

end
-- ==== Proof.Correct.lean ====
/-
  The precondition says that every entry of the arguments is a real number of size at most 4096; under it the two
  programs end with equal results.
-/
module

public import proofs.«01_k».proof.Proof.Frames
public import proofs.«01_k».proof.Proof.Equal
public import proofs.«01_k».proof.Proof.RefText
public import Idealize.ShloMosaic.Lib.ReduceAll

@[expose] public section

set_option maxRecDepth 16384

noncomputable section

namespace Cert.Proof

open Idealize.ShloMosaic Idealize.ShloMosaic.TcCoe Idealize.SL.Sem

instance : Cert.Pre_bounded.Facts where
  bcast_S_S16x1x64x64 := by decide
  reducesTo_S16x1x64x64_S_d0_1_2_3 := by decide
  h_S_ := by decide
  bcast_S_S6x1x64x64 := by decide
  reducesTo_S6x1x64x64_S_d0_1_2_3 := by decide
  bcast_S_S1x1x64x64 := by decide
  reducesTo_S1x1x64x64_S_d0_1_2_3 := by decide

/-! ## The precondition -/

instance : Subsingleton Cert.Pre_bounded.S_.Idx := ⟨fun a _ => funext fun k => k.elim0⟩

/-- A value of size at most 4096 is a real number of that size. -/
theorem real_of_small (a : Ideal .f32) (h : FloatOps.cmpf .ole (FloatOps.hostAbsf a) (Ideal.ofBits .f32 0x45800000#32) = 1#1) :
    ∃ r : ℝ, a = (r : EReal) ∧ Bd r := by
  rw [word_4096] at h
  have h' : max (a : EReal) (-a) ≤ ((4096 : ℝ) : EReal) := by
    by_contra hn
    have : FloatOps.cmpf .ole (FloatOps.hostAbsf a) ((4096 : ℝ) : EReal) = BitVec.ofBool (decide (max (a : EReal) (-a) ≤ ((4096 : ℝ) : EReal))) := rfl
    rw [this, decide_eq_false hn] at h
    exact absurd h (by decide)
  obtain ⟨h1, h2⟩ := max_le_iff.mp h'
  induction a using EReal.rec with
  | bot => simp at h2
  | top => simp at h1
  | coe r =>
    refine ⟨r, rfl, abs_le.mpr ⟨?_, EReal.coe_le_coe_iff.mp h1⟩⟩
    rw [← EReal.coe_neg] at h2
    have := EReal.coe_le_coe_iff.mp h2
    linarith

/-- Under the precondition every entry of the three arguments is a real number of size at most 4096. -/
theorem real_args (x : FVec Ideal Cert.KernelIdeal.S16x1x64x64 .f32) (p : FVec Ideal Cert.KernelIdeal.S6x1x64x64 .f32) (bg : FVec Ideal Cert.KernelIdeal.S1x1x64x64 .f32)
    (h : Cert.Pre_bounded.fn (F := Ideal) x p bg = fun _ => 1#1) :
    (∀ i, ∃ r : ℝ, x i = (r : EReal) ∧ Bd r) ∧ (∀ i, ∃ r : ℝ, p i = (r : EReal) ∧ Bd r) ∧ ∀ i, ∃ r : ℝ, bg i = (r : EReal) ∧ Bd r := by
  have h0 := congrFun h ix0
  obtain ⟨h1, h2⟩ := (andi_one _ _).mp h0
  obtain ⟨h3, h4⟩ := (andi_one _ _).mp h1
  exact ⟨fun i => real_of_small _ (Host.reduce_andi_all _ _ _ _ _ h3 i), fun i => real_of_small _ (Host.reduce_andi_all _ _ _ _ _ h4 i),
    fun i => real_of_small _ (Host.reduce_andi_all _ _ _ _ _ h2 i)⟩

/-! ## The runs -/

theorem frame_pi_bounded : Cert.quiescent_KernelIdeal_pre_bounded := fun m ρ _ => frame_pi m ρ trivial

theorem frame_ri_bounded : Cert.quiescent_ReferenceIdeal_pre_bounded := fun m ρ _ => frame_ri m ρ trivial

/-- The reference's run ends with its result as the functions of its three arguments. -/
theorem run_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v430)
          = Ref.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c => ⟨(h c).1.trans (Ref.printed_eq _), (h c).2⟩)
    (Cert.ReferenceIdeal.Value.run (F := Ideal) m ρ)

theorem equal_results : Cert.algebraic_KernelIdeal_ReferenceIdeal_pre_bounded := by
  intro m ρ m' ρ' hpre hargs
  refine ⟨fun c => Kern.W4 m c Cert.KernelIdeal.main_v5, ?_, ?_⟩
  · exact (θ_run Cert.KernelIdeal.defs _ _).mono (fun _ h => h.1) (Kern.run_whole m Kern.inRange ρ)
  · refine (θ_run Cert.ReferenceIdeal.defs _ _).mono (fun r h c => ⟨(h c).1.trans ?_, (h c).2⟩) (run_ref m' ρ')
    obtain ⟨ha, hb, hc⟩ := real_args _ _ _ (hpre c)
    refine Eq.trans ?_ ((Kern.W4_out m c).trans (out_eq _ ha _ hb _ hc)).symm
    rw [(hargs c).1, (hargs c).2.1, (hargs c).2.2]

end Cert.Proof

end
-- ==== Proof.lean ====
module

public import proofs.«01_k».proof.Defs
public import proofs.«01_k».proof.Proof.Correct

@[expose] public section

noncomputable section

namespace Cert.Proof

open Idealize.ShloMosaic Idealize.SL.Sem

theorem claim : Cert.Claim :=
  ⟨inferInstance, inferInstance, inferInstance, frame_pi, frame_pi_bounded, frame_ri, frame_ri_bounded, equal_results⟩

end Cert.Proof

end
